-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v35) = v1 c
          ∧ r.2.mem ((c.tc : Thread Cert.Reference15Ideal.nD Cert.Reference15Ideal.τ).loc Cert.Reference15Ideal.main_v36) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)) (v2 : (c : Dev Cert.Kernel17Ideal.nD) → Buf (Elt Ideal) ((c.tc : Thread Cert.Kernel17Ideal.nD Cert.Kernel17Ideal.τ).loc Cert.Kernel17Ideal.main_v2_2)) (v3 : (c : Dev Cert.Kernel17Ideal.nD) → Buf (Elt Ideal) ((c.tc : Thread Cert.Kernel17Ideal.nD Cert.Kernel17Ideal.τ).loc Cert.Kernel17Ideal.main_v2_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_v2_2) = v2 c
          ∧ r.2.mem ((c.tc : Thread Cert.Kernel17Ideal.nD Cert.Kernel17Ideal.τ).loc Cert.Kernel17Ideal.main_v2_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v50) = v0 c
          ∧ r.2.mem ((c.tc : Thread Cert.Reference17Ideal.nD Cert.Reference17Ideal.τ).loc Cert.Reference17Ideal.main_v71) = v1 c
          ∧ r.2.mem ((c.tc : Thread Cert.Reference17Ideal.nD Cert.Reference17Ideal.τ).loc Cert.Reference17Ideal.main_v72) = v2 c
          ∧ r.2.mem ((c.tc : Thread Cert.Reference17Ideal.nD Cert.Reference17Ideal.τ).loc Cert.Reference17Ideal.main_v73) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v30) = v0 c
          ∧ r.2.mem ((c.tc : Thread Cert.Reference18Ideal.nD Cert.Reference18Ideal.τ).loc Cert.Reference18Ideal.main_v50) = v1 c
          ∧ r.2.mem ((c.tc : Thread Cert.Reference18Ideal.nD Cert.Reference18Ideal.τ).loc Cert.Reference18Ideal.main_v51) = v2 c
          ∧ r.2.mem ((c.tc : Thread Cert.Reference18Ideal.nD Cert.Reference18Ideal.τ).loc Cert.Reference18Ideal.main_v52) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v3)) (v1 : (c : Dev Cert.Kernel30Ideal.nD) → Buf (Elt Ideal) ((c.tc : Thread Cert.Kernel30Ideal.nD Cert.Kernel30Ideal.τ).loc Cert.Kernel30Ideal.main_v5)) (v2 : (c : Dev Cert.Kernel30Ideal.nD) → Buf (Elt Ideal) ((c.tc : Thread Cert.Kernel30Ideal.nD Cert.Kernel30Ideal.τ).loc Cert.Kernel30Ideal.main_v7)) (v3 : (c : Dev Cert.Kernel30Ideal.nD) → Buf (Elt Ideal) ((c.tc : Thread Cert.Kernel30Ideal.nD Cert.Kernel30Ideal.τ).loc Cert.Kernel30Ideal.main_v9)) (v4 : (c : Dev Cert.Kernel30Ideal.nD) → Buf (Elt Ideal) ((c.tc : Thread Cert.Kernel30Ideal.nD Cert.Kernel30Ideal.τ).loc Cert.Kernel30Ideal.main_v11)) (v5 : (c : Dev Cert.Kernel30Ideal.nD) → Buf (Elt Ideal) ((c.tc : Thread Cert.Kernel30Ideal.nD Cert.Kernel30Ideal.τ).loc Cert.Kernel30Ideal.main_v13)) (v6 : (c : Dev Cert.Kernel30Ideal.nD) → Buf (Elt Ideal) ((c.tc : Thread Cert.Kernel30Ideal.nD Cert.Kernel30Ideal.τ).loc Cert.Kernel30Ideal.main_v15)) (v7 : (c : Dev Cert.Kernel30Ideal.nD) → Buf (Elt Ideal) ((c.tc : Thread Cert.Kernel30Ideal.nD Cert.Kernel30Ideal.τ).loc Cert.Kernel30Ideal.main_v17)) (v8 : (c : Dev Cert.Kernel30Ideal.nD) → Buf (Elt Ideal) ((c.tc : Thread Cert.Kernel30Ideal.nD Cert.Kernel30Ideal.τ).loc Cert.Kernel30Ideal.main_v19)) (v9 : (c : Dev Cert.Kernel30Ideal.nD) → Buf (Elt Ideal) ((c.tc : Thread Cert.Kernel30Ideal.nD Cert.Kernel30Ideal.τ).loc Cert.Kernel30Ideal.main_v21)) (v10 : (c : Dev Cert.Kernel30Ideal.nD) → Buf (Elt Ideal) ((c.tc : Thread Cert.Kernel30Ideal.nD Cert.Kernel30Ideal.τ).loc Cert.Kernel30Ideal.main_v23)) (v11 : (c : Dev Cert.Kernel30Ideal.nD) → Buf (Elt Ideal) ((c.tc : Thread Cert.Kernel30Ideal.nD Cert.Kernel30Ideal.τ).loc Cert.Kernel30Ideal.main_v25)) (v12 : (c : Dev Cert.Kernel30Ideal.nD) → Buf (Elt Ideal) ((c.tc : Thread Cert.Kernel30Ideal.nD Cert.Kernel30Ideal.τ).loc Cert.Kernel30Ideal.main_v27)) (v13 : (c : Dev Cert.Kernel30Ideal.nD) → Buf (Elt Ideal) ((c.tc : Thread Cert.Kernel30Ideal.nD Cert.Kernel30Ideal.τ).loc Cert.Kernel30Ideal.main_v29)) (v14 : (c : Dev Cert.Kernel30Ideal.nD) → Buf (Elt Ideal) ((c.tc : Thread Cert.Kernel30Ideal.nD Cert.Kernel30Ideal.τ).loc Cert.Kernel30Ideal.main_v31)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v3) = v0 c
          ∧ r.2.mem ((c.tc : Thread Cert.Kernel30Ideal.nD Cert.Kernel30Ideal.τ).loc Cert.Kernel30Ideal.main_v5) = v1 c
          ∧ r.2.mem ((c.tc : Thread Cert.Kernel30Ideal.nD Cert.Kernel30Ideal.τ).loc Cert.Kernel30Ideal.main_v7) = v2 c
          ∧ r.2.mem ((c.tc : Thread Cert.Kernel30Ideal.nD Cert.Kernel30Ideal.τ).loc Cert.Kernel30Ideal.main_v9) = v3 c
          ∧ r.2.mem ((c.tc : Thread Cert.Kernel30Ideal.nD Cert.Kernel30Ideal.τ).loc Cert.Kernel30Ideal.main_v11) = v4 c
          ∧ r.2.mem ((c.tc : Thread Cert.Kernel30Ideal.nD Cert.Kernel30Ideal.τ).loc Cert.Kernel30Ideal.main_v13) = v5 c
          ∧ r.2.mem ((c.tc : Thread Cert.Kernel30Ideal.nD Cert.Kernel30Ideal.τ).loc Cert.Kernel30Ideal.main_v15) = v6 c
          ∧ r.2.mem ((c.tc : Thread Cert.Kernel30Ideal.nD Cert.Kernel30Ideal.τ).loc Cert.Kernel30Ideal.main_v17) = v7 c
          ∧ r.2.mem ((c.tc : Thread Cert.Kernel30Ideal.nD Cert.Kernel30Ideal.τ).loc Cert.Kernel30Ideal.main_v19) = v8 c
          ∧ r.2.mem ((c.tc : Thread Cert.Kernel30Ideal.nD Cert.Kernel30Ideal.τ).loc Cert.Kernel30Ideal.main_v21) = v9 c
          ∧ r.2.mem ((c.tc : Thread Cert.Kernel30Ideal.nD Cert.Kernel30Ideal.τ).loc Cert.Kernel30Ideal.main_v23) = v10 c
          ∧ r.2.mem ((c.tc : Thread Cert.Kernel30Ideal.nD Cert.Kernel30Ideal.τ).loc Cert.Kernel30Ideal.main_v25) = v11 c
          ∧ r.2.mem ((c.tc : Thread Cert.Kernel30Ideal.nD Cert.Kernel30Ideal.τ).loc Cert.Kernel30Ideal.main_v27) = v12 c
          ∧ r.2.mem ((c.tc : Thread Cert.Kernel30Ideal.nD Cert.Kernel30Ideal.τ).loc Cert.Kernel30Ideal.main_v29) = v13 c
          ∧ r.2.mem ((c.tc : Thread Cert.Kernel30Ideal.nD Cert.Kernel30Ideal.τ).loc Cert.Kernel30Ideal.main_v31) = v14 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_v5) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v9) = v3 c
          ∧ r.2.mem ((c.tc : Thread Cert.Reference30Ideal.nD Cert.Reference30Ideal.τ).loc Cert.Reference30Ideal.main_v11) = v4 c
          ∧ r.2.mem ((c.tc : Thread Cert.Reference30Ideal.nD Cert.Reference30Ideal.τ).loc Cert.Reference30Ideal.main_v13) = v5 c
          ∧ r.2.mem ((c.tc : Thread Cert.Reference30Ideal.nD Cert.Reference30Ideal.τ).loc Cert.Reference30Ideal.main_v15) = v6 c
          ∧ r.2.mem ((c.tc : Thread Cert.Reference30Ideal.nD Cert.Reference30Ideal.τ).loc Cert.Reference30Ideal.main_v17) = v7 c
          ∧ r.2.mem ((c.tc : Thread Cert.Reference30Ideal.nD Cert.Reference30Ideal.τ).loc Cert.Reference30Ideal.main_v19) = v8 c
          ∧ r.2.mem ((c.tc : Thread Cert.Reference30Ideal.nD Cert.Reference30Ideal.τ).loc Cert.Reference30Ideal.main_v21) = v9 c
          ∧ r.2.mem ((c.tc : Thread Cert.Reference30Ideal.nD Cert.Reference30Ideal.τ).loc Cert.Reference30Ideal.main_v23) = v10 c
          ∧ r.2.mem ((c.tc : Thread Cert.Reference30Ideal.nD Cert.Reference30Ideal.τ).loc Cert.Reference30Ideal.main_v25) = v11 c
          ∧ r.2.mem ((c.tc : Thread Cert.Reference30Ideal.nD Cert.Reference30Ideal.τ).loc Cert.Reference30Ideal.main_v27) = v12 c
          ∧ r.2.mem ((c.tc : Thread Cert.Reference30Ideal.nD Cert.Reference30Ideal.τ).loc Cert.Reference30Ideal.main_v29) = v13 c
          ∧ r.2.mem ((c.tc : Thread Cert.Reference30Ideal.nD Cert.Reference30Ideal.τ).loc Cert.Reference30Ideal.main_v31) = v14 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v12) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v17) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v2_0)) (v1 : (c : Dev Cert.Kernel33Ideal.nD) → Buf (Elt Ideal) ((c.tc : Thread Cert.Kernel33Ideal.nD Cert.Kernel33Ideal.τ).loc Cert.Kernel33Ideal.main_v2_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v2_0) = v0 c
          ∧ r.2.mem ((c.tc : Thread Cert.Kernel33Ideal.nD Cert.Kernel33Ideal.τ).loc Cert.Kernel33Ideal.main_v2_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v12) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v7_0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v7_0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v32) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
-- ==== Kernel.lean ====
abbrev S8192x5632 : Shape := ⟨2, ![8192, 5632]⟩
abbrev S3x5632 : Shape := ⟨2, ![3, 5632]⟩
abbrev S1x5632 : Shape := ⟨2, ![1, 5632]⟩
abbrev S8192x11x1x512 : Shape := ⟨4, ![8192, 11, 1, 512]⟩
abbrev S8192x11x2x512 : Shape := ⟨4, ![8192, 11, 2, 512]⟩
abbrev S8192x11264 : Shape := ⟨2, ![8192, 11264]⟩
abbrev S_ : Shape := ⟨0, ![]⟩
abbrev S256x5632 : Shape := ⟨2, ![256, 5632]⟩
abbrev S7936x5632 : Shape := ⟨2, ![7936, 5632]⟩
abbrev S32x256x11x512 : Shape := ⟨4, ![32, 256, 11, 512]⟩
abbrev S32x8x11x512 : Shape := ⟨4, ![32, 8, 11, 512]⟩
abbrev S11x32x8x512 : Shape := ⟨4, ![11, 32, 8, 512]⟩
abbrev S3x11x512 : Shape := ⟨3, ![3, 11, 512]⟩
abbrev S11x3x512 : Shape := ⟨3, ![11, 3, 512]⟩
abbrev S11x1x512 : Shape := ⟨3, ![11, 1, 512]⟩
abbrev S512x1024 : Shape := ⟨2, ![512, 1024]⟩
abbrev S512x512 : Shape := ⟨2, ![512, 512]⟩
abbrev S1x2x8x512 : Shape := ⟨4, ![1, 2, 8, 512]⟩
abbrev S1x3x512 : Shape := ⟨3, ![1, 3, 512]⟩
abbrev S1x1x512 : Shape := ⟨3, ![1, 1, 512]⟩
abbrev S1x8x512 : Shape := ⟨3, ![1, 8, 512]⟩
abbrev S8x512 : Shape := ⟨2, ![8, 512]⟩
abbrev S256x1024 : Shape := ⟨2, ![256, 1024]⟩
abbrev S256x512 : Shape := ⟨2, ![256, 512]⟩
abbrev S1x1x8x512 : Shape := ⟨4, ![1, 1, 8, 512]⟩
abbrev S3x512 : Shape := ⟨2, ![3, 512]⟩
abbrev S1x512 : Shape := ⟨2, ![1, 512]⟩
abbrev S264x512 : Shape := ⟨2, ![264, 512]⟩
abbrev S248x512 : Shape := ⟨2, ![248, 512]⟩
abbrev S512 : Shape := ⟨1, ![512]⟩
abbrev S2x512 : Shape := ⟨2, ![2, 512]⟩

abbrev nBuf : Space → Nat
  | .hbm => 22
  | .vmem => 17
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S8192x5632, .f32⟩
  | .hbm, ⟨5, _⟩ => ⟨S8192x11x1x512, .f32⟩
  | .hbm, ⟨6, _⟩ => ⟨S8192x11x1x512, .f32⟩
  | .hbm, ⟨7, _⟩ => ⟨S8192x11x2x512, .f32⟩
  | .hbm, ⟨8, _⟩ => ⟨S8192x11264, .f32⟩
  | .hbm, ⟨9, _⟩ => ⟨S_, .f32⟩
  | .hbm, ⟨10, _⟩ => ⟨S256x5632, .f32⟩
  | .hbm, ⟨11, _⟩ => ⟨S7936x5632, .f32⟩
  | .hbm, ⟨12, _⟩ => ⟨S8192x5632, .f32⟩
  | .hbm, ⟨13, _⟩ => ⟨S32x256x11x512, .f32⟩
  | .hbm, ⟨14, _⟩ => ⟨S32x8x11x512, .f32⟩
  | .hbm, ⟨15, _⟩ => ⟨S11x32x8x512, .f32⟩
  | .hbm, ⟨16, _⟩ => ⟨S3x11x512, .f32⟩
  | .hbm, ⟨17, _⟩ => ⟨S11x3x512, .f32⟩
  | .hbm, ⟨18, _⟩ => ⟨S11x1x512, .f32⟩
  | .hbm, ⟨19, _⟩ => ⟨S8192x11264, .bf16⟩
  | .hbm, ⟨20, _⟩ => ⟨S11x3x512, .f32⟩
  | .hbm, ⟨21, _⟩ => ⟨S11x1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x2x8x512, .f32⟩
  | .local _ .vmem, ⟨5, _⟩ => ⟨S1x2x8x512, .f32⟩
  | .local _ .vmem, ⟨6, _⟩ => ⟨S1x3x512, .f32⟩
  | .local _ .vmem, ⟨7, _⟩ => ⟨S1x3x512, .f32⟩
  | .local _ .vmem, ⟨8, _⟩ => ⟨S1x1x512, .f32⟩
  | .local _ .vmem, ⟨9, _⟩ => ⟨S1x1x512, .f32⟩
  | .local _ .vmem, ⟨10, _⟩ => ⟨S512x1024, .bf16⟩
  | .local _ .vmem, ⟨11, _⟩ => ⟨S512x1024, .bf16⟩
  | .local _ .vmem, ⟨12, _⟩ => ⟨S1x3x512, .f32⟩
  | .local _ .vmem, ⟨13, _⟩ => ⟨S1x3x512, .f32⟩
  | .local _ .vmem, ⟨14, _⟩ => ⟨S1x1x512, .f32⟩
  | .local _ .vmem, ⟨15, _⟩ => ⟨S1x1x512, .f32⟩
  | .local _ .vmem, ⟨16, _⟩ => ⟨S1x8x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 16], ![false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c1_i32_3 : BitVec 32 := 1#32
  let c0_i32_1 : BitVec 32 := 0#32
  let c1_i32 : BitVec 32 := 1#32
  let arg11 : BitVec 32 := Scf.iv c0_i32_1 c1_i32 k0_t1
  let v4 : BitVec 32 := Scalar.subi c1_i32_3 arg11
  let c256_i32 : BitVec 32 := 256#32
  let v5 : BitVec 32 := Scalar.muli v4 c256_i32
  v5
def k0_off1 (k0_t1 : Fin k0_t1_loop.trips) : Fin 2 → Nat :=
  let c1_i32_3 : BitVec 32 := 1#32
  let c0_i32_1 : BitVec 32 := 0#32
  let c1_i32 : BitVec 32 := 1#32
  let arg11 : BitVec 32 := Scf.iv c0_i32_1 c1_i32 k0_t1
  let v4 : BitVec 32 := Scalar.subi c1_i32_3 arg11
  let c256_i32 : BitVec 32 := 256#32
  let v5 : BitVec 32 := Scalar.muli v4 c256_i32
  let v6 : BitVec 32 := v5
  let v9 : Index := Scalar.indexCast v6
  let c0_6 : Index := 0#32
  ![v9.toNat, 0]
def k0_off2 (k0_t1 : Fin k0_t1_loop.trips) : Fin 2 → Nat :=
  let c1_i32_3 : BitVec 32 := 1#32
  let c0_i32_1 : BitVec 32 := 0#32
  let c1_i32 : BitVec 32 := 1#32
  let arg11 : BitVec 32 := Scf.iv c0_i32_1 c1_i32 k0_t1
  let v4 : BitVec 32 := Scalar.subi c1_i32_3 arg11
  let c256_i32 : BitVec 32 := 256#32
  let v5 : BitVec 32 := Scalar.muli v4 c256_i32
  let v6 : BitVec 32 := v5
  let v12 : Index := Scalar.indexCast v6
  let c0_7 : Index := 0#32
  ![v12.toNat, 0]
def k0_off3 (k0_t1 : Fin k0_t1_loop.trips) : Fin 4 → Nat :=
  let c0_8 : Index := 0#32
  let c1_i32_3 : BitVec 32 := 1#32
  let c0_i32_1 : BitVec 32 := 0#32
  let c1_i32 : BitVec 32 := 1#32
  let arg11 : BitVec 32 := Scf.iv c0_i32_1 c1_i32 k0_t1
  let v4 : BitVec 32 := Scalar.subi c1_i32_3 arg11
  let v14 : Index := Scalar.indexCast v4
  let c0_9 : Index := 0#32
  let c0_10 : Index := 0#32
  ![0, v14.toNat, 0, 0]
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x11x1x512 : Shape := ⟨4, ![8192, 11, 1, 512]⟩
abbrev S8192x11x2x512 : Shape := ⟨4, ![8192, 11, 2, 512]⟩
abbrev S8192x11264 : Shape := ⟨2, ![8192, 11264]⟩
abbrev S3x11x512 : Shape := ⟨3, ![3, 11, 512]⟩
abbrev S11x3x512 : Shape := ⟨3, ![11, 3, 512]⟩
abbrev S11x1x512 : Shape := ⟨3, ![11, 1, 512]⟩

abbrev nBuf : Space → Nat
  | .hbm => 119
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8194x5632, .f32⟩
  | .hbm, ⟨8, _⟩ => ⟨S_, .f32⟩
  | .hbm, ⟨9, _⟩ => ⟨S2x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S_, .f32⟩
  | .hbm, ⟨41, _⟩ => ⟨S8192x5632, .f32⟩
  | .hbm, ⟨42, _⟩ => ⟨S8192x5632, .f32⟩
  | .hbm, ⟨43, _⟩ => ⟨S_, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S_, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S8192x5632, .f32⟩
  | .hbm, ⟨59, _⟩ => ⟨S_, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S_, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S_, .f32⟩
  | .hbm, ⟨68, _⟩ => ⟨S8192x5632, .f32⟩
  | .hbm, ⟨69, _⟩ => ⟨S8192x5632, .f32⟩
  | .hbm, ⟨70, _⟩ => ⟨S8192x5632, .f32⟩
  | .hbm, ⟨71, _⟩ => ⟨S8192x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S8192x5632, .f32⟩
  | .hbm, ⟨76, _⟩ => ⟨S8192x5632, .f32⟩
  | .hbm, ⟨77, _⟩ => ⟨S8192x5632, .f32⟩
  | .hbm, ⟨78, _⟩ => ⟨S_, .f32⟩
  | .hbm, ⟨79, _⟩ => ⟨S5632, .f32⟩
  | .hbm, ⟨80, _⟩ => ⟨S1x5632, .f32⟩
  | .hbm, ⟨81, _⟩ => ⟨S_, .f32⟩
  | .hbm, ⟨82, _⟩ => ⟨S8194x5632, .f32⟩
  | .hbm, ⟨83, _⟩ => ⟨S_, .f32⟩
  | .hbm, ⟨84, _⟩ => ⟨S3x5632, .f32⟩
  | .hbm, ⟨85, _⟩ => ⟨S8192x5632, .f32⟩
  | .hbm, ⟨86, _⟩ => ⟨S8192x5632, .f32⟩
  | .hbm, ⟨87, _⟩ => ⟨S8192x5632, .f32⟩
  | .hbm, ⟨88, _⟩ => ⟨S_, .f32⟩
  | .hbm, ⟨89, _⟩ => ⟨S5632, .f32⟩
  | .hbm, ⟨90, _⟩ => ⟨S1x5632, .f32⟩
  | .hbm, ⟨91, _⟩ => ⟨S_, .f32⟩
  | .hbm, ⟨92, _⟩ => ⟨S8194x5632, .f32⟩
  | .hbm, ⟨93, _⟩ => ⟨S8194x5632, .f32⟩
  | .hbm, ⟨94, _⟩ => ⟨S_, .f32⟩
  | .hbm, ⟨95, _⟩ => ⟨S3x5632, .f32⟩
  | .hbm, ⟨96, _⟩ => ⟨S3x5632, .f32⟩
  | .hbm, ⟨97, _⟩ => ⟨S8192x5632, .f32⟩
  | .hbm, ⟨98, _⟩ => ⟨S8192x5632, .f32⟩
  | .hbm, ⟨99, _⟩ => ⟨S8192x5632, .f32⟩
  | .hbm, ⟨100, _⟩ => ⟨S_, .f32⟩
  | .hbm, ⟨101, _⟩ => ⟨S5632, .f32⟩
  | .hbm, ⟨102, _⟩ => ⟨S1x5632, .f32⟩
  | .hbm, ⟨103, _⟩ => ⟨S_, .f32⟩
  | .hbm, ⟨104, _⟩ => ⟨S8194x5632, .f32⟩
  | .hbm, ⟨105, _⟩ => ⟨S8194x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S2x5632, .f32⟩
  | .hbm, ⟨110, _⟩ => ⟨S8192x5632, .f32⟩
  | .hbm, ⟨111, _⟩ => ⟨S8192x11x1x512, .f32⟩
  | .hbm, ⟨112, _⟩ => ⟨S8192x11x1x512, .f32⟩
  | .hbm, ⟨113, _⟩ => ⟨S8192x11x2x512, .f32⟩
  | .hbm, ⟨114, _⟩ => ⟨S8192x11264, .f32⟩
  | .hbm, ⟨115, _⟩ => ⟨S8192x11264, .bf16⟩
  | .hbm, ⟨116, _⟩ => ⟨S3x11x512, .f32⟩
  | .hbm, ⟨117, _⟩ => ⟨S11x3x512, .f32⟩
  | .hbm, ⟨118, _⟩ => ⟨S11x1x512, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_15 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_v79 : Ref sig .tc := ⟨.hbm, 105, rfl⟩
abbrev main_cst_20 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Kernel2.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S8192x2048, .bf16⟩
  | .hbm, ⟨3, _⟩ => ⟨S5632x2048, .bf16⟩
  | .hbm, ⟨4, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S8192x2048, .bf16⟩
  | .hbm, ⟨3, _⟩ => ⟨S4096x2048, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S_, .f32⟩
  | .hbm, ⟨3, _⟩ => ⟨S8192x4096, .f32⟩
  | .hbm, ⟨4, _⟩ => ⟨S8192x2048, .f32⟩
  | .hbm, ⟨5, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S8192x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S8192x2048 : Shape := ⟨2, ![8192, 2048]⟩
abbrev S11264x2048 : Shape := ⟨2, ![11264, 2048]⟩
abbrev S8192x11264 : Shape := ⟨2, ![8192, 11264]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S11264x2048, .f32⟩
  | .hbm, ⟨2, _⟩ => ⟨S8192x2048, .bf16⟩
  | .hbm, ⟨3, _⟩ => ⟨S11264x2048, .bf16⟩
  | .hbm, ⟨4, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S11264x2048 : Shape := ⟨2, ![11264, 2048]⟩
abbrev S2048x11264 : Shape := ⟨2, ![2048, 11264]⟩
abbrev S8192x11264 : Shape := ⟨2, ![8192, 11264]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S11264x2048, .f32⟩
  | .hbm, ⟨2, _⟩ => ⟨S2048x11264, .f32⟩
  | .hbm, ⟨3, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x4096, .bf16⟩
  | .hbm, ⟨3, _⟩ => ⟨S4096x2048, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8192x5632 : Shape := ⟨2, ![8192, 5632]⟩
abbrev S8192x2048 : Shape := ⟨2, ![8192, 2048]⟩
abbrev S5632x2048 : Shape := ⟨2, ![5632, 2048]⟩
abbrev S8192x512 : Shape := ⟨2, ![8192, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x11264 : Shape := ⟨2, ![8192, 11264]⟩
abbrev S8192x2048 : Shape := ⟨2, ![8192, 2048]⟩
abbrev S11264x2048 : Shape := ⟨2, ![11264, 2048]⟩
abbrev S8192x512 : Shape := ⟨2, ![8192, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x11264, .f32⟩
  | .hbm, ⟨1, _⟩ => ⟨S8192x2048, .f32⟩
  | .hbm, ⟨2, _⟩ => ⟨S8192x11264, .bf16⟩
  | .hbm, ⟨3, _⟩ => ⟨S8192x2048, .bf16⟩
  | .hbm, ⟨4, _⟩ => ⟨S11264x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![22, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S8192x11264 : Shape := ⟨2, ![8192, 11264]⟩
abbrev S8192x2048 : Shape := ⟨2, ![8192, 2048]⟩
abbrev S_ : Shape := ⟨0, ![]⟩
abbrev S11264x2048 : Shape := ⟨2, ![11264, 2048]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x2048, .f32⟩
  | .hbm, ⟨2, _⟩ => ⟨S_, .f32⟩
  | .hbm, ⟨3, _⟩ => ⟨S11264x2048, .f32⟩
  | .hbm, ⟨4, _⟩ => ⟨S2048x11264, .f32⟩
  | .hbm, ⟨5, _⟩ => ⟨S8192x11264, .f32⟩
  | .hbm, ⟨6, _⟩ => ⟨S11264x2048, .f32⟩
  | .hbm, ⟨7, _⟩ => ⟨S2048x11264, .f32⟩
  | .hbm, ⟨8, _⟩ => ⟨S11264x2048, .f32⟩
  | .hbm, ⟨9, _⟩ => ⟨S11264x2048, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S8192x512 : Shape := ⟨2, ![8192, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x4096 : Shape := ⟨2, ![8192, 4096]⟩
abbrev S8192x2048 : Shape := ⟨2, ![8192, 2048]⟩
abbrev S4096x2048 : Shape := ⟨2, ![4096, 2048]⟩
abbrev S8192x512 : Shape := ⟨2, ![8192, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .hbm, ⟨3, _⟩ => ⟨S8192x2048, .bf16⟩
  | .hbm, ⟨4, _⟩ => ⟨S4096x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S_, .f32⟩
  | .hbm, ⟨3, _⟩ => ⟨S4096x2048, .f32⟩
  | .hbm, ⟨4, _⟩ => ⟨S8192x2048, .f32⟩
  | .hbm, ⟨5, _⟩ => ⟨S2048x4096, .f32⟩
  | .hbm, ⟨6, _⟩ => ⟨S4096x2048, .f32⟩
  | .hbm, ⟨7, _⟩ => ⟨S4096x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x8192 : Shape := ⟨2, ![8192, 8192]⟩
abbrev S8192x2048 : Shape := ⟨2, ![8192, 2048]⟩
abbrev S8192x512 : Shape := ⟨2, ![8192, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x8192, .bf16⟩
  | .hbm, ⟨3, _⟩ => ⟨S8192x2048, .bf16⟩
  | .hbm, ⟨4, _⟩ => ⟨S8192x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x4096 : Shape := ⟨2, ![8192, 4096]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x4096, .bf16⟩
  | .hbm, ⟨5, _⟩ => ⟨S8192x2048, .bf16⟩
  | .hbm, ⟨6, _⟩ => ⟨S8192x2048, .bf16⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x4096, .bf16⟩
  | .local _ .vmem, ⟨9, _⟩ => ⟨S256x4096, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x4096, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .bf16⟩
  | .hbm, ⟨47, _⟩ => ⟨S8192x2048, .bf16⟩
  | .hbm, ⟨48, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel16.lean ====
abbrev S8192x2048 : Shape := ⟨2, ![8192, 2048]⟩
abbrev S1x2048 : Shape := ⟨2, ![1, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x1x2048, .f32⟩
  | .hbm, ⟨7, _⟩ => ⟨S8192x2048, .f32⟩
  | .hbm, ⟨8, _⟩ => ⟨S1x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S256x2048, .f32⟩
  | .local _ .vmem, ⟨12, _⟩ => ⟨S256x2048, .f32⟩
  | .local _ .vmem, ⟨13, _⟩ => ⟨S1x1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference16Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1x2048 : Shape := ⟨3, ![1, 1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Kernel17.lean ====
abbrev S8192x2048 : Shape := ⟨2, ![8192, 2048]⟩
abbrev S1x2048 : Shape := ⟨2, ![1, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 12
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S1x1x2048, .f32⟩
  | .hbm, ⟨7, _⟩ => ⟨S1x1x2048, .f32⟩
  | .hbm, ⟨8, _⟩ => ⟨S8192x2048, .f32⟩
  | .hbm, ⟨9, _⟩ => ⟨S8192x2048, .bf16⟩
  | .hbm, ⟨10, _⟩ => ⟨S1x1x2048, .f32⟩
  | .hbm, ⟨11, _⟩ => ⟨S1x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x1x2048, .f32⟩
  | .local _ .vmem, ⟨15, _⟩ => ⟨S1x1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== Reference17Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1x2048 : Shape := ⟨3, ![1, 1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .bf16⟩
  | .hbm, ⟨94, _⟩ => ⟨S1x1x2048, .f32⟩
  | .hbm, ⟨95, _⟩ => ⟨S1x1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel18.lean ====
abbrev S8192x2048 : Shape := ⟨2, ![8192, 2048]⟩
abbrev S1x2048 : Shape := ⟨2, ![1, 2048]⟩
abbrev S1x1x2048 : Shape := ⟨3, ![1, 1, 2048]⟩
abbrev S1x1x128 : Shape := ⟨3, ![1, 1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩
abbrev S1x128 : Shape := ⟨2, ![1, 128]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x1x2048, .f32⟩
  | .hbm, ⟨5, _⟩ => ⟨S8192x2048, .f32⟩
  | .hbm, ⟨6, _⟩ => ⟨S8192x2048, .bf16⟩
  | .hbm, ⟨7, _⟩ => ⟨S1x1x2048, .f32⟩
  | .hbm, ⟨8, _⟩ => ⟨S1x1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x1x2048, .f32⟩
  | .local _ .vmem, ⟨12, _⟩ => ⟨S1x1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference18Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x1x2048 : Shape := ⟨3, ![1, 1, 2048]⟩
abbrev S1x1x128 : Shape := ⟨3, ![1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .bf16⟩
  | .hbm, ⟨71, _⟩ => ⟨S1x1x2048, .f32⟩
  | .hbm, ⟨72, _⟩ => ⟨S1x1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel19.lean ====
abbrev S2048x2824 : Shape := ⟨2, ![2048, 2824]⟩
abbrev S64x2824 : Shape := ⟨2, ![64, 2824]⟩

abbrev nBuf : Space → Nat
  | .hbm => 7
  | .vmem => 14
  | .smem => 0
  | _ => 0

abbrev bufTy : (tb : Table) → Fin (tcTables nBuf tb) → BufTy
  | .hbm, ⟨0, _⟩ => ⟨S2048x2824, .f32⟩
  | .hbm, ⟨1, _⟩ => ⟨S2048x2824, .f32⟩
  | .hbm, ⟨2, _⟩ => ⟨S2048x2824, .f32⟩
  | .hbm, ⟨3, _⟩ => ⟨S2048x2824, .f32⟩
  | .hbm, ⟨4, _⟩ => ⟨S2048x2824, .f32⟩
  | .hbm, ⟨5, _⟩ => ⟨S2048x2824, .f32⟩
  | .hbm, ⟨6, _⟩ => ⟨S2048x2824, .f32⟩
  | .local _ .vmem, ⟨0, _⟩ => ⟨S64x2824, .f32⟩
  | .local _ .vmem, ⟨1, _⟩ => ⟨S64x2824, .f32⟩
  | .local _ .vmem, ⟨2, _⟩ => ⟨S64x2824, .f32⟩
  | .local _ .vmem, ⟨3, _⟩ => ⟨S64x2824, .f32⟩
  | .local _ .vmem, ⟨4, _⟩ => ⟨S64x2824, .f32⟩
  | .local _ .vmem, ⟨5, _⟩ => ⟨S64x2824, .f32⟩
  | .local _ .vmem, ⟨6, _⟩ => ⟨S64x2824, .f32⟩
  | .local _ .vmem, ⟨7, _⟩ => ⟨S64x2824, .f32⟩
  | .local _ .vmem, ⟨8, _⟩ => ⟨S64x2824, .f32⟩
  | .local _ .vmem, ⟨9, _⟩ => ⟨S64x2824, .f32⟩
  | .local _ .vmem, ⟨10, _⟩ => ⟨S64x2824, .f32⟩
  | .local _ .vmem, ⟨11, _⟩ => ⟨S64x2824, .f32⟩
  | .local _ .vmem, ⟨12, _⟩ => ⟨S64x2824, .f32⟩
  | .local _ .vmem, ⟨13, _⟩ => ⟨S64x2824, .f32⟩
  | _, _ => ⟨S2048x2824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2824 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2824 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2824 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2824 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2824 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2824 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2824 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S2048x2824 : Shape := ⟨2, ![2048, 2824]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2824, .f32⟩
  | .hbm, ⟨1, _⟩ => ⟨S2048x2824, .f32⟩
  | .hbm, ⟨2, _⟩ => ⟨S2048x2824, .f32⟩
  | .hbm, ⟨3, _⟩ => ⟨S2048x2824, .f32⟩
  | .hbm, ⟨4, _⟩ => ⟨S_, .f32⟩
  | .hbm, ⟨5, _⟩ => ⟨S2048x2824, .f32⟩
  | .hbm, ⟨6, _⟩ => ⟨S2048x2824, .f32⟩
  | .hbm, ⟨7, _⟩ => ⟨S_, .f32⟩
  | .hbm, ⟨8, _⟩ => ⟨S2048x2824, .f32⟩
  | .hbm, ⟨9, _⟩ => ⟨S2048x2824, .f32⟩
  | .hbm, ⟨10, _⟩ => ⟨S2048x2824, .f32⟩
  | .hbm, ⟨11, _⟩ => ⟨S_, .f32⟩
  | .hbm, ⟨12, _⟩ => ⟨S2048x2824, .f32⟩
  | .hbm, ⟨13, _⟩ => ⟨S2048x2824, .f32⟩
  | .hbm, ⟨14, _⟩ => ⟨S2048x2824, .f32⟩
  | .hbm, ⟨15, _⟩ => ⟨S_, .f32⟩
  | .hbm, ⟨16, _⟩ => ⟨S2048x2824, .f32⟩
  | .hbm, ⟨17, _⟩ => ⟨S2048x2824, .f32⟩
  | .hbm, ⟨18, _⟩ => ⟨S2048x2824, .f32⟩
  | .hbm, ⟨19, _⟩ => ⟨S_, .f32⟩
  | .hbm, ⟨20, _⟩ => ⟨S2048x2824, .f32⟩
  | .hbm, ⟨21, _⟩ => ⟨S2048x2824, .f32⟩
  | .hbm, ⟨22, _⟩ => ⟨S_, .f32⟩
  | .hbm, ⟨23, _⟩ => ⟨S2048x2824, .f32⟩
  | .hbm, ⟨24, _⟩ => ⟨S2048x2824, .f32⟩
  | .hbm, ⟨25, _⟩ => ⟨S2048x2824, .f32⟩
  | .hbm, ⟨26, _⟩ => ⟨S_, .f32⟩
  | .hbm, ⟨27, _⟩ => ⟨S2048x2824, .f32⟩
  | .hbm, ⟨28, _⟩ => ⟨S2048x2824, .f32⟩
  | .hbm, ⟨29, _⟩ => ⟨S2048x2824, .f32⟩
  | .hbm, ⟨30, _⟩ => ⟨S_, .f32⟩
  | .hbm, ⟨31, _⟩ => ⟨S2048x2824, .f32⟩
  | .hbm, ⟨32, _⟩ => ⟨S2048x2824, .f32⟩
  | .hbm, ⟨33, _⟩ => ⟨S2048x2824, .f32⟩
  | .hbm, ⟨34, _⟩ => ⟨S_, .f32⟩
  | .hbm, ⟨35, _⟩ => ⟨S2048x2824, .f32⟩
  | .hbm, ⟨36, _⟩ => ⟨S2048x2824, .f32⟩
  | _, _ => ⟨S2048x2824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2048x1408 : Shape := ⟨2, ![2048, 1408]⟩
abbrev S64x1408 : Shape := ⟨2, ![64, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S64x1408, .f32⟩
  | .local _ .vmem, ⟨1, _⟩ => ⟨S64x1408, .f32⟩
  | .local _ .vmem, ⟨2, _⟩ => ⟨S64x1408, .f32⟩
  | .local _ .vmem, ⟨3, _⟩ => ⟨S64x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S256x2048 : Shape := ⟨2, ![256, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S256x2048 : Shape := ⟨2, ![256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S512x2048 : Shape := ⟨2, ![512, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S704x2048 : Shape := ⟨2, ![704, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S704x2048 : Shape := ⟨2, ![704, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S_, .f32⟩
  | .hbm, ⟨5, _⟩ => ⟨S704x2048, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S704x2048, .f32⟩
  | .hbm, ⟨11, _⟩ => ⟨S_, .f32⟩
  | .hbm, ⟨12, _⟩ => ⟨S704x2048, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S704x2048, .f32⟩
  | .hbm, ⟨26, _⟩ => ⟨S_, .f32⟩
  | .hbm, ⟨27, _⟩ => ⟨S704x2048, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S264x128 : Shape := ⟨2, ![264, 128]⟩

abbrev nBuf : Space → Nat
  | .hbm => 7
  | .vmem => 7
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S264x128, .f32⟩
  | .hbm, ⟨4, _⟩ => ⟨S264x128, .f32⟩
  | .hbm, ⟨5, _⟩ => ⟨S264x128, .f32⟩
  | .hbm, ⟨6, _⟩ => ⟨S264x128, .f32⟩
  | .local _ .vmem, ⟨0, _⟩ => ⟨S264x128, .f32⟩
  | .local _ .vmem, ⟨1, _⟩ => ⟨S264x128, .f32⟩
  | .local _ .vmem, ⟨2, _⟩ => ⟨S264x128, .f32⟩
  | .local _ .vmem, ⟨3, _⟩ => ⟨S264x128, .f32⟩
  | .local _ .vmem, ⟨4, _⟩ => ⟨S264x128, .f32⟩
  | .local _ .vmem, ⟨5, _⟩ => ⟨S264x128, .f32⟩
  | .local _ .vmem, ⟨6, _⟩ => ⟨S264x128, .f32⟩
  | _, _ => ⟨S264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S264x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S264x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S264x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S264x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S264x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference24Ideal.lean ====
abbrev S264x128 : Shape := ⟨2, ![264, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S264x128, .f32⟩
  | .hbm, ⟨4, _⟩ => ⟨S_, .f32⟩
  | .hbm, ⟨5, _⟩ => ⟨S264x128, .f32⟩
  | .hbm, ⟨6, _⟩ => ⟨S264x128, .f32⟩
  | .hbm, ⟨7, _⟩ => ⟨S_, .f32⟩
  | .hbm, ⟨8, _⟩ => ⟨S264x128, .f32⟩
  | .hbm, ⟨9, _⟩ => ⟨S264x128, .f32⟩
  | .hbm, ⟨10, _⟩ => ⟨S264x128, .f32⟩
  | .hbm, ⟨11, _⟩ => ⟨S_, .f32⟩
  | .hbm, ⟨12, _⟩ => ⟨S264x128, .f32⟩
  | .hbm, ⟨13, _⟩ => ⟨S264x128, .f32⟩
  | .hbm, ⟨14, _⟩ => ⟨S264x128, .f32⟩
  | .hbm, ⟨15, _⟩ => ⟨S_, .f32⟩
  | .hbm, ⟨16, _⟩ => ⟨S264x128, .f32⟩
  | .hbm, ⟨17, _⟩ => ⟨S264x128, .f32⟩
  | .hbm, ⟨18, _⟩ => ⟨S264x128, .f32⟩
  | .hbm, ⟨19, _⟩ => ⟨S_, .f32⟩
  | .hbm, ⟨20, _⟩ => ⟨S264x128, .f32⟩
  | .hbm, ⟨21, _⟩ => ⟨S264x128, .f32⟩
  | .hbm, ⟨22, _⟩ => ⟨S_, .f32⟩
  | .hbm, ⟨23, _⟩ => ⟨S264x128, .f32⟩
  | .hbm, ⟨24, _⟩ => ⟨S264x128, .f32⟩
  | .hbm, ⟨25, _⟩ => ⟨S264x128, .f32⟩
  | .hbm, ⟨26, _⟩ => ⟨S_, .f32⟩
  | .hbm, ⟨27, _⟩ => ⟨S264x128, .f32⟩
  | .hbm, ⟨28, _⟩ => ⟨S264x128, .f32⟩
  | .hbm, ⟨29, _⟩ => ⟨S264x128, .f32⟩
  | .hbm, ⟨30, _⟩ => ⟨S_, .f32⟩
  | .hbm, ⟨31, _⟩ => ⟨S264x128, .f32⟩
  | .hbm, ⟨32, _⟩ => ⟨S264x128, .f32⟩
  | .hbm, ⟨33, _⟩ => ⟨S264x128, .f32⟩
  | .hbm, ⟨34, _⟩ => ⟨S_, .f32⟩
  | .hbm, ⟨35, _⟩ => ⟨S264x128, .f32⟩
  | .hbm, ⟨36, _⟩ => ⟨S264x128, .f32⟩
  | _, _ => ⟨S264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4x2824x2048 : Shape := ⟨3, ![4, 2824, 2048]⟩
abbrev S2824x2048 : Shape := ⟨2, ![2824, 2048]⟩
abbrev S4x2824x256 : Shape := ⟨3, ![4, 2824, 256]⟩
abbrev S2824x256 : Shape := ⟨2, ![2824, 256]⟩
abbrev S1x2824x256 : Shape := ⟨3, ![1, 2824, 256]⟩
abbrev S2048x2824 : Shape := ⟨2, ![2048, 2824]⟩

abbrev nBuf : Space → Nat
  | .hbm => 4
  | .vmem => 4
  | .smem => 0
  | _ => 0

abbrev bufTy : (tb : Table) → Fin (tcTables nBuf tb) → BufTy
  | .hbm, ⟨0, _⟩ => ⟨S4x2824x2048, .f32⟩
  | .hbm, ⟨1, _⟩ => ⟨S4x2824x2048, .bf16⟩
  | .hbm, ⟨2, _⟩ => ⟨S2824x2048, .f32⟩
  | .hbm, ⟨3, _⟩ => ⟨S2048x2824, .f32⟩
  | .local _ .vmem, ⟨0, _⟩ => ⟨S4x2824x256, .bf16⟩
  | .local _ .vmem, ⟨1, _⟩ => ⟨S4x2824x256, .bf16⟩
  | .local _ .vmem, ⟨2, _⟩ => ⟨S2824x256, .f32⟩
  | .local _ .vmem, ⟨3, _⟩ => ⟨S2824x256, .f32⟩
  | _, _ => ⟨S4x2824x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x2824x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2824x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference25Ideal.lean ====
abbrev S4x2824x2048 : Shape := ⟨3, ![4, 2824, 2048]⟩
abbrev S_ : Shape := ⟨0, ![]⟩
abbrev S2824x2048 : Shape := ⟨2, ![2824, 2048]⟩
abbrev S2048x2824 : Shape := ⟨2, ![2048, 2824]⟩

abbrev nBuf : Space → Nat
  | .hbm => 4
  | .vmem => 0
  | .smem => 0
  | _ => 0

abbrev bufTy : (tb : Table) → Fin (tcTables nBuf tb) → BufTy
  | .hbm, ⟨0, _⟩ => ⟨S4x2824x2048, .f32⟩
  | .hbm, ⟨1, _⟩ => ⟨S_, .f32⟩
  | .hbm, ⟨2, _⟩ => ⟨S2824x2048, .f32⟩
  | .hbm, ⟨3, _⟩ => ⟨S2048x2824, .f32⟩
  | _, _ => ⟨S4x2824x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S8x1408x2048 : Shape := ⟨3, ![8, 1408, 2048]⟩
abbrev S1408x2048 : Shape := ⟨2, ![1408, 2048]⟩
abbrev S8x1408x256 : Shape := ⟨3, ![8, 1408, 256]⟩
abbrev S1408x256 : Shape := ⟨2, ![1408, 256]⟩
abbrev S1x1408x256 : Shape := ⟨3, ![1, 1408, 256]⟩
abbrev S2048x1408 : Shape := ⟨2, ![2048, 1408]⟩

abbrev nBuf : Space → Nat
  | .hbm => 4
  | .vmem => 4
  | .smem => 0
  | _ => 0

abbrev bufTy : (tb : Table) → Fin (tcTables nBuf tb) → BufTy
  | .hbm, ⟨0, _⟩ => ⟨S8x1408x2048, .f32⟩
  | .hbm, ⟨1, _⟩ => ⟨S8x1408x2048, .bf16⟩
  | .hbm, ⟨2, _⟩ => ⟨S1408x2048, .f32⟩
  | .hbm, ⟨3, _⟩ => ⟨S2048x1408, .f32⟩
  | .local _ .vmem, ⟨0, _⟩ => ⟨S8x1408x256, .bf16⟩
  | .local _ .vmem, ⟨1, _⟩ => ⟨S8x1408x256, .bf16⟩
  | .local _ .vmem, ⟨2, _⟩ => ⟨S1408x256, .f32⟩
  | .local _ .vmem, ⟨3, _⟩ => ⟨S1408x256, .f32⟩
  | _, _ => ⟨S8x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S8x1408x2048 : Shape := ⟨3, ![8, 1408, 2048]⟩
abbrev S_ : Shape := ⟨0, ![]⟩
abbrev S1408x2048 : Shape := ⟨2, ![1408, 2048]⟩
abbrev S2048x1408 : Shape := ⟨2, ![2048, 1408]⟩

abbrev nBuf : Space → Nat
  | .hbm => 4
  | .vmem => 0
  | .smem => 0
  | _ => 0

abbrev bufTy : (tb : Table) → Fin (tcTables nBuf tb) → BufTy
  | .hbm, ⟨0, _⟩ => ⟨S8x1408x2048, .f32⟩
  | .hbm, ⟨1, _⟩ => ⟨S_, .f32⟩
  | .hbm, ⟨2, _⟩ => ⟨S1408x2048, .f32⟩
  | .hbm, ⟨3, _⟩ => ⟨S2048x1408, .f32⟩
  | _, _ => ⟨S8x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S8x256x2048 : Shape := ⟨3, ![8, 256, 2048]⟩
abbrev S256x2048 : Shape := ⟨2, ![256, 2048]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .bf16⟩
  | .hbm, ⟨2, _⟩ => ⟨S256x2048, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference27Ideal.lean ====
abbrev S8x256x2048 : Shape := ⟨3, ![8, 256, 2048]⟩
abbrev S_ : Shape := ⟨0, ![]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S_, .f32⟩
  | .hbm, ⟨2, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S8x512x2048 : Shape := ⟨3, ![8, 512, 2048]⟩
abbrev S512x2048 : Shape := ⟨2, ![512, 2048]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .bf16⟩
  | .hbm, ⟨2, _⟩ => ⟨S512x2048, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference28Ideal.lean ====
abbrev S8x512x2048 : Shape := ⟨3, ![8, 512, 2048]⟩
abbrev S_ : Shape := ⟨0, ![]⟩
abbrev S512x2048 : Shape := ⟨2, ![512, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S_, .f32⟩
  | .hbm, ⟨2, _⟩ => ⟨S512x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8x704x2048 : Shape := ⟨3, ![8, 704, 2048]⟩
abbrev S704x2048 : Shape := ⟨2, ![704, 2048]⟩
abbrev S8x704x256 : Shape := ⟨3, ![8, 704, 256]⟩
abbrev S704x256 : Shape := ⟨2, ![704, 256]⟩
abbrev S1x704x256 : Shape := ⟨3, ![1, 704, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x704x2048, .f32⟩
  | .hbm, ⟨1, _⟩ => ⟨S8x704x2048, .bf16⟩
  | .hbm, ⟨2, _⟩ => ⟨S704x2048, .f32⟩
  | .local _ .vmem, ⟨0, _⟩ => ⟨S8x704x256, .bf16⟩
  | .local _ .vmem, ⟨1, _⟩ => ⟨S8x704x256, .bf16⟩
  | .local _ .vmem, ⟨2, _⟩ => ⟨S704x256, .f32⟩
  | .local _ .vmem, ⟨3, _⟩ => ⟨S704x256, .f32⟩
  | _, _ => ⟨S8x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S8x704x2048 : Shape := ⟨3, ![8, 704, 2048]⟩
abbrev S_ : Shape := ⟨0, ![]⟩
abbrev S704x2048 : Shape := ⟨2, ![704, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x704x2048, .f32⟩
  | .hbm, ⟨1, _⟩ => ⟨S_, .f32⟩
  | .hbm, ⟨2, _⟩ => ⟨S704x2048, .f32⟩
  | _, _ => ⟨S8x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel30.lean ====
abbrev S8x552x128 : Shape := ⟨3, ![8, 552, 128]⟩
abbrev S552x128 : Shape := ⟨2, ![552, 128]⟩
abbrev S1x552x128 : Shape := ⟨3, ![1, 552, 128]⟩
abbrev S70656 : Shape := ⟨1, ![70656]⟩
abbrev S2048 : Shape := ⟨1, ![2048]⟩
abbrev S1x2048 : Shape := ⟨2, ![1, 2048]⟩
abbrev S4096 : Shape := ⟨1, ![4096]⟩
abbrev S2x2048 : Shape := ⟨2, ![2, 2048]⟩
abbrev S128 : Shape := ⟨1, ![128]⟩
abbrev S1x128 : Shape := ⟨2, ![1, 128]⟩
abbrev S24576 : Shape := ⟨1, ![24576]⟩
abbrev S4x6144 : Shape := ⟨2, ![4, 6144]⟩
abbrev S6144 : Shape := ⟨1, ![6144]⟩
abbrev S1x6144 : Shape := ⟨2, ![1, 6144]⟩
abbrev S64 : Shape := ⟨1, ![64]⟩
abbrev S1x64 : Shape := ⟨2, ![1, 64]⟩
abbrev S1x4096 : Shape := ⟨2, ![1, 4096]⟩
abbrev S16896 : Shape := ⟨1, ![16896]⟩
abbrev S3x5632 : Shape := ⟨2, ![3, 5632]⟩
abbrev S5632 : Shape := ⟨1, ![5632]⟩
abbrev S1x5632 : Shape := ⟨2, ![1, 5632]⟩
abbrev S1 : Shape := ⟨1, ![1]⟩
abbrev S1x1 : Shape := ⟨2, ![1, 1]⟩

abbrev nBuf : Space → Nat
  | .hbm => 33
  | .vmem => 2
  | .smem => 0
  | _ => 0

abbrev bufTy : (tb : Table) → Fin (tcTables nBuf tb) → BufTy
  | .hbm, ⟨0, _⟩ => ⟨S8x552x128, .f32⟩
  | .hbm, ⟨1, _⟩ => ⟨S552x128, .f32⟩
  | .hbm, ⟨2, _⟩ => ⟨S70656, .f32⟩
  | .hbm, ⟨3, _⟩ => ⟨S2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4096, .f32⟩
  | .hbm, ⟨8, _⟩ => ⟨S2x2048, .f32⟩
  | .hbm, ⟨9, _⟩ => ⟨S128, .f32⟩
  | .hbm, ⟨10, _⟩ => ⟨S1x128, .f32⟩
  | .hbm, ⟨11, _⟩ => ⟨S24576, .f32⟩
  | .hbm, ⟨12, _⟩ => ⟨S4x6144, .f32⟩
  | .hbm, ⟨13, _⟩ => ⟨S6144, .f32⟩
  | .hbm, ⟨14, _⟩ => ⟨S1x6144, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S4096, .f32⟩
  | .hbm, ⟨22, _⟩ => ⟨S1x4096, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S16896, .f32⟩
  | .hbm, ⟨28, _⟩ => ⟨S3x5632, .f32⟩
  | .hbm, ⟨29, _⟩ => ⟨S5632, .f32⟩
  | .hbm, ⟨30, _⟩ => ⟨S1x5632, .f32⟩
  | .hbm, ⟨31, _⟩ => ⟨S1, .f32⟩
  | .hbm, ⟨32, _⟩ => ⟨S1x1, .f32⟩
  | .local _ .vmem, ⟨0, _⟩ => ⟨S8x552x128, .f32⟩
  | .local _ .vmem, ⟨1, _⟩ => ⟨S552x128, .f32⟩
  | _, _ => ⟨S8x552x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x552x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S552x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference30Ideal.lean ====
abbrev S8x552x128 : Shape := ⟨3, ![8, 552, 128]⟩
abbrev S_ : Shape := ⟨0, ![]⟩
abbrev S552x128 : Shape := ⟨2, ![552, 128]⟩
abbrev S70656 : Shape := ⟨1, ![70656]⟩
abbrev S2048 : Shape := ⟨1, ![2048]⟩
abbrev S1x2048 : Shape := ⟨2, ![1, 2048]⟩
abbrev S4096 : Shape := ⟨1, ![4096]⟩
abbrev S2x2048 : Shape := ⟨2, ![2, 2048]⟩
abbrev S128 : Shape := ⟨1, ![128]⟩
abbrev S1x128 : Shape := ⟨2, ![1, 128]⟩
abbrev S24576 : Shape := ⟨1, ![24576]⟩
abbrev S4x6144 : Shape := ⟨2, ![4, 6144]⟩
abbrev S6144 : Shape := ⟨1, ![6144]⟩
abbrev S1x6144 : Shape := ⟨2, ![1, 6144]⟩
abbrev S64 : Shape := ⟨1, ![64]⟩
abbrev S1x64 : Shape := ⟨2, ![1, 64]⟩
abbrev S1x4096 : Shape := ⟨2, ![1, 4096]⟩
abbrev S16896 : Shape := ⟨1, ![16896]⟩
abbrev S3x5632 : Shape := ⟨2, ![3, 5632]⟩
abbrev S5632 : Shape := ⟨1, ![5632]⟩
abbrev S1x5632 : Shape := ⟨2, ![1, 5632]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x552x128, .f32⟩
  | .hbm, ⟨1, _⟩ => ⟨S_, .f32⟩
  | .hbm, ⟨2, _⟩ => ⟨S552x128, .f32⟩
  | .hbm, ⟨3, _⟩ => ⟨S70656, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S4096, .f32⟩
  | .hbm, ⟨9, _⟩ => ⟨S2x2048, .f32⟩
  | .hbm, ⟨10, _⟩ => ⟨S128, .f32⟩
  | .hbm, ⟨11, _⟩ => ⟨S1x128, .f32⟩
  | .hbm, ⟨12, _⟩ => ⟨S24576, .f32⟩
  | .hbm, ⟨13, _⟩ => ⟨S4x6144, .f32⟩
  | .hbm, ⟨14, _⟩ => ⟨S6144, .f32⟩
  | .hbm, ⟨15, _⟩ => ⟨S1x6144, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S4096, .f32⟩
  | .hbm, ⟨23, _⟩ => ⟨S1x4096, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S16896, .f32⟩
  | .hbm, ⟨29, _⟩ => ⟨S3x5632, .f32⟩
  | .hbm, ⟨30, _⟩ => ⟨S5632, .f32⟩
  | .hbm, ⟨31, _⟩ => ⟨S1x5632, .f32⟩
  | .hbm, ⟨32, _⟩ => ⟨S1, .f32⟩
  | .hbm, ⟨33, _⟩ => ⟨S1x1, .f32⟩
  | _, _ => ⟨S8x552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩

abbrev nD : Nat := 1
abbrev τ : Topo := Topo.v7x

variable {F : FTy → Type} [FloatOps F]
-- ==== Kernel31.lean ====
abbrev S8192x2048 : Shape := ⟨2, ![8192, 2048]⟩
abbrev S1x2048 : Shape := ⟨2, ![1, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference31Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel32.lean ====
abbrev S8192x4096 : Shape := ⟨2, ![8192, 4096]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .bf16⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference32Ideal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel33.lean ====
abbrev S8192x2048 : Shape := ⟨2, ![8192, 2048]⟩
abbrev S1x2048 : Shape := ⟨2, ![1, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x1x2048, .f32⟩
  | .hbm, ⟨5, _⟩ => ⟨S1x1x2048, .f32⟩
  | .hbm, ⟨6, _⟩ => ⟨S8192x2048, .f32⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference33Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel34.lean ====
abbrev S8192x5632 : Shape := ⟨2, ![8192, 5632]⟩
abbrev S3x5632 : Shape := ⟨2, ![3, 5632]⟩
abbrev S1x5632 : Shape := ⟨2, ![1, 5632]⟩
abbrev S8192x11x1x512 : Shape := ⟨4, ![8192, 11, 1, 512]⟩
abbrev S8192x11x2x512 : Shape := ⟨4, ![8192, 11, 2, 512]⟩
abbrev S8192x11264 : Shape := ⟨2, ![8192, 11264]⟩
abbrev S3x11x512 : Shape := ⟨3, ![3, 11, 512]⟩
abbrev S11x3x512 : Shape := ⟨3, ![11, 3, 512]⟩
abbrev S11x1x512 : Shape := ⟨3, ![11, 1, 512]⟩
abbrev S11x32x8x512 : Shape := ⟨4, ![11, 32, 8, 512]⟩
abbrev S512x1024 : Shape := ⟨2, ![512, 1024]⟩
abbrev S1x3x512 : Shape := ⟨3, ![1, 3, 512]⟩
abbrev S1x1x512 : Shape := ⟨3, ![1, 1, 512]⟩
abbrev S512x512 : Shape := ⟨2, ![512, 512]⟩
abbrev S1x2x8x512 : Shape := ⟨4, ![1, 2, 8, 512]⟩
abbrev S1x8x512 : Shape := ⟨3, ![1, 8, 512]⟩
abbrev S8x512 : Shape := ⟨2, ![8, 512]⟩
abbrev S256x1024 : Shape := ⟨2, ![256, 1024]⟩
abbrev S3x512 : Shape := ⟨2, ![3, 512]⟩
abbrev S1x512 : Shape := ⟨2, ![1, 512]⟩
abbrev S256x512 : Shape := ⟨2, ![256, 512]⟩
abbrev S264x512 : Shape := ⟨2, ![264, 512]⟩
abbrev S1x1x8x512 : Shape := ⟨4, ![1, 1, 8, 512]⟩

abbrev nBuf : Space → Nat
  | .hbm => 13
  | .vmem => 11
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S8192x11x1x512, .f32⟩
  | .hbm, ⟨5, _⟩ => ⟨S8192x11x1x512, .f32⟩
  | .hbm, ⟨6, _⟩ => ⟨S8192x11x2x512, .f32⟩
  | .hbm, ⟨7, _⟩ => ⟨S8192x11264, .f32⟩
  | .hbm, ⟨8, _⟩ => ⟨S3x11x512, .f32⟩
  | .hbm, ⟨9, _⟩ => ⟨S11x3x512, .f32⟩
  | .hbm, ⟨10, _⟩ => ⟨S11x1x512, .f32⟩
  | .hbm, ⟨11, _⟩ => ⟨S8192x5632, .bf16⟩
  | .hbm, ⟨12, _⟩ => ⟨S11x32x8x512, .f32⟩
  | .local _ .vmem, ⟨0, _⟩ => ⟨S512x1024, .f32⟩
  | .local _ .vmem, ⟨1, _⟩ => ⟨S512x1024, .f32⟩
  | .local _ .vmem, ⟨2, _⟩ => ⟨S1x3x512, .f32⟩
  | .local _ .vmem, ⟨3, _⟩ => ⟨S1x3x512, .f32⟩
  | .local _ .vmem, ⟨4, _⟩ => ⟨S1x1x512, .f32⟩
  | .local _ .vmem, ⟨5, _⟩ => ⟨S1x1x512, .f32⟩
  | .local _ .vmem, ⟨6, _⟩ => ⟨S512x512, .bf16⟩
  | .local _ .vmem, ⟨7, _⟩ => ⟨S512x512, .bf16⟩
  | .local _ .vmem, ⟨8, _⟩ => ⟨S1x2x8x512, .f32⟩
  | .local _ .vmem, ⟨9, _⟩ => ⟨S1x2x8x512, .f32⟩
  | .local _ .vmem, ⟨10, _⟩ => ⟨S1x8x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 16], ![false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c256_i32 : BitVec 32 := 256#32
  let v4 : BitVec 32 := Scalar.muli arg8 c256_i32
  v4
def k0_off1 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c256_i32 : BitVec 32 := 256#32
  let v4 : BitVec 32 := Scalar.muli arg8 c256_i32
  let v5 : BitVec 32 := v4
  let v8 : Index := Scalar.indexCast v5
  let c0_5 : Index := 0#32
  ![v8.toNat, 0]
def k0_off2 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c256_i32 : BitVec 32 := 256#32
  let v4 : BitVec 32 := Scalar.muli arg8 c256_i32
  let v5 : BitVec 32 := v4
  let v55 : Index := Scalar.indexCast v5
  let c0_20 : Index := 0#32
  ![v55.toNat, 0]
def k0_off3 (k0_t1 : Fin k0_t1_loop.trips) : Fin 4 → Nat :=
  let c0_21 : Index := 0#32
  let c0_i32_1 : BitVec 32 := 0#32
  let c1_i32 : BitVec 32 := 1#32
  let arg8 : BitVec 32 := Scf.iv c0_i32_1 c1_i32 k0_t1
  let v57 : Index := Scalar.indexCast arg8
  let c0_22 : Index := 0#32
  let c0_23 : Index := 0#32
  ![0, v57.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference34Ideal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S1x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S1x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S_, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proof.FfnTrip.lean ====
module

public import proofs.«01_k».proof.Proof.Gen.KernelIdeal.Frame.Runs
public import Idealize.ShloMosaic.Lib.VecWindow
public import Idealize.ShloMosaic.Lib.WholeRead

/-! # One trip of the gradient's loop, by values

The loop of `cc0_ffn_bwd` takes one block of 256 rows per trip, the later block first.  This module names what a trip
leaves in the output block, in the two running sums and in the carried rows, as functions of the blocks of the inputs
and of what the trip finds, and proves that the trip leaves just that. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The values a chunk works on: 256 rows of the two halves, of the incoming gradient, the 8 rows before it, the weights
and the bias. -/
structure Chunk (F : FTy → Type) [FloatOps F] where
  /-- the rows of the gate half and the up half, side by side -/
  gu : Vec F S256x1024 .f32
  /-- the incoming gradient's rows -/
  dy : Vec F S256x512 .f32
  /-- the 8 rows before the chunk -/
  halo : Vec F S1x1x8x512 .f32
  /-- the three weights -/
  w : Vec F S1x3x512 .f32
  /-- the bias -/
  b : Vec F S1x1x512 .f32

namespace Chunk

variable (k : Chunk F)

/-- The convolution's value. -/
def z : FVec F S256x512 .f32 := k0_pay17 k.gu k.halo k.w k.b
/-- Its cube. -/
def z3 : FVec F S256x512 .f32 := k0_pay18 k.gu k.halo k.w k.b
/-- Its square. -/
def z2 : FVec F S256x512 .f32 := k0_pay19 k.gu k.halo k.w k.b
/-- The gradient at the convolution's value. -/
def d : FVec F S256x512 .f32 := k0_pay24 k.dy (k0_pay9 k.gu) k.z k.z3 k.z2
/-- The gradient times the last weight, under 8 rows of zeros. -/
def d2 : FVec F S264x512 .f32 := k0_pay25 k.dy (k0_pay9 k.gu) (k0_pay15 k.w) k.z k.z3 k.z2
/-- The gradient times the middle weight. -/
def d1 : FVec F S256x512 .f32 := k0_pay27 k.dy (k0_pay9 k.gu) (k0_pay13 k.w) k.z k.z3 k.z2
/-- What the chunk writes of the gradient of the two halves, the carried rows being `a`. -/
def out (a : Vec F S1x8x512 .f32) : Vec F S256x1024 .bf16 :=
  k0_pay33 (k0_pay11 k.w) (k0_pay22 (k0_pay6 a)) (k0_pay23 k.dy k.z k.z3) k.d k.d2 k.d1
/-- The rows it carries to the chunk before. -/
def car : Vec F S1x8x512 .f32 := k0_pay32 (k0_pay11 k.w) k.d k.d2 k.d1
/-- The weights' running sum after it. -/
def accW (a : Vec F S1x3x512 .f32) : Vec F S1x3x512 .f32 :=
  k0_pay4 (k0_pay31 (k0_pay12 k.gu k.halo) k.d (k0_pay26 k.dy (k0_pay9 k.gu) (k0_pay16 k.gu k.halo) k.z k.z3 k.z2)
    (k0_pay28 k.dy (k0_pay9 k.gu) (k0_pay14 k.gu k.halo) k.z k.z3 k.z2)) a
/-- The bias's running sum after it. -/
def accB (a : Vec F S1x1x512 .f32) : Vec F S1x1x512 .f32 := k0_pay5 (k0_pay29 k.d) a

end Chunk

/-- The chunk a trip works on, of the blocks of a grid point. -/
def chunk (x0 : Vec F S512x1024 .f32) (x1 : Vec F S512x512 .f32) (x2 : Vec F S1x2x8x512 .f32) (x3 : Vec F S1x3x512 .f32)
    (x4 : Vec F S1x1x512 .f32) (k : Fin k0_t1_loop.trips) : Chunk F where
  gu := VecWindow.window x0 (k0_off1 k) S256x1024.size (k0_off1_inb k)
  dy := VecWindow.window x1 (k0_off2 k) S256x512.size (k0_off2_inb k)
  halo := VecWindow.window x2 (k0_off3 k) S1x1x8x512.size (k0_off3_inb k)
  w := x3
  b := x4

/-- What a trip finds and leaves: the output block, the two running sums, the carried rows. -/
abbrev St (F : FTy → Type) [FloatOps F] : Type :=
  Vec F S512x1024 .bf16 × Vec F S1x3x512 .f32 × Vec F S1x1x512 .f32 × Vec F S1x8x512 .f32

/-- One trip. -/
def stepAt (x0 : Vec F S512x1024 .f32) (x1 : Vec F S512x512 .f32) (x2 : Vec F S1x2x8x512 .f32) (x3 : Vec F S1x3x512 .f32)
    (x4 : Vec F S1x1x512 .f32) (k : Fin k0_t1_loop.trips) (s : St F) : St F :=
  (VecWindow.put s.1 (k0_off1 k) S256x1024.size ((chunk x0 x1 x2 x3 x4 k).out s.2.2.2),
    (chunk x0 x1 x2 x3 x4 k).accW s.2.1, (chunk x0 x1 x2 x3 x4 k).accB s.2.2.1, (chunk x0 x1 x2 x3 x4 k).car)

/-- The trips before `n`. -/
def steps (x0 : Vec F S512x1024 .f32) (x1 : Vec F S512x512 .f32) (x2 : Vec F S1x2x8x512 .f32) (x3 : Vec F S1x3x512 .f32)
    (x4 : Vec F S1x1x512 .f32) (s : St F) : ℕ → St F
  | 0 => s
  | n + 1 => if h : n < k0_t1_loop.trips then stepAt x0 x1 x2 x3 x4 ⟨n, h⟩ (steps x0 x1 x2 x3 x4 s n) else steps x0 x1 x2 x3 x4 s n

/-- The recursion at a trip of the loop. -/
theorem steps_succ (x0 : Vec F S512x1024 .f32) (x1 : Vec F S512x512 .f32) (x2 : Vec F S1x2x8x512 .f32) (x3 : Vec F S1x3x512 .f32)
    (x4 : Vec F S1x1x512 .f32) (s : St F) (k : Fin k0_t1_loop.trips) :
    steps x0 x1 x2 x3 x4 s (k.val + 1) = stepAt x0 x1 x2 x3 x4 k (steps x0 x1 x2 x3 x4 s k.val) := by
  rw [steps, dif_pos k.isLt]

section Trip

variable (c : Dev nD) (i : grid0.Coords) (arg2 : Memref sig .tc .vmem S512x1024 .f32) (harg2 : arg2.IsWhole)
  (arg3 : Memref sig .tc .vmem S512x512 .f32) (harg3 : arg3.IsWhole) (arg4 : Memref sig .tc .vmem S1x2x8x512 .f32)
  (harg4 : arg4.IsWhole) (arg5 : Memref sig .tc .vmem S1x3x512 .f32) (harg5 : arg5.IsWhole)
  (arg6 : Memref sig .tc .vmem S1x1x512 .f32) (harg6 : arg6.IsWhole) (arg7 : Memref sig .tc .vmem S512x1024 .bf16)
  (harg7 : arg7.IsWhole) (arg8 : Memref sig .tc .vmem S1x3x512 .f32) (harg8 : arg8.IsWhole)
  (arg9 : Memref sig .tc .vmem S1x1x512 .f32) (harg9 : arg9.IsWhole) (arg10 : Memref sig .tc .vmem S1x8x512 .f32)
  (harg10 : arg10.IsWhole)

/-- Core `c` holds the ten memrefs of the body, the inputs at `x0` … `x4`, what the body writes at `s`. -/
abbrev Held (x0 : Vec F S512x1024 .f32) (x1 : Vec F S512x512 .f32) (x2 : Vec F S1x2x8x512 .f32) (x3 : Vec F S1x3x512 .f32)
    (x4 : Vec F S1x1x512 .f32) (s : St F) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare s.1
    ∗ owns (c : Thread nD τ) arg8 fullShare s.2.1 ∗ owns (c : Thread nD τ) arg9 fullShare s.2.2.1
    ∗ owns (c : Thread nD τ) arg10 fullShare s.2.2.2)

/-- A load of a window of a whole memref that reads `x` is that window of `x`. -/
theorem readAt_window {s : Shape} {e : EltTy} {m : Memref sig .tc .vmem s e} (h : m.IsWhole) (x : s.Idx → Elt F e)
    (off size : Fin s.rank → ℕ) (inb : ∀ a, off a + size a ≤ s.size a) :
    View.readAt (Elt F) m.view (Rect.unit off size inb).toLoadRect (h.unread x) = VecWindow.window x off size inb :=
  funext fun y => h.readAt_unread x _ y

/-- A load of all of a whole memref that reads `x` is `x`. -/
theorem readAt_all {s : Shape} {e : EltTy} {m : Memref sig .tc .vmem s e} (h : m.IsWhole) (x : s.Idx → Elt F e)
    {off : Fin s.rank → ℕ} (inb : ∀ a, off a + s.size a ≤ s.size a) :
    View.readAt (Elt F) m.view (Rect.unit off s.size inb).toLoadRect (h.unread x) = x :=
  (View.readAt_full m.view _ inb).trans (h.read_unread x)

set_option maxHeartbeats 1000000 in
/-- The pieces a trip writes, by the chunk's values. -/
theorem trip_pieces (x0 : Vec F S512x1024 .f32) (x1 : Vec F S512x512 .f32) (x2 : Vec F S1x2x8x512 .f32)
    (x3 : Vec F S1x3x512 .f32) (x4 : Vec F S1x1x512 .f32) (s : St F) (k : Fin k0_t1_loop.trips) :
    tripL_k0_t1 (F := F) Variants.none c none i arg2 harg2 arg3 harg3 arg4 harg4 arg5 harg5 arg6 harg6 arg7 harg7 arg8 harg8
        arg9 harg9 arg10 harg10 (harg2.unread x0) (harg3.unread x1) (harg4.unread x2) (harg5.unread x3) (harg6.unread x4) k
        (harg7.unread s.1) (harg8.unread s.2.1) (harg9.unread s.2.2.1) (harg10.unread s.2.2.2)
      = ([⟨Rect.unit (k0_off1 k) S256x1024.size (k0_off1_inb k), (chunk x0 x1 x2 x3 x4 k).out s.2.2.2⟩],
        [⟨Rect.unit ![0, 0, 0] S1x3x512.size inb_S1x3x512_S1x3x512_0_0_0, (chunk x0 x1 x2 x3 x4 k).accW s.2.1⟩],
        [⟨Rect.unit ![0, 0, 0] S1x1x512.size inb_S1x1x512_S1x1x512_0_0_0, (chunk x0 x1 x2 x3 x4 k).accB s.2.2.1⟩],
        [⟨Rect.unit ![0, 0, 0] S1x8x512.size inb_S1x8x512_S1x8x512_0_0_0, (chunk x0 x1 x2 x3 x4 k).car⟩]) := by
  have e0 := readAt_window harg2 x0 (k0_off1 k) S256x1024.size (k0_off1_inb k)
  have e1 := readAt_window harg3 x1 (k0_off2 k) S256x512.size (k0_off2_inb k)
  have e2 := readAt_window harg4 x2 (k0_off3 k) S1x1x8x512.size (k0_off3_inb k)
  have e3 := readAt_all harg5 x3 inb_S1x3x512_S1x3x512_0_0_0
  have e4 := readAt_all harg6 x4 inb_S1x1x512_S1x1x512_0_0_0
  have e8 := readAt_all harg8 s.2.1 inb_S1x3x512_S1x3x512_0_0_0
  have e9 := readAt_all harg9 s.2.2.1 inb_S1x1x512_S1x1x512_0_0_0
  have e10 := readAt_all harg10 s.2.2.2 inb_S1x8x512_S1x8x512_0_0_0
  unfold tripL_k0_t1 trip_k0_t1 Chunk.out Chunk.accW Chunk.accB Chunk.car Chunk.d Chunk.d1 Chunk.d2 Chunk.z Chunk.z2 Chunk.z3 chunk
  dsimp only
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21]
  simp only [e0, e1, e2, e3, e4, e8, e9, e10]

set_option maxHeartbeats 2000000 in
/-- ONE TRIP: from the memrefs at `s` to the memrefs at the step of `s`. -/
theorem trip_step (x0 : Vec F S512x1024 .f32) (x1 : Vec F S512x512 .f32) (x2 : Vec F S1x2x8x512 .f32)
    (x3 : Vec F S1x3x512 .f32) (x4 : Vec F S1x1x512 .f32) (s : St F) (k : Fin k0_t1_loop.trips) (E : Set ℕ) :
    Held c arg2 arg3 arg4 arg5 arg6 arg7 arg8 arg9 arg10 x0 x1 x2 x3 x4 s
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10
            harg10 k PUnit.unit)
          (fun _ => Held c arg2 arg3 arg4 arg5 arg6 arg7 arg8 arg9 arg10 x0 x1 x2 x3 x4 (stepAt x0 x1 x2 x3 x4 k s)) := by
  have hp := trip_pieces c i arg2 harg2 arg3 harg3 arg4 harg4 arg5 harg5 arg6 harg6 arg7 harg7 arg8 harg8 arg9 harg9 arg10
    harg10 x0 x1 x2 x3 x4 s k
  have ht := (trip_k0_t1 (F := F) Variants.none c none i arg2 harg2 arg3 harg3 arg4 harg4 arg5 harg5 arg6 harg6 arg7 harg7
    arg8 harg8 arg9 harg9 arg10 harg10 (harg2.unread x0) (harg3.unread x1) (harg4.unread x2) (harg5.unread x3)
    (harg6.unread x4) k).2.2.2.2 E (harg7.unread s.1) (harg8.unread s.2.1) (harg9.unread s.2.2.1) (harg10.unread s.2.2.2)
  unfold tripL_k0_t1 at hp
  rw [Prod.mk.injEq, Prod.mk.injEq, Prod.mk.injEq] at hp
  obtain ⟨h7, h8, h9, h10⟩ := hp
  rw [h7, h8, h9, h10] at ht
  refine BIBase.Entails.trans ?_ (ht.trans (wp_mono _ _ _ fun _ => ?_))
  · unfold Held Trip_k0_t1 owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hf7; obtain rfl := harg10.eq_unread hf8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold Held Trip_k0_t1 owns
    iintro ⟨H0, H1, H2, H3, H4, H5, H6, H7, H8⟩
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]
    · iexists _; isplitr
      swap; · iexact H5
      ipureintro
      refine (View.read_writes_cons_put arg7.view _ _ _ [] rfl).trans ?_
      rw [View.writes_nil, harg7.read_unread]; rfl
    isplitl [H6]
    · iexists _; isplitr
      swap; · iexact H6
      ipureintro; exact View.read_writes_full arg8.view _ inb_S1x3x512_S1x3x512_0_0_0 _ []
    isplitl [H7]
    · iexists _; isplitr
      swap; · iexact H7
      ipureintro; exact View.read_writes_full arg9.view _ inb_S1x1x512_S1x1x512_0_0_0 _ []
    iexists _; isplitr
    swap; · iexact H8
    ipureintro; exact View.read_writes_full arg10.view _ inb_S1x8x512_S1x8x512_0_0_0 _ []

end Trip

end Cert.KernelIdeal.Ffn

end
-- ==== Proof.FfnBody.lean ====
module

public import proofs.«01_k».proof.Proof.FfnTrip

/-! # The body at a grid point, by values

The body sets the two running sums and the carried rows to zero at the first row block of a group (the last rows), then
takes the two chunks of its block, the later one first. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The sums and the carried rows at a group's start. -/
def zeroSt : Vec F S1x3x512 .f32 × Vec F S1x1x512 .f32 × Vec F S1x8x512 .f32 := (k0_pay2, k0_pay3, k0_pay1)

/-- What a grid point leaves, from the sums and the carried rows it starts with. -/
def pointSt (x0 : Vec F S512x1024 .f32) (x1 : Vec F S512x512 .f32) (x2 : Vec F S1x2x8x512 .f32) (x3 : Vec F S1x3x512 .f32)
    (x4 : Vec F S1x1x512 .f32)
    (a : Vec F S1x3x512 .f32 × Vec F S1x1x512 .f32 × Vec F S1x8x512 .f32) : St F :=
  steps x0 x1 x2 x3 x4 (fun _ => Scalar.ofBits .bf16 0x0000#16, a) 2

/-- The loop has two trips. -/
theorem trips_eq : k0_t1_loop.trips = 2 := by decide +kernel

/-- The two trips one after the other. -/
theorem steps_two (x0 : Vec F S512x1024 .f32) (x1 : Vec F S512x512 .f32) (x2 : Vec F S1x2x8x512 .f32) (x3 : Vec F S1x3x512 .f32)
    (x4 : Vec F S1x1x512 .f32) (s : St F) :
    steps x0 x1 x2 x3 x4 s 2
      = stepAt x0 x1 x2 x3 x4 ⟨1, by rw [trips_eq]; omega⟩ (stepAt x0 x1 x2 x3 x4 ⟨0, by rw [trips_eq]; omega⟩ s) := by
  rw [steps, dif_pos (by rw [trips_eq]; omega), steps, dif_pos (by rw [trips_eq]; omega), steps]

/-- The two trips write the whole output block, so that what it held does not matter. -/
theorem put_put_irrel (y y' : Vec F S512x1024 .bf16) (h0 : 0 < k0_t1_loop.trips) (h1 : 1 < k0_t1_loop.trips)
    (o0 o1 : Vec F S256x1024 .bf16) :
    VecWindow.put (VecWindow.put y (k0_off1 ⟨0, h0⟩) S256x1024.size o0) (k0_off1 ⟨1, h1⟩) S256x1024.size o1
      = VecWindow.put (VecWindow.put y' (k0_off1 ⟨0, h0⟩) S256x1024.size o0) (k0_off1 ⟨1, h1⟩) S256x1024.size o1 := by
  rw [k0_off1_eq, k0_off1_eq]
  funext j
  unfold VecWindow.put
  by_cases hj : (j 0).val < 256
  · have hh : ∀ a, (![256 - 256 * (⟨1, h1⟩ : Fin k0_t1_loop.trips).val, 0] : Fin 2 → ℕ) a ≤ (j a).val
        ∧ (j a).val < (![256 - 256 * (⟨1, h1⟩ : Fin k0_t1_loop.trips).val, 0] : Fin 2 → ℕ) a + S256x1024.size a :=
      Fin.forall_fin_two.mpr ⟨⟨by simp, by simpa using hj⟩, ⟨by simp, by simpa using (j 1).isLt⟩⟩
    rw [dif_pos hh, dif_pos hh]
  · have hh : ∀ a, (![256 - 256 * (⟨0, h0⟩ : Fin k0_t1_loop.trips).val, 0] : Fin 2 → ℕ) a ≤ (j a).val
        ∧ (j a).val < (![256 - 256 * (⟨0, h0⟩ : Fin k0_t1_loop.trips).val, 0] : Fin 2 → ℕ) a + S256x1024.size a :=
      Fin.forall_fin_two.mpr ⟨⟨by simpa using Nat.not_lt.mp hj, by simpa using (j 0).isLt⟩, ⟨by simp, by simpa using (j 1).isLt⟩⟩
    rw [dif_pos hh, dif_pos hh]

/-- What the output block held does not matter to what a grid point leaves. -/
theorem steps_irrel (x0 : Vec F S512x1024 .f32) (x1 : Vec F S512x512 .f32) (x2 : Vec F S1x2x8x512 .f32) (x3 : Vec F S1x3x512 .f32)
    (x4 : Vec F S1x1x512 .f32) (y : Vec F S512x1024 .bf16)
    (a : Vec F S1x3x512 .f32 × Vec F S1x1x512 .f32 × Vec F S1x8x512 .f32) :
    steps x0 x1 x2 x3 x4 (y, a) 2 = pointSt x0 x1 x2 x3 x4 a := by
  unfold pointSt
  rw [steps_two, steps_two]
  exact congrArg (fun q => ((q, _) : St F)) (put_put_irrel _ _ _ _ _ _)

section Body

variable (c : Dev nD) (i : grid0.Coords) (arg2 : Memref sig .tc .vmem S512x1024 .f32) (harg2 : arg2.IsWhole)
  (arg3 : Memref sig .tc .vmem S512x512 .f32) (harg3 : arg3.IsWhole) (arg4 : Memref sig .tc .vmem S1x2x8x512 .f32)
  (harg4 : arg4.IsWhole) (arg5 : Memref sig .tc .vmem S1x3x512 .f32) (harg5 : arg5.IsWhole)
  (arg6 : Memref sig .tc .vmem S1x1x512 .f32) (harg6 : arg6.IsWhole) (arg7 : Memref sig .tc .vmem S512x1024 .bf16)
  (harg7 : arg7.IsWhole) (arg8 : Memref sig .tc .vmem S1x3x512 .f32) (harg8 : arg8.IsWhole)
  (arg9 : Memref sig .tc .vmem S1x1x512 .f32) (harg9 : arg9.IsWhole) (arg10 : Memref sig .tc .vmem S1x8x512 .f32)
  (harg10 : arg10.IsWhole)

/-- The stores at a group's start. -/
def resets : Prog (TpuEff nD τ sig (Elt F) Λ₀ .tc) PUnit := do
  let _ : Vec F S1x8x512 .f32 ← Prog.lift (.load arg10 (Rect.unit (s := S1x8x512) ![0, 0, 0] S1x8x512.size inb_S1x8x512_S1x8x512_0_0_0).toLoadRect (View.loadsAt_vmem h_S1x8x512))
  Prog.lift (.store arg10 (Rect.unit (s := S1x8x512) ![0, 0, 0] S1x8x512.size inb_S1x8x512_S1x8x512_0_0_0) (k0_pay1 (F := F)) Finset.univ (View.stores_vmem_bits_univ h_S1x8x512 rfl) (.inl rfl))
  let _ : Vec F S1x3x512 .f32 ← Prog.lift (.load arg8 (Rect.unit (s := S1x3x512) ![0, 0, 0] S1x3x512.size inb_S1x3x512_S1x3x512_0_0_0).toLoadRect (View.loadsAt_vmem h_S1x3x512))
  Prog.lift (.store arg8 (Rect.unit (s := S1x3x512) ![0, 0, 0] S1x3x512.size inb_S1x3x512_S1x3x512_0_0_0) (k0_pay2 (F := F)) Finset.univ (View.stores_vmem_bits_univ h_S1x3x512 rfl) (.inl rfl))
  let _ : Vec F S1x1x512 .f32 ← Prog.lift (.load arg9 (Rect.unit (s := S1x1x512) ![0, 0, 0] S1x1x512.size inb_S1x1x512_S1x1x512_0_0_0).toLoadRect (View.loadsAt_vmem h_S1x1x512))
  Prog.lift (.store arg9 (Rect.unit (s := S1x1x512) ![0, 0, 0] S1x1x512.size inb_S1x1x512_S1x1x512_0_0_0) (k0_pay3 (F := F)) Finset.univ (View.stores_vmem_bits_univ h_S1x1x512 rfl) (.inl rfl))
  pure ⟨⟩

/-- The two trips. -/
def trips : Prog (TpuEff nD τ sig (Elt F) Λ₀ .tc) PUnit := do
  Scf.Loop.for k0_t1_loop k0_t1_ok ⟨⟩ (k0_t1_body i arg2 harg2 arg3 harg3 arg4 harg4 arg5 harg5 arg6 harg6 arg7 harg7 arg8 harg8 arg9 harg9 arg10 harg10)
  pure ⟨⟩

/-- The body at a group's start. -/
theorem body_eq_A (hc : cond0_0 i) :
    cc0_ffn_bwd (F := F) i arg2 harg2 arg3 harg3 arg4 harg4 arg5 harg5 arg6 harg6 arg7 harg7 arg8 harg8 arg9 harg9 arg10 harg10
      = (resets arg8 arg9 arg10 >>= fun _ => trips i arg2 harg2 arg3 harg3 arg4 harg4 arg5 harg5 arg6 harg6 arg7 harg7 arg8 harg8 arg9 harg9 arg10 harg10) := by
  rw [cc0_ffn_bwd_eq_skeleton]
  unfold cc0_ffn_bwd_skel
  exact (dif_pos hc).trans rfl

/-- The body elsewhere. -/
theorem body_eq_B (hc : ¬ cond0_0 i) :
    cc0_ffn_bwd (F := F) i arg2 harg2 arg3 harg3 arg4 harg4 arg5 harg5 arg6 harg6 arg7 harg7 arg8 harg8 arg9 harg9 arg10 harg10 = trips i arg2 harg2 arg3 harg3 arg4 harg4 arg5 harg5 arg6 harg6 arg7 harg7 arg8 harg8 arg9 harg9 arg10 harg10 := by
  rw [cc0_ffn_bwd_eq_skeleton]
  unfold cc0_ffn_bwd_skel
  exact (dif_neg hc).trans rfl

/-- The stores leave the zeros. -/
theorem resets_wp (E : Set ℕ) :
    (iprop((∃ d, owns (c : Thread nD τ) arg8 fullShare d) ∗ (∃ d, owns (c : Thread nD τ) arg9 fullShare d)
        ∗ (∃ d, owns (c : Thread nD τ) arg10 fullShare d)) : sProp 𝕄)
      ⊢ wp frame (wpE (defs₀ (F := F)) Variants.none (c : Thread nD τ) none) E (resets (F := F) arg8 arg9 arg10)
          (fun _ => iprop(owns (c : Thread nD τ) arg8 fullShare (k0_pay2 (F := F))
            ∗ owns (c : Thread nD τ) arg9 fullShare (k0_pay3 (F := F)) ∗ owns (c : Thread nD τ) arg10 fullShare (k0_pay1 (F := F)))) := by
  unfold owns resets
  iintro ⟨⟨%d6, %f6, -, H6⟩, ⟨%d7, %f7, -, H7⟩, ⟨%d8, %f8, -, H8⟩⟩
  sl_exec
  sl_step
  isplitl [H6]
  · iexists _; isplitr
    swap; · iexact H6
    ipureintro; exact View.read_writes_full arg8.view _ inb_S1x3x512_S1x3x512_0_0_0 _ []
  isplitl [H7]
  · iexists _; isplitr
    swap; · iexact H7
    ipureintro; exact View.read_writes_full arg9.view _ inb_S1x1x512_S1x1x512_0_0_0 _ []
  iexists _; isplitr
  swap; · iexact H8
  ipureintro; exact View.read_writes_full arg10.view _ inb_S1x8x512_S1x8x512_0_0_0 _ []

/-- The two trips, from the output block at anything. -/
theorem trips_wp (x0 : Vec F S512x1024 .f32) (x1 : Vec F S512x512 .f32) (x2 : Vec F S1x2x8x512 .f32) (x3 : Vec F S1x3x512 .f32)
    (x4 : Vec F S1x1x512 .f32)
    (y : Vec F S512x1024 .bf16) (a : Vec F S1x3x512 .f32 × Vec F S1x1x512 .f32 × Vec F S1x8x512 .f32) (E : Set ℕ) :
    Held c arg2 arg3 arg4 arg5 arg6 arg7 arg8 arg9 arg10 x0 x1 x2 x3 x4 (y, a)
      ⊢ wp frame (wpE (defs₀ (F := F)) Variants.none (c : Thread nD τ) none) E (trips (F := F) i arg2 harg2 arg3 harg3 arg4 harg4 arg5 harg5 arg6 harg6 arg7 harg7 arg8 harg8 arg9 harg9 arg10 harg10)
          (fun _ => Held c arg2 arg3 arg4 arg5 arg6 arg7 arg8 arg9 arg10 x0 x1 x2 x3 x4 (pointSt x0 x1 x2 x3 x4 a)) := by
  unfold trips
  rw [← steps_irrel x0 x1 x2 x3 x4 y a]
  have h := Scf.wp_for_bind (M := 𝕄) frame (wpE (defs₀ (F := F)) Variants.none (c : Thread nD τ) none) E k0_t1_loop.lb k0_t1_loop.ub
    k0_t1_loop.st k0_t1_ok () (k0_t1_body (F := F) i arg2 harg2 arg3 harg3 arg4 harg4 arg5 harg5 arg6 harg6 arg7 harg7 arg8 harg8 arg9 harg9 arg10 harg10)
    (fun k _ => Held c arg2 arg3 arg4 arg5 arg6 arg7 arg8 arg9 arg10 x0 x1 x2 x3 x4 (steps x0 x1 x2 x3 x4 (y, a) k))
    (fun k _ => by
      rw [steps_succ x0 x1 x2 x3 x4 (y, a) k]
      exact trip_step c i arg2 harg2 arg3 harg3 arg4 harg4 arg5 harg5 arg6 harg6 arg7 harg7 arg8 harg8 arg9 harg9 arg10 harg10 x0 x1 x2 x3 x4 _ k E)
    (kk := fun _ => pure PUnit.unit) (Q := fun _ => Held c arg2 arg3 arg4 arg5 arg6 arg7 arg8 arg9 arg10 x0 x1 x2 x3 x4 (steps x0 x1 x2 x3 x4 (y, a) 2))
  iintro H
  iapply h $$ [H]
  · iexact H
  iintro %_ H
  sl_step
  rw [show Scf.trips k0_t1_loop.lb k0_t1_loop.ub k0_t1_loop.st = 2 from trips_eq]
  iexact H

/-- The body at a group's start: whatever the sums and the carried rows were, they start at zero. -/
theorem body_A (hc : cond0_0 i) (x0 : Vec F S512x1024 .f32) (x1 : Vec F S512x512 .f32) (x2 : Vec F S1x2x8x512 .f32) (x3 : Vec F S1x3x512 .f32)
    (x4 : Vec F S1x1x512 .f32) (E : Set ℕ) :
    (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)) : sProp 𝕄)
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10)
          (fun _ => Held c arg2 arg3 arg4 arg5 arg6 arg7 arg8 arg9 arg10 x0 x1 x2 x3 x4 (pointSt x0 x1 x2 x3 x4 zeroSt)) := by
  rw [body_eq_A i arg2 harg2 arg3 harg3 arg4 harg4 arg5 harg5 arg6 harg6 arg7 harg7 arg8 harg8 arg9 harg9 arg10 harg10 hc, wp_bind]
  iintro ⟨H0, H1, H2, H3, H4, ⟨%y, H5⟩, H6, H7, H8⟩
  iapply (wp_wand_r _ _ _)
  isplitl [H6 H7 H8]
  · iapply (resets_wp c arg8 arg9 arg10 E)
    isplitl [H6]; · iexact H6
    isplitl [H7]; · iexact H7
    iexact H8
  iintro %_ ⟨H6, H7, H8⟩
  iapply (trips_wp c i arg2 harg2 arg3 harg3 arg4 harg4 arg5 harg5 arg6 harg6 arg7 harg7 arg8 harg8 arg9 harg9 arg10 harg10 x0 x1 x2 x3 x4 y zeroSt E)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body elsewhere, from the sums and the carried rows at `a`. -/
theorem body_B (hc : ¬ cond0_0 i) (x0 : Vec F S512x1024 .f32) (x1 : Vec F S512x512 .f32) (x2 : Vec F S1x2x8x512 .f32) (x3 : Vec F S1x3x512 .f32)
    (x4 : Vec F S1x1x512 .f32)
    (a : Vec F S1x3x512 .f32 × Vec F S1x1x512 .f32 × Vec F S1x8x512 .f32) (E : Set ℕ) :
    (iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare a.1 ∗ owns (c : Thread nD τ) arg9 fullShare a.2.1
        ∗ owns (c : Thread nD τ) arg10 fullShare a.2.2) : sProp 𝕄)
      ⊢ wp frame (wpE (defs₀ (F := F)) Variants.none (c : Thread nD τ) none) E (cc0_ffn_bwd (F := F) i arg2 harg2 arg3 harg3 arg4 harg4 arg5 harg5 arg6 harg6 arg7 harg7 arg8 harg8 arg9 harg9 arg10 harg10)
          (fun _ => Held c arg2 arg3 arg4 arg5 arg6 arg7 arg8 arg9 arg10 x0 x1 x2 x3 x4 (pointSt x0 x1 x2 x3 x4 a)) := by
  rw [body_eq_B i arg2 harg2 arg3 harg3 arg4 harg4 arg5 harg5 arg6 harg6 arg7 harg7 arg8 harg8 arg9 harg9 arg10 harg10 hc]
  iintro ⟨H0, H1, H2, H3, H4, ⟨%y, H5⟩, H6, H7, H8⟩
  iapply (trips_wp c i arg2 harg2 arg3 harg3 arg4 harg4 arg5 harg5 arg6 harg6 arg7 harg7 arg8 harg8 arg9 harg9 arg10 harg10 x0 x1 x2 x3 x4 y a E)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Body

end Cert.KernelIdeal.Ffn

end
-- ==== Proof.FfnRun.lean ====
module

public import proofs.«01_k».proof.Proof.FfnBody
public import Idealize.ShloMosaic.Lib.Claim
public import Idealize.ShloMosaic.Lib.Pipeline.Value

/-! # The run of the gradient kernel

The body's triple at every grid point, the data of the pipeline built from it, and the run of the whole program. -/

@[expose] public section

set_option maxRecDepth 16384

noncomputable section

namespace Cert.KernelIdeal.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The sums and the carried rows grid point `t` starts with, the point before having left `prev`. -/
def startSt (t : ℕ) (prev : St F) : Vec F S1x3x512 .f32 × Vec F S1x1x512 .f32 × Vec F S1x8x512 .f32 :=
  if t % 16 = 0 then zeroSt else prev.2

/-- What the body leaves after grid point `n`. -/
def stAt (c : Dev nD) : (n : ℕ) → n < cfg0.N → St F
  | 0, hn => pointSt (iblk m c 0 ⟨0, hn⟩) (iblk m c 1 ⟨0, hn⟩) (iblk m c 2 ⟨0, hn⟩) (iblk m c 3 ⟨0, hn⟩) (iblk m c 4 ⟨0, hn⟩) zeroSt
  | n + 1, hn => pointSt (iblk m c 0 ⟨n + 1, hn⟩) (iblk m c 1 ⟨n + 1, hn⟩) (iblk m c 2 ⟨n + 1, hn⟩) (iblk m c 3 ⟨n + 1, hn⟩)
      (iblk m c 4 ⟨n + 1, hn⟩) (startSt (n + 1) (stAt c n (Nat.lt_of_succ_lt hn)))

/-- At a group's start the sums and the carried rows start at zero. -/
theorem stAt_A (c : Dev nD) (t : Fin cfg0.N) (h0 : t.val % 16 = 0) :
    stAt m c t.val t.isLt = pointSt (iblk m c 0 t) (iblk m c 1 t) (iblk m c 2 t) (iblk m c 3 t) (iblk m c 4 t) zeroSt := by
  obtain ⟨n, hn⟩ := t
  cases n with
  | zero => rfl
  | succ n => rw [stAt, startSt, if_pos h0]

/-- Elsewhere they start at what the point before left. -/
theorem stAt_B (c : Dev nD) (t : Fin cfg0.N) (h0 : ¬ t.val % 16 = 0) :
    stAt m c t.val t.isLt
      = pointSt (iblk m c 0 t) (iblk m c 1 t) (iblk m c 2 t) (iblk m c 3 t) (iblk m c 4 t) (stAt m c (t.val - 1) (Nat.lt_of_le_of_lt (Nat.sub_le _ _) t.isLt)).2 := by
  obtain ⟨n, hn⟩ := t
  cases n with
  | zero => exact absurd (Nat.zero_mod _) h0
  | succ n => rw [stAt, startSt, if_neg h0]; rfl

/-- The invariant before position `n`: at first every scratch at anything, later the carried rows at what the point before
left. -/
def phi (c : Dev nD) : (n : ℕ) → n ≤ cfg0.N → sProp 𝕄
  | 0, _ => Pipeline.ΦA spec0 c
  | n + 1, hn => iprop(owns (c : Thread nD τ) scM0_0 fullShare (stAt m c n hn).2.2.2 ∗ (∃ r, prngReg c r))

/-- Before a point that is not the first. -/
theorem phi_pos (c : Dev nD) (n : ℕ) (h : n ≤ cfg0.N) (hz : n ≠ 0) :
    phi m c n h = iprop(owns (c : Thread nD τ) scM0_0 fullShare (stAt m c (n - 1) (by omega)).2.2.2 ∗ (∃ r, prngReg c r)) := by
  cases n with
  | zero => exact absurd rfl hz
  | succ n => rfl

/-- The invariant always gives every scratch at anything. -/
theorem phi_out (c : Dev nD) (n : ℕ) (h : n ≤ cfg0.N) : phi m c n h ⊢ Pipeline.ΦA spec0 c := by
  cases n with
  | zero => exact Idealize.SL.BI.Entails.refl _
  | succ n =>
    rw [phi, PhiA0_eq]
    iintro ⟨H, Hg⟩
    isplitl [H]
    · iexists _; iexact H
    iexact Hg

/-- The pipeline's data on core `c`. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t.val t.isLt).1
    | ⟨6, _⟩ => (stAt m c t.val t.isLt).2.1
    | ⟨7, _⟩ => (stAt m c t.val t.isLt).2.2.1
  Φ t := phi m c t.val (Nat.le_of_lt_succ t.isLt)
  q _ := fullShare
  owed _ := 0

/-- Its arrays are the contents the region finds. -/
theorem dat_A (c : Dev nD) (w : Fin cfg0.W) : (dat m 0 c).A w = V m c (Pipeline.arrRef spec0 w) := by dsimp only [dat]

/-- What the body leaves of window 0. -/
theorem after0 (c : Dev nD) (t : Fin cfg0.N) : (dat m 0 c).after 0 t = iblk m c 0 t := by dsimp only [dat]
/-- What the body leaves of window 1. -/
theorem after1 (c : Dev nD) (t : Fin cfg0.N) : (dat m 0 c).after 1 t = iblk m c 1 t := by dsimp only [dat]
/-- What the body leaves of window 2. -/
theorem after2 (c : Dev nD) (t : Fin cfg0.N) : (dat m 0 c).after 2 t = iblk m c 2 t := by dsimp only [dat]
/-- What the body leaves of window 3. -/
theorem after3 (c : Dev nD) (t : Fin cfg0.N) : (dat m 0 c).after 3 t = iblk m c 3 t := by dsimp only [dat]
/-- What the body leaves of window 4. -/
theorem after4 (c : Dev nD) (t : Fin cfg0.N) : (dat m 0 c).after 4 t = iblk m c 4 t := by dsimp only [dat]
/-- What the body leaves of the output block. -/
theorem after5 (c : Dev nD) (t : Fin cfg0.N) : (dat m 0 c).after 5 t = (stAt m c t.val t.isLt).1 := by dsimp only [dat]
/-- What the body leaves of the weights' sum. -/
theorem after6 (c : Dev nD) (t : Fin cfg0.N) : (dat m 0 c).after 6 t = (stAt m c t.val t.isLt).2.1 := by dsimp only [dat]
/-- What the body leaves of the bias's sum. -/
theorem after7 (c : Dev nD) (t : Fin cfg0.N) : (dat m 0 c).after 7 t = (stAt m c t.val t.isLt).2.2.1 := by dsimp only [dat]

/-- Inside a group the weights' sum is still what the point before left. -/
theorem kept6 (c : Dev nD) (t : Fin cfg0.N) (h0 : ¬ t.val % 16 = 0) (d) :
    (dat m 0 c).before 6 t d = (stAt m c (t.val - 1) (Nat.lt_of_le_of_lt (Nat.sub_le _ _) t.isLt)).2.1 := by
  have hN : t.val < 176 := lt_of_lt_of_eq t.isLt (show cfg0.N = 176 from N_0)
  rw [Dat.before_out_kept _ 6 rfl t (by omega) (Bool.eq_false_iff.mpr fun h => by have := (flush0_6 _).mp h; dsimp only at this; omega)
    (fun _ => rfl) (fun _ _ => rfl)]
  dsimp only [dat]

/-- Inside a group the bias's sum is still what the point before left. -/
theorem kept7 (c : Dev nD) (t : Fin cfg0.N) (h0 : ¬ t.val % 16 = 0) (d) :
    (dat m 0 c).before 7 t d = (stAt m c (t.val - 1) (Nat.lt_of_le_of_lt (Nat.sub_le _ _) t.isLt)).2.2.1 := by
  have hN : t.val < 176 := lt_of_lt_of_eq t.isLt (show cfg0.N = 176 from N_0)
  rw [Dat.before_out_kept _ 7 rfl t (by omega) (Bool.eq_false_iff.mpr fun h => by have := (flush0_7 _).mp h; dsimp only at this; omega)
    (fun _ => rfl) (fun _ _ => rfl)]
  dsimp only [dat]

/-- What the body is called with at point `t`. -/
def pointPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d)))

/-- What it returns. -/
def pointPost (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t)
    ∗ owns (c : Thread nD τ) (ms0_5 t) fullShare ((dat m 0 c).after 5 t)
    ∗ owns (c : Thread nD τ) (ms0_6 t) fullShare ((dat m 0 c).after 6 t)
    ∗ owns (c : Thread nD τ) (ms0_7 t) fullShare ((dat m 0 c).after 7 t))

/-- From the body's memrefs to what a point returns, the invariant's register and the empty debt beside them. -/
theorem held_post (c : Dev nD) (t : Fin cfg0.N) (x) (hx : x = (stAt m c t.val t.isLt)) :
    (iprop(((∃ r, prngReg c r) ∗ (dat m 0 c).owesAt () t.castSucc)
        ∗ Held c (ms0_0 t) (ms0_1 t) (ms0_2 t) (ms0_3 t) (ms0_4 t) (ms0_5 t) (ms0_6 t) (ms0_7 t) scM0_0 (iblk m c 0 t) (iblk m c 1 t) (iblk m c 2 t) (iblk m c 3 t) (iblk m c 4 t) x) : sProp 𝕄)
      ⊢ pointPost m c t := by
  subst hx
  unfold pointPost Held
  rw [show (dat m 0 c).owesAt () t.succ = (dat m 0 c).owesAt () t.castSucc from rfl,
    after0, after1, after2, after3, after4, after5, after6, after7,
    show (dat m 0 c).Φ t.succ = phi m c (t.val + 1) t.isLt from rfl, phi]
  iintro ⟨⟨Hg, Ho⟩, H0, H1, H2, H3, H4, H5, H6, H7, H8⟩
  isplitl [H8 Hg]
  · isplitl [H8]; · iexact H8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The body at any point. -/
theorem point_wp (c : Dev nD) (t : Fin cfg0.N) :
    pointPre m c t ⊢ wp frame (wpE (defs₀ (F := F)) Variants.none c none) Set.univ (bodyAt0 t) (fun _ => pointPost m c t) := by
  unfold pointPre bodyAt0
  simp only [before0_0_of m (dat m 0 c) (dat_A m c 0) (after0 m c) t, before0_1_of m (dat m 0 c) (dat_A m c 1) (after1 m c) t,
    before0_2_of m (dat m 0 c) (dat_A m c 2) (after2 m c) t, before0_3_of m (dat m 0 c) (dat_A m c 3) (after3 m c) t,
    before0_4_of m (dat m 0 c) (dat_A m c 4) (after4 m c) t]
  rw [show (dat m 0 c).Φ t.castSucc = phi m c t.val (Nat.le_of_lt t.isLt) from rfl]
  by_cases h0 : t.val % 16 = 0
  · refine BIBase.Entails.trans (sep_mono (phi_out m c _ _) .rfl) ?_
    rw [PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_mono _ _ _ fun _ => held_post m c t _ (stAt_A m c t h0).symm)
    iapply (wp_frame_l _ _ _)
    isplitl [Hg Ho]
    · isplitl [Hg]; · iexact Hg
      iexact Ho
    iapply (body_A c (grid0.coords t) _ _ _ _ _ _ _ _ _ _ _ _ _ _ _ _ _ _ ((hcond0_0 t).mpr h0))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexact HS
  · rw [phi_pos m c _ _ (fun h => h0 (by rw [h]))]
    simp only [kept6 m c t h0, kept7 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_mono _ _ _ fun _ => held_post m c t _ (stAt_B m c t h0).symm)
    iapply (wp_frame_l _ _ _)
    isplitl [Hg Ho]
    · isplitl [Hg]; · iexact Hg
      iexact Ho
    iapply (body_B c (grid0.coords t) _ _ _ _ _ _ _ _ _ _ _ _ _ _ _ _ _ _ (fun h => h0 ((hcond0_0 t).mp h)))
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iexact HS

/-- The body table's row at point `t`'s slots is the body there. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dat (F := F) m 0 c) (defs₀ (F := F)) Variants.none () Set.univ := fun t => by
  rw [bigSep_W0, bigSep_W0, row_eq]
  exact triple_restated (point_wp m c t) rfl .rfl fun _ => .rfl

-- the library rule's implicit arguments are found by unifying its conclusion with this one
set_option backward.isDefEq.respectTransparency.types false in
/-- The run, and every counter at zero at its end. -/
theorem run_quiet : θ_run defs (onTc (τ := τ) (main (F := F))) (s₀ m ρ)
    (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m)
    (hin := fun c => phi_out m c 0 (Nat.zero_le _)) (hout := fun c => phi_out m c cfg0.N le_rfl)

/-- The run. -/
theorem run_main : θ_run defs (onTc (τ := τ) (main (F := F))) (s₀ m ρ) (Pipeline.FramePost cfgs (dat m) 0 (V m)) :=
  (θ_run defs _ _).mono (fun _ h => h.1) (run_quiet m ρ)

/-- THE FRAME at any values: the program terminates, its arguments end unchanged and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dat m) (dat_A m) (run_main m ρ)) ((θ_run defs _ _).mono (fun _ h => h.2) (run_quiet m ρ))

/-- The run, its three results named by the pipeline's arrays and its arguments unchanged. -/
theorem run_arrays : θ_run defs (onTc (τ := τ) (main (F := F))) ⟨m, fun _ => 0, ρ⟩ (fun r => ∀ c : Dev nD,
      r.2.mem ((c.tc : Thread nD τ).loc main_v13_0) = (dat m 0 c).arrAt 5 cfg0.N
      ∧ r.2.mem ((c.tc : Thread nD τ).loc main_v13_1) = (dat m 0 c).arrAt 6 cfg0.N
      ∧ r.2.mem ((c.tc : Thread nD τ).loc main_v13_2) = (dat m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, h.2.1 c⟩)
    (θ_run_and (run_main m ρ) (frame_any m ρ))

end Cert.KernelIdeal.Ffn

end
-- ==== Proof.FfnSpec.lean ====
module

public import Idealize.ShloMosaic.Lib.Pointwise

/-! # The gradient of the gated convolution, one column at a time

Every column of the arrays is worked on by itself.  Here are the numbers the gradient of one column consists of, over the
extended reals, as sums and products of the column's inputs. -/

@[expose] public section

set_option maxRecDepth 16384

noncomputable section

namespace Cert.FfnSpec

open Idealize.ShloMosaic

/-- The hyperbolic tangent inside the approximate unit. -/
def th (z : EReal) : EReal :=
  Ideal.tanh (Ideal.ofBits FTy.f32 1061962282#32 * (z + Ideal.ofBits FTy.f32 1027024659#32 * (z * (z * z))))

/-- The factor by which the approximate unit multiplies its argument. -/
def half (z : EReal) : EReal := Ideal.ofBits FTy.f32 1056964608#32 * (1 + th z)

/-- The part of the gradient that comes through the hyperbolic tangent. -/
def inner (z u y : EReal) : EReal :=
  Ideal.ofBits FTy.f32 1061962282#32 * (Ideal.ofBits FTy.f32 1056964608#32 * (z * (y * u)) * ((1 + th z) * (1 - th z)))

/-- The gradient at the convolution's value `z`, the other factor being `u` and the incoming gradient `y`. -/
def dz (z u y : EReal) : EReal :=
  y * u * half z + inner z u y
    + Ideal.ofBits FTy.f32 1027024659#32 * inner z u y * (Ideal.ofBits FTy.f32 1077936128#32 * (z * z))

/-- One column: the gate under two rows of zeros, the other factor, the incoming gradient, the weights, the bias. -/
structure Col where
  /-- the gate, two rows later -/
  x : ℕ → EReal
  /-- the other factor -/
  u : ℕ → EReal
  /-- the incoming gradient -/
  y : ℕ → EReal
  /-- the weights -/
  w : Fin 3 → EReal
  /-- the bias -/
  b : EReal

namespace Col

variable (K : Col)

/-- The convolution's value at row `t`. -/
def z (t : ℕ) : EReal := ((K.w 0 * K.x t + K.w 1 * K.x (t + 1)) + K.w 2 * K.x (t + 2)) + K.b

/-- The gradient there, zero after the last row. -/
def d (t : ℕ) : EReal := if t < 8192 then dz (K.z t) (K.u t) (K.y t) else 0

/-- The gradient of the other factor. -/
def p (t : ℕ) : EReal := K.z t * half (K.z t) * K.y t

/-- The gradient of the gate. -/
def g (t : ℕ) : EReal := (K.w 2 * K.d t + K.w 1 * K.d (t + 1)) + K.w 0 * K.d (t + 2)

/-- What the rows from `T` on add to the gradient of the 8 rows before `T`. -/
def car (T r : ℕ) : EReal :=
  if r = 6 then K.w 0 * K.d T else if r = 7 then K.w 1 * K.d T + K.w 0 * K.d (T + 1) else 0

/-- What the rows from `T` on add to the gradient of weight `k`. -/
def sw (T k : ℕ) : EReal := ∑ t ∈ Finset.Ico T 8192, K.d t * K.x (t + k)

/-- What the rows from `T` on add to the gradient of the bias. -/
def sb (T : ℕ) : EReal := ∑ t ∈ Finset.Ico T 8192, K.d t

/-- After the last row the gradient is zero. -/
theorem d_end (t : ℕ) (h : 8192 ≤ t) : K.d t = 0 := if_neg (by omega)

/-- Nothing comes from after the last row. -/
theorem car_end (r : ℕ) : K.car 8192 r = 0 := by
  simp only [car, K.d_end 8192 le_rfl, K.d_end (8192 + 1) (by omega), mul_zero, add_zero, ite_self]

/-- A sum over the rows from `T` on, its first 256 rows apart. -/
theorem sum_split (f : ℕ → EReal) (T : ℕ) (hT : T + 256 ≤ 8192) :
    ∑ t ∈ Finset.Ico (T + 256) 8192, f t + ∑ r : Fin 256, f (T + r.val) = ∑ t ∈ Finset.Ico T 8192, f t := by
  rw [Fin.sum_univ_eq_sum_range (fun r => f (T + r)) 256,
    show ∑ r ∈ Finset.range 256, f (T + r) = ∑ t ∈ Finset.Ico T (T + 256), f t by
      rw [Finset.sum_Ico_eq_sum_range, Nat.add_sub_cancel_left], add_comm]
  exact Finset.sum_Ico_consecutive f (by omega) hT

end Col

/-- A matrix of `n` rows and `k` columns. -/
abbrev Mat (n k : ℕ) : Type := (⟨2, ![n, k]⟩ : Shape).Idx → EReal

/-- Entry `t` of a column of a matrix; zero after the last row. -/
def at' (A : Mat 8192 5632) (q : Fin 5632) (t : ℕ) : EReal := if h : t < 8192 then A (ix2 ⟨t, h⟩ q) else 0

/-- Column `q` of the gate, the other factor, the weights, the bias and the incoming gradient. -/
def colOf (A0 A1 : Mat 8192 5632) (A2 : Mat 3 5632) (A3 : Mat 1 5632) (A4 : Mat 8192 5632) (q : Fin 5632) : Col where
  x t := if t < 2 then 0 else at' A0 q (t - 2)
  u := at' A1 q
  y := at' A4 q
  w k := A2 (ix2 k q)
  b := A3 (ix2 0 q)

/-- An entry of a matrix is an entry of its column. -/
theorem entry_at (A : Mat 8192 5632) (q : Fin 5632) (r : Fin 8192) (t : ℕ) (h : r.val = t) : A (ix2 r q) = at' A q t := by
  subst h
  rw [at', dif_pos r.isLt]

/-- The same of an entry of the column under two rows of zeros. -/
theorem entry_pad (A : Mat 8192 5632) (q : Fin 5632) (r : Fin 8192) (t : ℕ) (h : r.val + 2 = t) :
    A (ix2 r q) = if t < 2 then 0 else at' A q (t - 2) := by
  rw [if_neg (by omega)]
  exact entry_at A q r _ (by omega)

section Results

variable (A0 A1 : Mat 8192 5632) (A2 : Mat 3 5632) (A3 : Mat 1 5632) (A4 : Mat 8192 5632)

/-- The gradients of the gate and of the other factor, 512 columns of one and 512 of the other by turns. -/
def outGU : Mat 8192 11264 := fun i =>
  if (i 1).val % 1024 < 512 then (colOf A0 A1 A2 A3 A4 ⟨(i 1).val / 1024 * 512 + (i 1).val % 512, by have := (i 1).isLt; change (i 1).val < 11264 at this; omega⟩).g (i 0).val
  else (colOf A0 A1 A2 A3 A4 ⟨(i 1).val / 1024 * 512 + (i 1).val % 512, by have := (i 1).isLt; change (i 1).val < 11264 at this; omega⟩).p (i 0).val

/-- The gradient of the weights, 512 columns at a time. -/
def outW : (⟨3, ![11, 3, 512]⟩ : Shape).Idx → EReal := fun i =>
  (colOf A0 A1 A2 A3 A4 ⟨(i 0).val * 512 + (i 2).val, by
    have h0 := (i 0).isLt; have h2 := (i 2).isLt; change (i 0).val < 11 at h0; change (i 2).val < 512 at h2; omega⟩).sw 0 (i 1).val

/-- The gradient of the bias, 512 columns at a time. -/
def outB : (⟨3, ![11, 1, 512]⟩ : Shape).Idx → EReal := fun i =>
  (colOf A0 A1 A2 A3 A4 ⟨(i 0).val * 512 + (i 2).val, by
    have h0 := (i 0).isLt; have h2 := (i 2).isLt; change (i 0).val < 11 at h0; change (i 2).val < 512 at h2; omega⟩).sb 0

end Results

end Cert.FfnSpec

end
-- ==== Proof.FfnChunk.lean ====
module

public import proofs.«01_k».proof.Proof.FfnTrip
public import proofs.«01_k».proof.Proof.FfnSpec

/-! # What one chunk computes, column by column -/

@[expose] public section

set_option maxRecDepth 16384

noncomputable section

namespace Cert.KernelIdeal.Ffn

open Cert.KernelIdeal Cert.KernelIdeal.Gen Cert.FfnSpec
open Idealize.ShloMosaic

/-- Chunk `C` holds, in lane `l`, the rows of column `K` from `T` on. -/
structure Fits (C : Chunk Ideal) (l : Fin 512) (K : Col) (T : ℕ) : Prop where
  /-- the chunk ends before the column does -/
  le : T + 256 ≤ 8192
  /-- the gate -/
  x : ∀ r : Fin 256, C.gu (ix2 r ⟨l.val, by omega⟩) = K.x (T + r.val + 2)
  /-- the other factor -/
  u : ∀ r : Fin 256, C.gu (ix2 r ⟨512 + l.val, by omega⟩) = K.u (T + r.val)
  /-- the incoming gradient -/
  y : ∀ r : Fin 256, C.dy (ix2 r l) = K.y (T + r.val)
  /-- the row two before the chunk -/
  x6 : C.halo (ix4 0 0 6 l) = K.x T
  /-- the row before the chunk -/
  x7 : C.halo (ix4 0 0 7 l) = K.x (T + 1)
  /-- the weights -/
  w : ∀ k : Fin 3, C.w (ix3 0 k l) = K.w k
  /-- the bias -/
  b : C.b (ix3 0 0 l) = K.b

variable {C : Chunk Ideal} {l : Fin 512} {K : Col} {T : ℕ} (h : Fits C l K T)

include h

/-- The chunk's rows under the 8 before it: from the sixth on they are the column's. -/
theorem Fits.rows (i : Fin 264) (hi : 6 ≤ i.val) : k0_pay10 C.gu C.halo (ix2 i l) = K.x (T + i.val - 6) := by
  pointwise [k0_pay10, k0_pay7]
  split
  · next h8 =>
    obtain h6 | h7 : i.val = 6 ∨ i.val = 7 := by omega
    · rw [show (⟨i.val, by omega⟩ : Fin 8) = 6 from Fin.ext h6, h.x6, h6, Nat.add_sub_cancel]
    · rw [show (⟨i.val, by omega⟩ : Fin 8) = 7 from Fin.ext h7, h.x7, h7]; rfl
  · next h8 => rw [h.x]; congr 1; dsimp only; omega

/-- The gate two rows before. -/
theorem Fits.r0 (r : Fin 256) : k0_pay12 C.gu C.halo (ix2 r l) = K.x (T + r.val) := by
  unfold k0_pay12
  pointwise
  rw [h.rows _ (by dsimp only; omega)]; congr 1; dsimp only; omega

/-- The gate one row before. -/
theorem Fits.r1 (r : Fin 256) : k0_pay14 C.gu C.halo (ix2 r l) = K.x (T + r.val + 1) := by
  unfold k0_pay14
  pointwise
  rw [h.rows _ (by dsimp only; omega)]; congr 1; dsimp only; omega

/-- The gate. -/
theorem Fits.r2 (r : Fin 256) : k0_pay16 C.gu C.halo (ix2 r l) = K.x (T + r.val + 2) := by
  unfold k0_pay16
  pointwise
  rw [h.rows _ (by dsimp only; omega)]; congr 1; dsimp only; omega

/-- The first weight. -/
theorem Fits.w0 : k0_pay11 C.w (ix2 0 l) = K.w 0 := by
  rw [← h.w]; pointwise [k0_pay11, k0_pay8]
/-- The middle weight. -/
theorem Fits.w1 : k0_pay13 C.w (ix2 0 l) = K.w 1 := by
  rw [← h.w]; pointwise [k0_pay13, k0_pay8]
/-- The last weight. -/
theorem Fits.w2 : k0_pay15 C.w (ix2 0 l) = K.w 2 := by
  rw [← h.w]; pointwise [k0_pay15, k0_pay8]

/-- The convolution's value. -/
theorem Fits.z (r : Fin 256) : C.z (ix2 r l) = K.z (T + r.val) := by
  unfold Chunk.z k0_pay17 Col.z
  pointwise
  rw [h.r0, h.r1, h.r2, h.w0, h.w1, h.w2, h.b]
  simp only [add_comm, add_left_comm, add_assoc]

/-- The gradient there. -/
theorem Fits.d (r : Fin 256) : C.d (ix2 r l) = K.d (T + r.val) := by
  have hz := h.z r
  unfold Chunk.z at hz
  have := h.le
  rw [Col.d, if_pos (by omega)]
  unfold Chunk.d Chunk.z3 Chunk.z2 Chunk.z k0_pay24 k0_pay20 k0_pay21 k0_pay18 k0_pay19 dz FfnSpec.inner half th
  pointwise [k0_pay9, k0_pay20, k0_pay7]
  rw [hz, h.u, h.y]

/-- The gradient of the other factor. -/
theorem Fits.p (r : Fin 256) : k0_pay23 C.dy C.z C.z3 (ix2 r l) = K.p (T + r.val) := by
  have hz := h.z r
  unfold Chunk.z at hz
  unfold Chunk.z3 Chunk.z k0_pay18 Col.p half th
  pointwise [k0_pay23, k0_pay21, k0_pay20]
  rw [hz, h.y]

/-- The gradient times the last weight, under 8 rows of zeros. -/
theorem Fits.d2 (i : Fin 264) : C.d2 (ix2 i l) = if i.val < 8 then 0 else K.w 2 * K.d (T + (i.val - 8)) := by
  unfold Chunk.d2 k0_pay25
  pointwise
  split
  · rfl
  · rw [h.w2, show k0_pay24 C.dy (k0_pay9 C.gu) C.z C.z3 C.z2 = C.d from rfl, h.d]

/-- The gradient times the middle weight. -/
theorem Fits.d1 (r : Fin 256) : C.d1 (ix2 r l) = K.w 1 * K.d (T + r.val) := by
  unfold Chunk.d1 k0_pay27
  pointwise
  rw [h.w1, show k0_pay24 C.dy (k0_pay9 C.gu) C.z C.z3 C.z2 = C.d from rfl, h.d]

/-- The three products added up, each moved back to the row it belongs to. -/
theorem Fits.dx (i : Fin 264) : k0_pay30 (k0_pay11 C.w) C.d C.d2 C.d1 (ix2 i l)
    = ((if i.val < 8 then 0 else K.w 2 * K.d (T + (i.val - 8)))
        + (if i.val < 7 ∨ i.val = 263 then 0 else K.w 1 * K.d (T + (i.val - 7))))
      + (if i.val < 6 ∨ 262 ≤ i.val then 0 else K.w 0 * K.d (T + (i.val - 6))) := by
  pointwise [k0_pay30]
  rw [h.d2]
  congr 1
  · congr 1
    by_cases h7 : i.val < 7 ∨ i.val = 263
    · rw [if_pos h7, dif_pos (by omega)]
    · rw [if_neg h7, dif_neg (by omega), h.d1]; exact congrArg (fun n => K.w 1 * K.d n) (by dsimp only; omega)
  · by_cases h7 : i.val < 6 ∨ 262 ≤ i.val
    · rw [if_pos h7, dif_pos (by omega)]
    · rw [if_neg h7, dif_neg (by omega), h.w0, h.d]; exact congrArg (fun n => K.w 0 * K.d n) (by dsimp only; omega)

/-- The rows the chunk carries. -/
theorem Fits.car (r : Fin 8) : C.car (ix3 0 r l) = K.car T r.val := by
  unfold Chunk.car k0_pay32
  pointwise
  refine (h.dx ⟨r.val, by omega⟩).trans ?_
  have hr := r.isLt
  unfold Col.car
  dsimp only
  generalize r.val = n at hr
  rw [if_pos hr, zero_add]
  obtain h6 | rfl | rfl : n < 6 ∨ n = 6 ∨ n = 7 := by omega
  · rw [if_pos (by omega), if_pos (by omega), if_neg (by omega), if_neg (by omega), add_zero]
  · rw [if_pos (by omega), if_neg (by omega), if_pos rfl, zero_add]; rfl
  · rw [if_neg (by omega), if_neg (by omega), if_neg (by omega), if_pos rfl]; rfl

/-- What the chunk writes of the gate's gradient, the carried rows being those of the rows after it. -/
theorem Fits.gate (a : Vec Ideal S1x8x512 .f32) (ha : ∀ r : Fin 8, a (ix3 0 r l) = K.car (T + 256) r.val) (r : Fin 256) :
    C.out a (ix2 r ⟨l.val, by omega⟩) = K.g (T + r.val) := by
  unfold Chunk.out k0_pay33
  pointwise [k0_pay22, k0_pay6]
  refine (congrArg (_ + ·) (h.dx ⟨8 + r.val, by omega⟩)).trans ?_
  have hr := r.isLt
  simp only [ha]
  unfold Col.g Col.car
  generalize r.val = n at hr
  rw [if_neg (by omega : ¬ 8 + n < 8), show 8 + n - 8 = n by omega, show 8 + n - 7 = n + 1 by omega, show 8 + n - 6 = n + 2 by omega]
  obtain h6 | rfl | rfl : n < 254 ∨ n = 254 ∨ n = 255 := by omega
  · rw [if_neg (by omega : ¬ (8 + n < 7 ∨ 8 + n = 263)), if_neg (by omega : ¬ (8 + n < 6 ∨ 262 ≤ 8 + n))]
    by_cases h2 : n < 248
    · rw [dif_pos h2, zero_add]; rfl
    · rw [dif_neg h2, if_neg (by omega), if_neg (by omega), zero_add]; rfl
  · simp only [Nat.reduceAdd, Nat.reduceSub, Nat.reduceLT, Nat.reduceLeDiff, Nat.reduceEqDiff, ↓reduceDIte, ↓reduceIte, or_true, or_false, or_self, add_zero]
    rw [add_comm]
  · simp only [Nat.reduceAdd, Nat.reduceSub, Nat.reduceLT, Nat.reduceLeDiff, Nat.reduceEqDiff, ↓reduceDIte, ↓reduceIte, or_true, or_false, or_self, add_zero]
    rw [add_comm, ← add_assoc]

/-- What it writes of the other factor's gradient. -/
theorem Fits.up (a : Vec Ideal S1x8x512 .f32) (r : Fin 256) :
    C.out a (ix2 r ⟨512 + l.val, by omega⟩) = K.p (T + r.val) := by
  unfold Chunk.out k0_pay33
  pointwise
  exact h.p r

/-- The weights' running sum after the chunk. -/
theorem Fits.sw (a : Vec Ideal S1x3x512 .f32) (k : Fin 3) (ha : a (ix3 0 k l) = K.sw (T + 256) k.val) :
    C.accW a (ix3 0 k l) = K.sw T k.val := by
  unfold Chunk.accW
  pointwise [k0_pay4, k0_pay31, k0_pay26, k0_pay28]
  simp only [h.r0, h.r1, h.r2, show k0_pay24 C.dy (k0_pay9 C.gu) C.z C.z3 C.z2 = C.d from rfl, h.d, ha]
  unfold Col.sw
  rw [← Col.sum_split (fun t => K.d t * K.x (t + k.val)) T h.le]
  congr 1
  obtain ⟨n, hn⟩ := k
  dsimp only
  obtain rfl | rfl | rfl : n = 0 ∨ n = 1 ∨ n = 2 := by omega
  all_goals simp only [Nat.reduceLT, ↓reduceDIte, add_zero, zero_add]

/-- The bias's running sum after it. -/
theorem Fits.sb (a : Vec Ideal S1x1x512 .f32) (ha : a (ix3 0 0 l) = K.sb (T + 256)) :
    C.accB a (ix3 0 0 l) = K.sb T := by
  unfold Chunk.accB
  pointwise [k0_pay5, k0_pay29]
  simp only [h.d, ha]
  unfold Col.sb
  rw [← Col.sum_split K.d T h.le]

end Cert.KernelIdeal.Ffn

end
-- ==== Proof.FfnHost.lean ====
module

public import proofs.«01_k».proof.Proof.FfnRun
public import proofs.«01_k».proof.Proof.FfnChunk
public import Idealize.ShloMosaic.Lib.Pipeline.ValueKit.Point
public import Idealize.ShloMosaic.Lib.StableHlo.ReadAt

/-! # What the windows bring, column by column -/

@[expose] public section

set_option maxRecDepth 16384

noncomputable section

namespace Cert.KernelIdeal.Ffn

open Cert.KernelIdeal Cert.KernelIdeal.Gen Cert.FfnSpec
open Idealize.ShloMosaic

/-- Where the blocks of grid point `t` lie. -/
theorem idx : ∀ t : Fin cfg0.N, win0_0.index t = ![15 - t.val % 16, t.val / 16] ∧ win0_1.index t = ![15 - t.val % 16, t.val / 16]
    ∧ win0_2.index t = ![t.val / 16, 15 - t.val % 16, 0, 0] ∧ win0_3.index t = ![t.val / 16, 0, 0]
    ∧ win0_4.index t = ![t.val / 16, 0, 0] ∧ win0_5.index t = ![15 - t.val % 16, t.val / 16]
    ∧ win0_6.index t = ![t.val / 16, 0, 0] ∧ win0_7.index t = ![t.val / 16, 0, 0] := by decide +kernel

/-- There are 176 grid points. -/
theorem lt_N (t : Fin cfg0.N) : t.val < 176 := lt_of_lt_of_eq t.isLt N_0

variable (m : (ℓ : Loc nD τ sig) → Buf (Elt Ideal) ℓ) (c : Dev nD)

/-- Core `c`'s argument 0: the gate. -/
abbrev arg0 : S8192x5632.Idx → EReal := m (c.tc.loc main_arg0)

/-- Core `c`'s argument 1: the other factor. -/
abbrev arg1 : S8192x5632.Idx → EReal := m (c.tc.loc main_arg1)

/-- Core `c`'s argument 2: the weights. -/
abbrev arg2 : S3x5632.Idx → EReal := m (c.tc.loc main_arg2)

/-- Core `c`'s argument 3: the bias. -/
abbrev arg3 : S1x5632.Idx → EReal := m (c.tc.loc main_arg3)

/-- Core `c`'s argument 4: the incoming gradient. -/
abbrev arg4 : S8192x5632.Idx → EReal := m (c.tc.loc main_arg4)

/-- The gate's lane of a group. -/
theorem host_gate (t : Fin 8192) (g : Fin 11) (l : Fin 512) :
    V m c main_v3 (ix2 t ⟨1024 * g.val + l.val, by omega⟩) = arg0 m c (ix2 t ⟨g.val * 512 + l.val, by omega⟩) := by
  entry_read
  pointwise
  rw [dif_pos (by omega)]

/-- The other factor's lane of a group. -/
theorem host_up (t : Fin 8192) (g : Fin 11) (l : Fin 512) :
    V m c main_v3 (ix2 t ⟨1024 * g.val + 512 + l.val, by omega⟩) = arg1 m c (ix2 t ⟨g.val * 512 + l.val, by omega⟩) := by
  entry_read
  pointwise
  rw [dif_neg (by omega)]

set_option maxHeartbeats 2000000 in
/-- The rows before a block's 256 rows. -/
theorem host_halo (g : Fin 11) (n : Fin 32) (r : Fin 8) (l : Fin 512) :
    V m c main_v9 (ix4 g n r l) = (if h : n.val = 0 then (0 : EReal) else
      arg0 m c (ix2 ⟨256 * n.val - 8 + r.val, by omega⟩ ⟨g.val * 512 + l.val, by omega⟩)) := by
  entry_read
  pointwise
  by_cases h : n.val = 0
  · rw [dif_pos (by omega), dif_pos h]
  · rw [dif_neg (by omega), dif_neg h]
    exact congrArg (arg0 m c) (congrArg (fun z => ix2 z _) (Fin.ext (by dsimp only; omega)))

/-- The weights of a group. -/
theorem host_w (g : Fin 11) (k : Fin 3) (l : Fin 512) :
    V m c main_v11 (ix3 g k l) = arg2 m c (ix2 k ⟨g.val * 512 + l.val, by omega⟩) := by
  entry_read
  pointwise

/-- The bias of a group. -/
theorem host_b (g : Fin 11) (l : Fin 512) :
    V m c main_v12 (ix3 g 0 l) = arg3 m c (ix2 0 ⟨g.val * 512 + l.val, by omega⟩) := by
  entry_read
  pointwise

end Cert.KernelIdeal.Ffn

end
-- ==== Proof.FfnBlocks.lean ====
module

public import proofs.«01_k».proof.Proof.FfnHost
public import proofs.«01_k».proof.Proof.FfnChunk
public import Idealize.ShloMosaic.Lib.Pipeline.ValueKit.Point
public import Idealize.ShloMosaic.Lib.StableHlo.ReadAt

/-! # What the windows bring, column by column -/

@[expose] public section

set_option maxRecDepth 16384

noncomputable section

namespace Cert.KernelIdeal.Ffn

open Cert.KernelIdeal Cert.KernelIdeal.Gen Cert.FfnSpec
open Idealize.ShloMosaic

variable (m : (ℓ : Loc nD τ sig) → Buf (Elt Ideal) ℓ) (c : Dev nD)

/-- The first window's block. -/
theorem blk0 (t : Fin cfg0.N) (r : Fin 512) (q : Fin 1024) :
    iblk m c 0 t (ix2 r q) = V m c main_v3 (ix2 ⟨512 * (15 - t.val % 16) + r.val, by omega⟩
      ⟨1024 * (t.val / 16) + q.val, by have := lt_N t; omega⟩) := by
  obtain ⟨h0, h1, h2, h3, h4, -⟩ := idx t
  blk_ext [iblk, h0]

/-- The second window's block. -/
theorem blk1 (t : Fin cfg0.N) (r : Fin 512) (q : Fin 512) :
    iblk m c 1 t (ix2 r q) = V m c main_arg4 (ix2 ⟨512 * (15 - t.val % 16) + r.val, by omega⟩
      ⟨t.val / 16 * 512 + q.val, by have := lt_N t; omega⟩) := by
  obtain ⟨h0, h1, h2, h3, h4, -⟩ := idx t
  blk_ext [iblk, h1]

/-- Where the third window's block lies. -/
theorem emb2 (t : Fin cfg0.N) (y : (win0_2.xblock (grid0.coords t)).Idx) (a : Fin 4) :
    ((win0_2.blk t).view.emb y a : ℕ) = win0_2.index t a * S1x2x8x512.size a + (y a : ℕ) := by
  blk_simp

/-- The third window's block of any contents. -/
theorem read2 (f : S11x32x8x512.Idx → EReal) (t : Fin cfg0.N) (j : Fin 2) (r : Fin 8) (l : Fin 512) :
    (win0_2.blk t).view.read (Elt Ideal) f (ix4 0 j r l) = f (ix4 ⟨t.val / 16, by have := lt_N t; omega⟩
      ⟨2 * (15 - t.val % 16) + j.val, by omega⟩ r l) := by
  obtain ⟨-, -, h2, -⟩ := idx t
  refine congrArg f (funext fun a => Fin.ext ?_)
  refine (emb2 t (ix4 0 j r l) a).trans ?_
  rw [h2]
  revert a
  refine Fin.forall_fin_succ.2 ⟨?_, Fin.forall_fin_succ.2 ⟨?_, Fin.forall_fin_succ.2 ⟨?_, Fin.forall_fin_succ.2 ⟨?_, fun a => a.elim0⟩⟩⟩⟩
  · show t.val / 16 * 1 + 0 = t.val / 16
    omega
  · show (15 - t.val % 16) * 2 + j.val = 2 * (15 - t.val % 16) + j.val
    omega
  · show 0 * 8 + r.val = r.val
    omega
  · show 0 * 512 + l.val = l.val
    omega

/-- The third window's block. -/
theorem blk2 (t : Fin cfg0.N) (j : Fin 2) (r : Fin 8) (l : Fin 512) :
    iblk m c 2 t (ix4 0 j r l) = V m c main_v9 (ix4 ⟨t.val / 16, by have := lt_N t; omega⟩
      ⟨2 * (15 - t.val % 16) + j.val, by omega⟩ r l) := by
  exact read2 (V m c main_v9) t j r l

/-- The fourth window's block. -/
theorem blk3 (t : Fin cfg0.N) (k : Fin 3) (l : Fin 512) :
    iblk m c 3 t (ix3 0 k l) = V m c main_v11 (ix3 ⟨t.val / 16, by have := lt_N t; omega⟩
      k l) := by
  obtain ⟨h0, h1, h2, h3, h4, -⟩ := idx t
  blk_ext [iblk, h3]

/-- The fifth window's block. -/
theorem blk4 (t : Fin cfg0.N) (l : Fin 512) :
    iblk m c 4 t (ix3 0 0 l) = V m c main_v12 (ix3 ⟨t.val / 16, by have := lt_N t; omega⟩
      0 l) := by
  obtain ⟨h0, h1, h2, h3, h4, -⟩ := idx t
  blk_ext [iblk, h4]

/-- A window's block of 256 rows of a block of 512 rows. -/
theorem rows_of (x : Vec Ideal S512x1024 .f32) (k : Fin k0_t1_loop.trips) (r : Fin 256) (q : Fin 1024) :
    VecWindow.window x (k0_off1 k) S256x1024.size (k0_off1_inb k) (ix2 r q)
      = x (ix2 ⟨256 - 256 * k.val + r.val, by omega⟩ q) := by
  refine congrArg x (funext fun a => Fin.ext ?_)
  have h := k0_off1_eq k
  fin_cases a
  · show k0_off1 k 0 + 1 * r.val = _
    rw [h]; simp
  · show k0_off1 k 1 + 1 * q.val = _
    rw [h]; simp

/-- The same of a block half as wide. -/
theorem rows_of' (x : Vec Ideal S512x512 .f32) (k : Fin k0_t1_loop.trips) (r : Fin 256) (q : Fin 512) :
    VecWindow.window x (k0_off2 k) S256x512.size (k0_off2_inb k) (ix2 r q)
      = x (ix2 ⟨256 - 256 * k.val + r.val, by omega⟩ q) := by
  refine congrArg x (funext fun a => Fin.ext ?_)
  have h := k0_off2_eq k
  fin_cases a
  · show k0_off2 k 0 + 1 * r.val = _
    rw [h]; simp
  · show k0_off2 k 1 + 1 * q.val = _
    rw [h]; simp

/-- One of the two blocks of 8 rows. -/
theorem rows_of_halo (x : Vec Ideal S1x2x8x512 .f32) (k : Fin k0_t1_loop.trips) (r : Fin 8) (l : Fin 512) :
    VecWindow.window x (k0_off3 k) S1x1x8x512.size (k0_off3_inb k) (ix4 0 0 r l)
      = x (ix4 0 ⟨1 - k.val, by omega⟩ r l) := by
  refine congrArg x (funext fun a => Fin.ext ?_)
  have h := k0_off3_eq k
  fin_cases a
  · show k0_off3 k 0 + 1 * 0 = _
    rw [h]; simp
  · show k0_off3 k 1 + 1 * 0 = _
    rw [h]; simp
  · show k0_off3 k 2 + 1 * r.val = _
    rw [h]; simp
  · show k0_off3 k 3 + 1 * l.val = _
    rw [h]; simp

end Cert.KernelIdeal.Ffn

end
-- ==== Proof.FfnFits.lean ====
module

public import proofs.«01_k».proof.Proof.FfnBlocks
public import proofs.«01_k».proof.Proof.FfnChunk
public import Idealize.ShloMosaic.Lib.Pipeline.ValueKit.Point
public import Idealize.ShloMosaic.Lib.StableHlo.ReadAt

/-! # What the windows bring, column by column -/

@[expose] public section

set_option maxRecDepth 16384

noncomputable section

namespace Cert.KernelIdeal.Ffn

open Cert.KernelIdeal Cert.KernelIdeal.Gen Cert.FfnSpec
open Idealize.ShloMosaic

variable (m : (ℓ : Loc nD τ sig) → Buf (Elt Ideal) ℓ) (c : Dev nD)

/-- The column of a lane of a grid point's group. -/
def colAt (t : Fin cfg0.N) (l : Fin 512) : Col :=
  colOf (arg0 m c) (arg1 m c) (arg2 m c) (arg3 m c) (arg4 m c) ⟨t.val / 16 * 512 + l.val, by have := lt_N t; omega⟩

/-- A trip works on the rows it should: the gate's. -/
theorem fit_x (t : Fin cfg0.N) (k : Fin k0_t1_loop.trips) (l : Fin 512) (r : Fin 256) :
    (chunk (iblk m c 0 t) (iblk m c 1 t) (iblk m c 2 t) (iblk m c 3 t) (iblk m c 4 t) k).gu (ix2 r ⟨l.val, by omega⟩)
      = (colAt m c t l).x (512 * (15 - t.val % 16) + (256 - 256 * k.val) + r.val + 2) := by
  have ht := lt_N t
  refine (rows_of (iblk m c 0 t) k r _).trans ?_
  refine (blk0 m c t _ _).trans ?_
  refine (host_gate m c _ ⟨t.val / 16, by omega⟩ l).trans ?_
  exact entry_pad (arg0 m c) _ _ (512 * (15 - t.val % 16) + (256 - 256 * k.val) + r.val + 2) (by first | (dsimp only; omega) | (dsimp only; done) | omega)

/-- The other factor's. -/
theorem fit_u (t : Fin cfg0.N) (k : Fin k0_t1_loop.trips) (l : Fin 512) (r : Fin 256) :
    (chunk (iblk m c 0 t) (iblk m c 1 t) (iblk m c 2 t) (iblk m c 3 t) (iblk m c 4 t) k).gu (ix2 r ⟨512 + l.val, by omega⟩)
      = (colAt m c t l).u (512 * (15 - t.val % 16) + (256 - 256 * k.val) + r.val) := by
  have ht := lt_N t
  refine (rows_of (iblk m c 0 t) k r _).trans ?_
  refine (blk0 m c t _ _).trans ?_
  have e : (⟨1024 * (t.val / 16) + (512 + l.val), by omega⟩ : Fin 11264) = ⟨1024 * (t.val / 16) + 512 + l.val, by omega⟩ :=
    Fin.ext (Nat.add_assoc _ _ _).symm
  refine (congrArg (fun z : Fin 11264 => V m c main_v3 (ix2 _ z)) e).trans ?_
  refine (host_up m c _ ⟨t.val / 16, by omega⟩ l).trans ?_
  exact entry_at (arg1 m c) _ _ (512 * (15 - t.val % 16) + (256 - 256 * k.val) + r.val) (by first | (dsimp only; omega) | (dsimp only; done) | omega)

/-- The incoming gradient's. -/
theorem fit_y (t : Fin cfg0.N) (k : Fin k0_t1_loop.trips) (l : Fin 512) (r : Fin 256) :
    (chunk (iblk m c 0 t) (iblk m c 1 t) (iblk m c 2 t) (iblk m c 3 t) (iblk m c 4 t) k).dy (ix2 r l)
      = (colAt m c t l).y (512 * (15 - t.val % 16) + (256 - 256 * k.val) + r.val) := by
  have ht := lt_N t
  refine (rows_of' (iblk m c 1 t) k r _).trans ?_
  refine (blk1 m c t _ _).trans ?_
  refine (congrFun (V_main_arg4 m c) _).trans ?_
  exact entry_at (arg4 m c) _ _ (512 * (15 - t.val % 16) + (256 - 256 * k.val) + r.val) (by first | (dsimp only; omega) | (dsimp only; done) | omega)

/-- The two rows before. -/
theorem fit_halo (t : Fin cfg0.N) (k : Fin k0_t1_loop.trips) (l : Fin 512) (r : Fin 8) (hr : 6 ≤ r.val) :
    (chunk (iblk m c 0 t) (iblk m c 1 t) (iblk m c 2 t) (iblk m c 3 t) (iblk m c 4 t) k).halo (ix4 0 0 r l)
      = (colAt m c t l).x (512 * (15 - t.val % 16) + (256 - 256 * k.val) + (r.val - 6)) := by
  have ht := lt_N t
  have hk : k.val < 2 := lt_of_lt_of_eq k.isLt trips_eq
  refine (rows_of_halo (iblk m c 2 t) k r l).trans ?_
  refine (blk2 m c t _ _ _).trans ?_
  refine (host_halo m c _ _ _ _).trans ?_
  by_cases h : 2 * (15 - t.val % 16) + (1 - k.val) = 0
  · refine (dif_pos h).trans (Eq.symm (if_pos ?_))
    omega
  · refine (dif_neg h).trans ?_
    exact entry_pad (arg0 m c) _ _ (512 * (15 - t.val % 16) + (256 - 256 * k.val) + (r.val - 6)) (by first | (dsimp only; omega) | (dsimp only; done) | omega)

/-- A trip of a grid point works on the rows it should. -/
theorem fits (t : Fin cfg0.N) (k : Fin k0_t1_loop.trips) (l : Fin 512) :
    Fits (chunk (iblk m c 0 t) (iblk m c 1 t) (iblk m c 2 t) (iblk m c 3 t) (iblk m c 4 t) k) l (colAt m c t l)
      (512 * (15 - t.val % 16) + (256 - 256 * k.val)) where
  le := by omega
  x := fit_x m c t k l
  u := fit_u m c t k l
  y := fit_y m c t k l
  x6 := fit_halo m c t k l 6 (by decide)
  x7 := fit_halo m c t k l 7 (by decide)
  w k := (blk3 m c t k l).trans (host_w m c _ k l)
  b := (blk4 m c t l).trans (host_b m c _ l)

end Cert.KernelIdeal.Ffn

end
-- ==== Proof.FfnPoint.lean ====
module

public import proofs.«01_k».proof.Proof.FfnFits
public import proofs.«01_k».proof.Proof.FfnChunk
public import Idealize.ShloMosaic.Lib.Pipeline.ValueKit.Point
public import Idealize.ShloMosaic.Lib.StableHlo.ReadAt

/-! # What a grid point leaves, column by column -/

@[expose] public section

set_option maxRecDepth 16384

noncomputable section

namespace Cert.KernelIdeal.Ffn

open Cert.KernelIdeal Cert.KernelIdeal.Gen Cert.FfnSpec
open Idealize.ShloMosaic

/-- A row of the part just written. -/
theorem put_in (x : Vec Ideal S512x1024 .bf16) (k : Fin k0_t1_loop.trips) (w : Vec Ideal S256x1024 .bf16) (r : Fin 256) (q : Fin 1024)
    (R : Fin 512) (hR : R.val = 256 - 256 * k.val + r.val) :
    VecWindow.put x (k0_off1 k) S256x1024.size w (ix2 R q) = w (ix2 r q) := by
  have e := k0_off1_eq k
  have h : ∀ a, k0_off1 k a ≤ ((ix2 R q : S512x1024.Idx) a).val ∧ ((ix2 R q : S512x1024.Idx) a).val < k0_off1 k a + S256x1024.size a := by
    rw [e]
    refine Fin.forall_fin_two.2 ⟨?_, ?_⟩
    · show 256 - 256 * k.val ≤ R.val ∧ R.val < 256 - 256 * k.val + 256
      omega
    · show 0 ≤ q.val ∧ q.val < 0 + 1024
      omega
  unfold VecWindow.put
  refine (dif_pos h).trans (congrArg w (funext fun a => Fin.ext ?_))
  revert a
  refine Fin.forall_fin_two.2 ⟨?_, ?_⟩
  · show R.val - k0_off1 k 0 = r.val
    rw [e]
    show R.val - (256 - 256 * k.val) = r.val
    omega
  · show q.val - k0_off1 k 1 = q.val
    rw [e]
    show q.val - 0 = q.val
    omega

/-- A row of the rest. -/
theorem put_out (x : Vec Ideal S512x1024 .bf16) (k : Fin k0_t1_loop.trips) (w : Vec Ideal S256x1024 .bf16) (q : Fin 1024)
    (R : Fin 512) (hR : R.val < 256 - 256 * k.val ∨ 256 - 256 * k.val + 256 ≤ R.val) :
    VecWindow.put x (k0_off1 k) S256x1024.size w (ix2 R q) = x (ix2 R q) := by
  have e := k0_off1_eq k
  unfold VecWindow.put
  refine dif_neg fun h => ?_
  have h0 := h 0
  rw [e] at h0
  have h0' : 256 - 256 * k.val ≤ R.val ∧ R.val < 256 - 256 * k.val + 256 := h0
  omega

/-- The running sums and the carried rows are those of the rows from `T` on. -/
structure Inv (a : Vec Ideal S1x3x512 .f32 × Vec Ideal S1x1x512 .f32 × Vec Ideal S1x8x512 .f32) (K : Fin 512 → Col) (T : ℕ) : Prop where
  /-- the weights' -/
  sw : ∀ (l : Fin 512) (k : Fin 3), a.1 (ix3 0 k l) = (K l).sw T k.val
  /-- the bias's -/
  sb : ∀ l : Fin 512, a.2.1 (ix3 0 0 l) = (K l).sb T
  /-- the carried rows -/
  car : ∀ (l : Fin 512) (r : Fin 8), a.2.2 (ix3 0 r l) = (K l).car T r.val

/-- Row `R` of the output block is the columns' row `T`. -/
def Out (y : Vec Ideal S512x1024 .bf16) (K : Fin 512 → Col) (R : Fin 512) (T : ℕ) : Prop :=
  ∀ l : Fin 512, y (ix2 R ⟨l.val, by omega⟩) = (K l).g T ∧ y (ix2 R ⟨512 + l.val, by omega⟩) = (K l).p T

/-- At the start of a group nothing has been summed. -/
theorem inv_zero (K : Fin 512 → Col) : Inv zeroSt K 8192 where
  sw l k := by
    unfold zeroSt Col.sw
    pointwise [k0_pay2]
    rw [Finset.Ico_self, Finset.sum_empty]
  sb l := by
    unfold zeroSt Col.sb
    pointwise [k0_pay3]
    rw [Finset.Ico_self, Finset.sum_empty]
  car l r := by
    rw [(K l).car_end]
    unfold zeroSt
    pointwise [k0_pay1]

variable (m : (ℓ : Loc nD τ sig) → Buf (Elt Ideal) ℓ) (c : Dev nD)

/-- One trip. -/
theorem inv_step (t : Fin cfg0.N) (k : Fin k0_t1_loop.trips) (s : St Ideal) (T : ℕ)
    (hT : T = 512 * (15 - t.val % 16) + (256 - 256 * k.val)) (h : Inv s.2 (colAt m c t) (T + 256)) :
    Inv (stepAt (iblk m c 0 t) (iblk m c 1 t) (iblk m c 2 t) (iblk m c 3 t) (iblk m c 4 t) k s).2 (colAt m c t) T where
  sw l j := by
    subst hT
    exact (fits m c t k l).sw s.2.1 j (h.sw l j)
  sb l := by
    subst hT
    exact (fits m c t k l).sb s.2.2.1 (h.sb l)
  car l r := by
    subst hT
    exact (fits m c t k l).car r

/-- What a trip writes. -/
theorem out_step (t : Fin cfg0.N) (k : Fin k0_t1_loop.trips) (s : St Ideal) (T : ℕ)
    (hT : T = 512 * (15 - t.val % 16) + (256 - 256 * k.val)) (h : Inv s.2 (colAt m c t) (T + 256))
    (r : Fin 256) (R : Fin 512) (hR : R.val = 256 - 256 * k.val + r.val) :
    Out (stepAt (iblk m c 0 t) (iblk m c 1 t) (iblk m c 2 t) (iblk m c 3 t) (iblk m c 4 t) k s).1 (colAt m c t) R (T + r.val) := by
  subst hT
  intro l
  exact ⟨(put_in _ k _ r _ R hR).trans ((fits m c t k l).gate s.2.2.2 (h.car l) r),
    (put_in _ k _ r _ R hR).trans ((fits m c t k l).up s.2.2.2 r)⟩

/-- What it leaves as it was. -/
theorem out_keep (t : Fin cfg0.N) (k : Fin k0_t1_loop.trips) (s : St Ideal)
    (R : Fin 512) (hR : R.val < 256 - 256 * k.val ∨ 256 - 256 * k.val + 256 ≤ R.val) (T : ℕ) (h : Out s.1 (colAt m c t) R T) :
    Out (stepAt (iblk m c 0 t) (iblk m c 1 t) (iblk m c 2 t) (iblk m c 3 t) (iblk m c 4 t) k s).1 (colAt m c t) R T :=
  fun l => ⟨(put_out _ k _ _ R hR).trans (h l).1, (put_out _ k _ _ R hR).trans (h l).2⟩

/-- One grid point. -/
theorem point_inv (t : Fin cfg0.N) (a) (h : Inv a (colAt m c t) (512 * (15 - t.val % 16) + 512)) :
    Inv (pointSt (iblk m c 0 t) (iblk m c 1 t) (iblk m c 2 t) (iblk m c 3 t) (iblk m c 4 t) a).2 (colAt m c t) (512 * (15 - t.val % 16))
    ∧ ∀ R : Fin 512, Out (pointSt (iblk m c 0 t) (iblk m c 1 t) (iblk m c 2 t) (iblk m c 3 t) (iblk m c 4 t) a).1 (colAt m c t) R
        (512 * (15 - t.val % 16) + R.val) := by
  unfold pointSt
  rw [steps_two]
  have h1 := inv_step m c t ⟨0, by rw [trips_eq]; omega⟩ ((fun _ => Scalar.ofBits (F := Ideal) .bf16 0x0000#16), a)
    (512 * (15 - t.val % 16) + 256) (by dsimp only) h
  refine ⟨inv_step m c t ⟨1, by rw [trips_eq]; omega⟩ _ _ (by dsimp only; omega) h1, fun R => ?_⟩
  by_cases hR : R.val < 256
  · exact out_step m c t ⟨1, by rw [trips_eq]; omega⟩ _ _ (by dsimp only; omega) h1 ⟨R.val, hR⟩ R (by dsimp only; omega)
  · refine out_keep m c t ⟨1, by rw [trips_eq]; omega⟩ _ R (Or.inr (by dsimp only; omega)) _ ?_
    have e : 512 * (15 - t.val % 16) + R.val = 512 * (15 - t.val % 16) + 256 + (R.val - 256) := by omega
    rw [e]
    exact out_step m c t ⟨0, by rw [trips_eq]; omega⟩ _ _ (by dsimp only) h ⟨R.val - 256, by omega⟩ R (by dsimp only; omega)

/-- Two points of one group have the same columns. -/
theorem colAt_pred (t u : Fin cfg0.N) (h : u.val / 16 = t.val / 16) : colAt m c u = colAt m c t := by
  funext l
  unfold colAt
  exact congrArg (colOf _ _ _ _ _) (Fin.ext (by dsimp only; rw [h]))

/-- Every grid point. -/
theorem all_points (n : ℕ) (hn : n < cfg0.N) :
    Inv (stAt m c n hn).2 (colAt m c ⟨n, hn⟩) (512 * (15 - n % 16))
    ∧ ∀ R : Fin 512, Out (stAt m c n hn).1 (colAt m c ⟨n, hn⟩) R (512 * (15 - n % 16) + R.val) := by
  induction n using Nat.strong_induction_on with
  | _ n ih =>
    by_cases h0 : n % 16 = 0
    · rw [stAt_A m c ⟨n, hn⟩ h0]
      refine point_inv m c ⟨n, hn⟩ zeroSt ?_
      rw [show 512 * (15 - (⟨n, hn⟩ : Fin cfg0.N).val % 16) + 512 = 8192 by dsimp only; omega]
      exact inv_zero _
    · rw [stAt_B m c ⟨n, hn⟩ h0]
      refine point_inv m c ⟨n, hn⟩ _ ?_
      have h := (ih (n - 1) (by omega) (by omega)).1
      rw [colAt_pred m c ⟨n, hn⟩ ⟨n - 1, by omega⟩ (by dsimp only; omega)] at h
      rw [show 512 * (15 - (⟨n, hn⟩ : Fin cfg0.N).val % 16) + 512 = 512 * (15 - (n - 1) % 16) by dsimp only; omega]
      exact h

end Cert.KernelIdeal.Ffn

end
-- ==== Proof.FfnArr.lean ====
module

public import proofs.«01_k».proof.Proof.FfnPoint
public import proofs.«01_k».proof.Proof.FfnChunk
public import Idealize.ShloMosaic.Lib.Pipeline.ValueKit.Point
public import Idealize.ShloMosaic.Lib.StableHlo.ReadAt

/-! # The arrays after the run -/

@[expose] public section

set_option maxRecDepth 16384

noncomputable section

namespace Cert.KernelIdeal.Ffn

open Cert.KernelIdeal Cert.KernelIdeal.Gen Cert.FfnSpec
open Idealize.ShloMosaic

variable (m : (ℓ : Loc nD τ sig) → Buf (Elt Ideal) ℓ) (c : Dev nD)

/-- The gradients of the gate and of the other factor, after the run. -/
theorem arr5 : (dat m 0 c).arrAt 5 cfg0.N = outGU (arg0 m c) (arg1 m c) (arg2 m c) (arg3 m c) (arg4 m c) := by
  refine (dat m 0 c).arrAt_eq_of_covers 5 _ (by decide +kernel) fun t hf y => ?_
  have ht := lt_N t
  obtain ⟨-, -, -, -, -, h5, -⟩ := idx t
  rw [after5]
  obtain ⟨R, Q, rfl⟩ : ∃ (R : Fin 512) (Q : Fin 1024), y = ix2 R Q := ⟨y 0, y 1, by funext a; fin_cases a <;> rfl⟩
  have hO := (all_points m c t.val t.isLt).2 R
  have e : ((cfg0.win 5).blk t).view.emb (ix2 R Q) = ix2 ⟨512 * (15 - t.val % 16) + R.val, by omega⟩ ⟨1024 * (t.val / 16) + Q.val, by omega⟩ := by
    blk_ext [h5]
  rw [e]
  unfold outGU
  by_cases hQ : Q.val < 512
  · refine ((hO ⟨Q.val, hQ⟩).1).trans ?_
    refine Eq.trans ?_ (if_pos ?_).symm
    · exact congrArg (fun z => (colOf (arg0 m c) (arg1 m c) (arg2 m c) (arg3 m c) (arg4 m c) z).g _) (Fin.ext (by show t.val / 16 * 512 + Q.val = (1024 * (t.val / 16) + Q.val) / 1024 * 512 + (1024 * (t.val / 16) + Q.val) % 512; omega))
    · show (1024 * (t.val / 16) + Q.val) % 1024 < 512
      omega
  · obtain ⟨q, hq⟩ : ∃ q : Fin 512, Q = ⟨512 + q.val, Nat.add_lt_add_left q.isLt 512⟩ := ⟨⟨Q.val - 512, by omega⟩, Fin.ext (by dsimp only; omega)⟩
    subst hq
    refine ((hO q).2).trans ?_
    refine Eq.trans ?_ (if_neg ?_).symm
    · exact congrArg (fun z => (colOf (arg0 m c) (arg1 m c) (arg2 m c) (arg3 m c) (arg4 m c) z).p _) (Fin.ext (by show t.val / 16 * 512 + q.val = (1024 * (t.val / 16) + (512 + q.val)) / 1024 * 512 + (1024 * (t.val / 16) + (512 + q.val)) % 512; omega))
    · show ¬ (1024 * (t.val / 16) + (512 + q.val)) % 1024 < 512
      omega

/-- The gradient of the weights, after the run. -/
theorem arr6 : (dat m 0 c).arrAt 6 cfg0.N = outW (arg0 m c) (arg1 m c) (arg2 m c) (arg3 m c) (arg4 m c) := by
  refine (dat m 0 c).arrAt_eq_of_covers 6 _ (by decide +kernel) fun t hf y => ?_
  have ht := lt_N t
  have h15 := (flush0_6 t).1 hf
  obtain ⟨-, -, -, -, -, -, h6, -⟩ := idx t
  rw [after6]
  obtain ⟨k, l, rfl⟩ : ∃ (k : Fin 3) (l : Fin 512), y = ix3 0 k l :=
    ⟨y 1, y 2, by funext a; fin_cases a; exacts [Subsingleton.elim (α := Fin 1) _ _, rfl, rfl]⟩
  have hO := (all_points m c t.val t.isLt).1.sw l k
  rw [h15] at hO
  have e : ((cfg0.win 6).blk t).view.emb (ix3 0 k l) = ix3 ⟨t.val / 16, by omega⟩ k l := by
    blk_ext [h6]
  rw [e]
  exact hO

/-- The gradient of the bias, after the run. -/
theorem arr7 : (dat m 0 c).arrAt 7 cfg0.N = outB (arg0 m c) (arg1 m c) (arg2 m c) (arg3 m c) (arg4 m c) := by
  refine (dat m 0 c).arrAt_eq_of_covers 7 _ (by decide +kernel) fun t hf y => ?_
  have ht := lt_N t
  have h15 := (flush0_7 t).1 hf
  obtain ⟨-, -, -, -, -, -, -, h7⟩ := idx t
  rw [after7]
  obtain ⟨l, rfl⟩ : ∃ (l : Fin 512), y = ix3 0 0 l :=
    ⟨y 2, by funext a; fin_cases a; exacts [Subsingleton.elim (α := Fin 1) _ _, Subsingleton.elim (α := Fin 1) _ _, rfl]⟩
  have hO := (all_points m c t.val t.isLt).1.sb l
  rw [h15] at hO
  have e : ((cfg0.win 7).blk t).view.emb (ix3 0 0 l) = ix3 ⟨t.val / 16, by omega⟩ 0 l := by
    blk_ext [h7]
  rw [e]
  exact hO

end Cert.KernelIdeal.Ffn

end
-- ==== Proof.FfnRef.lean ====
module

public import proofs.«01_k».proof.Proof.Gen.ReferenceIdeal.Read
public import proofs.«01_k».proof.Proof.FfnSpec

/-! # What the reference computes, column by column -/

@[expose] public section

set_option maxRecDepth 16384

noncomputable section

namespace Cert.ReferenceIdeal.Ffn

open Cert.ReferenceIdeal Cert.ReferenceIdeal.Read Cert.FfnSpec
open Idealize.ShloMosaic

variable (x0 x1 : Mat 8192 5632) (x2 : Mat 3 5632) (x3 : Mat 1 5632) (x4 : Mat 8192 5632)

/-- The gate under two rows of zeros. -/
theorem ref_x (t : Fin 8194) (q : Fin 5632) :
    val_main_v1 (F := Ideal) x0 (ix2 t q) = (colOf x0 x1 x2 x3 x4 q).x t.val := by
  unfold val_main_v1 colOf at'
  pointwise [val_main_v0, val_main_cst]
  by_cases h : t.val < 2
  · rw [dif_pos h, if_pos h]
  · rw [dif_neg h, if_neg h, dif_pos (by omega)]

/-- The convolution's value. -/
theorem ref_z (t : Fin 8192) (q : Fin 5632) :
    val_main_v18 (F := Ideal) x0 x2 x3 (ix2 t q) = (colOf x0 x1 x2 x3 x4 q).z t.val := by
  unfold Col.z
  rw [Nat.add_comm t.val 1, Nat.add_comm t.val 2, ← ref_x x0 x1 x2 x3 x4 ⟨t.val, by omega⟩ q, ← ref_x x0 x1 x2 x3 x4 ⟨1 + t.val, by omega⟩ q, ← ref_x x0 x1 x2 x3 x4 ⟨2 + t.val, by omega⟩ q]
  unfold colOf
  pointwise [val_main_v3, val_main_v4, val_main_v5, val_main_v6, val_main_v7, val_main_v8, val_main_v9, val_main_v10, val_main_v11,
    val_main_v12, val_main_v13, val_main_v14, val_main_v15, val_main_v16, val_main_v17, val_main_v18]

/-- The gradient there. -/
theorem ref_d (t : Fin 8192) (q : Fin 5632) :
    val_main_v54 (F := Ideal) x0 x1 x2 x3 x4 (ix2 t q) = (colOf x0 x1 x2 x3 x4 q).d t.val := by
  unfold Col.d
  rw [if_pos t.isLt, ← ref_z x0 x1 x2 x3 x4 t q]
  unfold dz FfnSpec.inner half th colOf at'
  pointwise [val_main_v19, val_main_v20, val_main_v21, val_main_v22, val_main_v23, val_main_v24, val_main_v25, val_main_v26, val_main_v27,
    val_main_v28, val_main_v29, val_main_v30, val_main_v31, val_main_v32, val_main_v33, val_main_v34, val_main_v35, val_main_v36,
    val_main_v37, val_main_v38, val_main_v42, val_main_v43, val_main_v44, val_main_v45, val_main_v46, val_main_v47, val_main_v48,
    val_main_v49, val_main_v50, val_main_v51, val_main_v52, val_main_v53, val_main_v54, val_main_cst_1, val_main_cst_2, val_main_cst_3,
    val_main_cst_4, val_main_cst_5, val_main_cst_6, val_main_cst_7, val_main_cst_8, val_main_cst_9, val_main_cst_10]
  simp only [mul_comm, mul_left_comm]

/-- The gradient of the other factor. -/
theorem ref_p (t : Fin 8192) (q : Fin 5632) :
    val_main_v41 (F := Ideal) x0 x2 x3 x4 (ix2 t q) = (colOf x0 x1 x2 x3 x4 q).p t.val := by
  unfold Col.p
  rw [← ref_z x0 x1 x2 x3 x4 t q]
  unfold half th colOf at'
  pointwise [val_main_v19, val_main_v20, val_main_v24, val_main_v25, val_main_v26, val_main_v27,
    val_main_v28, val_main_v29, val_main_v35, val_main_v36, val_main_cst_2, val_main_cst_3, val_main_cst_6, val_main_cst_7,
    val_main_v37, val_main_v38, val_main_v39, val_main_v41]
  simp only [mul_assoc]

/-- The gradient of the gate. -/
theorem ref_g (t : Fin 8192) (q : Fin 5632) :
    val_main_v83 (F := Ideal) x0 x1 x2 x3 x4 (ix2 t q) = (colOf x0 x1 x2 x3 x4 q).g t.val := by
  unfold Col.g
  pointwise [val_main_v3, val_main_v7, val_main_v12, val_main_v57, val_main_v58, val_main_v62, val_main_v64, val_main_v65, val_main_v69,
    val_main_v70, val_main_v73, val_main_v74, val_main_v78, val_main_v79, val_main_v83, val_main_cst_13, val_main_cst_16, val_main_cst_19]
  simp only [ref_d]
  show (x2 (ix2 2 q) * _ + _) + _ = (x2 (ix2 2 q) * _ + x2 (ix2 1 q) * _) + x2 (ix2 0 q) * _
  congr 1
  · congr 1
    by_cases h : t.val + 1 < 8192
    · rw [dif_pos (by omega)]
      exact congrArg (fun n => x2 (ix2 1 q) * (colOf x0 x1 x2 x3 x4 q).d n) (by omega)
    · rw [dif_neg (by omega), Col.d_end _ _ (by omega), mul_zero]
  · by_cases h : t.val + 2 < 8192
    · rw [dif_pos (by omega)]
      exact congrArg (fun n => x2 (ix2 0 q) * (colOf x0 x1 x2 x3 x4 q).d n) (by omega)
    · rw [dif_neg (by omega), Col.d_end _ _ (by omega), mul_zero]

/-- The gradient of the weights, of a column. -/
theorem ref_sw (k : Fin 3) (q : Fin 5632) :
    val_main_v81 (F := Ideal) x0 x1 x2 x3 x4 (ix2 k q) = (colOf x0 x1 x2 x3 x4 q).sw 0 k.val := by
  unfold Col.sw
  pointwise [val_main_v4, val_main_v8, val_main_v13, val_main_v59, val_main_v60, val_main_v61, val_main_v63, val_main_v66, val_main_v67,
    val_main_v68, val_main_v71, val_main_v72, val_main_v75, val_main_v76, val_main_v77, val_main_v80, val_main_v81, val_main_cst_12,
    val_main_cst_14, val_main_cst_15, val_main_cst_17, val_main_cst_18, val_main_cst_20]
  simp only [ref_d, ref_x x0 x1 x2 x3 x4]
  rw [← Finset.range_eq_Ico, ← Fin.sum_univ_eq_sum_range (fun t => (colOf x0 x1 x2 x3 x4 q).d t * (colOf x0 x1 x2 x3 x4 q).x (t + k.val)) 8192]
  obtain ⟨n, hn⟩ := k
  dsimp only
  obtain rfl | rfl | rfl : n = 0 ∨ n = 1 ∨ n = 2 := by omega
  · rw [dif_neg (by omega), dif_neg (by omega), dif_pos (by omega), zero_add, zero_add]
    rfl
  · rw [dif_neg (by omega), dif_pos (by omega), dif_neg (by omega), zero_add, add_zero]
    simp only [Nat.add_comm]
  · rw [dif_pos (by omega), dif_neg (by omega), dif_neg (by omega), add_zero, add_zero]
    simp only [Nat.add_comm]

/-- The gradient of the bias, of a column. -/
theorem ref_sb (q : Fin 5632) :
    val_main_v56 (F := Ideal) x0 x1 x2 x3 x4 (ix2 0 q) = (colOf x0 x1 x2 x3 x4 q).sb 0 := by
  unfold Col.sb
  pointwise [val_main_v55, val_main_v56, val_main_cst_11]
  simp only [ref_d]
  rw [← Finset.range_eq_Ico, ← Fin.sum_univ_eq_sum_range (fun t => (colOf x0 x1 x2 x3 x4 q).d t) 8192]

/-- The first result is the two gradients. -/
theorem ref_gu : val_main_v88 (F := Ideal) x0 x1 x2 x3 x4 = outGU x0 x1 x2 x3 x4 := by
  funext i
  obtain ⟨t, Q, rfl⟩ : ∃ (t : Fin 8192) (Q : Fin 11264), i = ix2 t Q := ⟨i 0, i 1, by funext a; fin_cases a <;> rfl⟩
  pointwise [val_main_v84, val_main_v85, val_main_v86, val_main_v87, val_main_v88]
  by_cases h : Q.val % 1024 < 512
  · rw [dif_pos (by omega)]
    exact (ref_g x0 x1 x2 x3 x4 _ _).trans (if_pos h).symm
  · rw [dif_neg (by omega)]
    exact (ref_p x0 x1 x2 x3 x4 _ _).trans (if_neg h).symm

/-- The second is the gradient of the weights. -/
theorem ref_w : val_main_v90 (F := Ideal) x0 x1 x2 x3 x4 = outW x0 x1 x2 x3 x4 := by
  funext i
  obtain ⟨g, k, l, rfl⟩ : ∃ (g : Fin 11) (k : Fin 3) (l : Fin 512), i = ix3 g k l := ⟨i 0, i 1, i 2, by funext a; fin_cases a <;> rfl⟩
  pointwise [val_main_v89, val_main_v90]
  exact ref_sw x0 x1 x2 x3 x4 _ _

/-- The third is the gradient of the bias. -/
theorem ref_b : val_main_v91 (F := Ideal) x0 x1 x2 x3 x4 = outB x0 x1 x2 x3 x4 := by
  funext i
  obtain ⟨g, k, l, rfl⟩ : ∃ (g : Fin 11) (k : Fin 1) (l : Fin 512), i = ix3 g k l := ⟨i 0, i 1, i 2, by funext a; fin_cases a <;> rfl⟩
  pointwise [val_main_v91]
  exact ref_sb x0 x1 x2 x3 x4 _

end Cert.ReferenceIdeal.Ffn

end
-- ==== Proof.FfnClaim.lean ====
module

public import proofs.«01_k».proof.Defs
public import proofs.«01_k».proof.Proof.Gen.Kernel
public import proofs.«01_k».proof.Proof.FfnArr
public import proofs.«01_k».proof.Proof.FfnRef

/-! # The claims about the gradient of the convolution and its unit -/

@[expose] public section

set_option maxRecDepth 16384

noncomputable section

namespace Cert.Proof.Ffn

open Idealize.ShloMosaic Idealize.SL.Sem

/-- The idealized kernel ends, its arguments unchanged and its counters at zero. -/
theorem frame_ideal : Cert.quiescent_KernelIdeal := fun m ρ _ => Cert.KernelIdeal.Ffn.frame_any (F := Ideal) m ρ

/-- The two kernels' body tables are the same. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  obtain ⟨l, hl⟩ := l
  rcases l with _ | l
  · obtain ⟨t, s⟩ := a
    rfl
  · exact absurd hl (Nat.not_lt.2 (Nat.le_add_left _ _))

/-- So are the tables with the pipeline's own bodies added. -/
theorem defs_eq : @Cert.Kernel.defs Bits _ Cert.Kernel.Gen.facts = @Cert.KernelIdeal.defs Bits _ Cert.KernelIdeal.Gen.facts :=
  congrArg (Pipeline.defs (Cert.Kernel.pcfgs (F := Bits))) bodies_eq

/-- So does the kernel: the two programs have the same text. -/
theorem frame_bits : Cert.quiescent_Kernel := by
  intro m ρ _
  rw [defs_eq]
  exact Cert.KernelIdeal.Ffn.frame_any (F := Bits) m ρ

/-- So does the reference, which has no counters. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference ends with the columns' values, its arguments unchanged. -/
theorem run_ref (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem (c.tc.loc Cert.ReferenceIdeal.main_v88) = Cert.FfnSpec.outGU (m (c.tc.loc Cert.ReferenceIdeal.main_arg0))
            (m (c.tc.loc Cert.ReferenceIdeal.main_arg1)) (m (c.tc.loc Cert.ReferenceIdeal.main_arg2))
            (m (c.tc.loc Cert.ReferenceIdeal.main_arg3)) (m (c.tc.loc Cert.ReferenceIdeal.main_arg4))
        ∧ r.2.mem (c.tc.loc Cert.ReferenceIdeal.main_v90) = Cert.FfnSpec.outW (m (c.tc.loc Cert.ReferenceIdeal.main_arg0))
            (m (c.tc.loc Cert.ReferenceIdeal.main_arg1)) (m (c.tc.loc Cert.ReferenceIdeal.main_arg2))
            (m (c.tc.loc Cert.ReferenceIdeal.main_arg3)) (m (c.tc.loc Cert.ReferenceIdeal.main_arg4))
        ∧ r.2.mem (c.tc.loc Cert.ReferenceIdeal.main_v91) = Cert.FfnSpec.outB (m (c.tc.loc Cert.ReferenceIdeal.main_arg0))
            (m (c.tc.loc Cert.ReferenceIdeal.main_arg1)) (m (c.tc.loc Cert.ReferenceIdeal.main_arg2))
            (m (c.tc.loc Cert.ReferenceIdeal.main_arg3)) (m (c.tc.loc Cert.ReferenceIdeal.main_arg4))
        ∧ r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4) :=
  (θ_run Cert.ReferenceIdeal.defs _ _).mono (fun _ h c =>
    ⟨(h c).1.trans ((Cert.ReferenceIdeal.Read.val_main_v88_eq (StableHlo.launchContents m c)).trans (Cert.ReferenceIdeal.Ffn.ref_gu _ _ _ _ _)),
      (h c).2.1.trans ((Cert.ReferenceIdeal.Read.val_main_v90_eq (StableHlo.launchContents m c)).trans (Cert.ReferenceIdeal.Ffn.ref_w _ _ _ _ _)),
      (h c).2.2.1.trans ((Cert.ReferenceIdeal.Read.val_main_v91_eq (StableHlo.launchContents m c)).trans (Cert.ReferenceIdeal.Ffn.ref_b _ _ _ _ _)),
      (h c).2.2.2⟩)
    (Cert.ReferenceIdeal.Value.run (F := Ideal) m ρ)

/-- The two end with the same results. -/
theorem value : Cert.algebraic_KernelIdeal_ReferenceIdeal := by
  intro m ρ m' ρ' _ hargs
  refine ⟨_, _, _, (θ_run Cert.KernelIdeal.defs _ _).mono (fun _ h c =>
      ⟨(h c).1.trans (Cert.KernelIdeal.Ffn.arr5 m c), (h c).2.1.trans (Cert.KernelIdeal.Ffn.arr6 m c),
        (h c).2.2.1.trans (Cert.KernelIdeal.Ffn.arr7 m c), (h c).2.2.2⟩) (Cert.KernelIdeal.Ffn.run_arrays (F := Ideal) m ρ),
    (θ_run Cert.ReferenceIdeal.defs _ _).mono (fun _ h c => ?_) (run_ref m' ρ')⟩
  obtain ⟨e0, e1, e2, e3, e4⟩ := hargs c
  have hc := h c
  rw [e0, e1, e2, e3, e4] at hc
  exact ⟨hc.1, hc.2.1, hc.2.2.1, (h c).2.2.2⟩

end Cert.Proof.Ffn

end
-- ==== Proof.Prod.lean ====
module

public import Idealize.ShloMosaic.Lib.Pointwise
public import Idealize.ShloMosaic.Lib.ValueIdx

/-! # Products of matrices over the extended reals -/

@[expose] public section

noncomputable section

namespace Cert.Prod

open Idealize.ShloMosaic

/-- A matrix. -/
abbrev Mat (n k : ℕ) : Type := (⟨2, ![n, k]⟩ : Shape).Idx → EReal

variable {M N K : ℕ}

/-- The product of a matrix with the transpose of another. -/
def nt (a : Mat M K) (b : Mat N K) : Mat M N := fun i => ∑ k : Fin K, a (ix2 (i 0) k) * b (ix2 (i 1) k)

/-- The product of two matrices. -/
def nn (a : Mat M K) (b : Mat K N) : Mat M N := fun i => ∑ k : Fin K, a (ix2 (i 0) k) * b (ix2 k (i 1))

/-- The product of the transpose of a matrix with another. -/
def tn (a : Mat K M) (b : Mat K N) : Mat M N := fun i => ∑ k : Fin K, a (ix2 k (i 0)) * b (ix2 k (i 1))

/-- The products entry by entry. -/
theorem nt_apply (a : Mat M K) (b : Mat N K) (r : Fin M) (q : Fin N) :
    nt a b (ix2 r q) = ∑ k : Fin K, a (ix2 r k) * b (ix2 q k) := rfl

theorem nn_apply (a : Mat M K) (b : Mat K N) (r : Fin M) (q : Fin N) :
    nn a b (ix2 r q) = ∑ k : Fin K, a (ix2 r k) * b (ix2 k q) := rfl

theorem tn_apply (a : Mat K M) (b : Mat K N) (r : Fin M) (q : Fin N) :
    tn a b (ix2 r q) = ∑ k : Fin K, a (ix2 k r) * b (ix2 k q) := rfl

/-- An entry of a product depends on a row or column of each factor only: the entry of a block is the whole's. -/
theorem nt_tile {m n : ℕ} {x : Mat m K} {y : Mat n K} {a : Mat M K} {b : Mat N K} {r : Fin m} {q : Fin n} {R : Fin M} {Q : Fin N}
    (hx : ∀ k, x (ix2 r k) = a (ix2 R k)) (hy : ∀ k, y (ix2 q k) = b (ix2 Q k)) : nt x y (ix2 r q) = nt a b (ix2 R Q) :=
  Finset.sum_congr rfl fun k _ => congrArg₂ (· * ·) (hx k) (hy k)

theorem nn_tile {m n : ℕ} {x : Mat m K} {y : Mat K n} {a : Mat M K} {b : Mat K N} {r : Fin m} {q : Fin n} {R : Fin M} {Q : Fin N}
    (hx : ∀ k, x (ix2 r k) = a (ix2 R k)) (hy : ∀ k, y (ix2 k q) = b (ix2 k Q)) : nn x y (ix2 r q) = nn a b (ix2 R Q) :=
  Finset.sum_congr rfl fun k _ => congrArg₂ (· * ·) (hx k) (hy k)

theorem tn_tile {m n : ℕ} {x : Mat K m} {y : Mat K n} {a : Mat K M} {b : Mat K N} {r : Fin m} {q : Fin n} {R : Fin M} {Q : Fin N}
    (hx : ∀ k, x (ix2 k r) = a (ix2 k R)) (hy : ∀ k, y (ix2 k q) = b (ix2 k Q)) : tn x y (ix2 r q) = tn a b (ix2 R Q) :=
  Finset.sum_congr rfl fun k _ => congrArg₂ (· * ·) (hx k) (hy k)

/-- An index of a matrix is a pair of its coordinates. -/
theorem eq_ix2 {n k : ℕ} (y : (⟨2, ![n, k]⟩ : Shape).Idx) : ∃ (r : Fin n) (q : Fin k), y = ix2 r q :=
  ⟨y 0, y 1, by funext a; fin_cases a <;> rfl⟩

end Cert.Prod

end
-- ==== Proof.Prod2.lean ====
module

public import proofs.«01_k».proof.Defs
public import proofs.«01_k».proof.Proof.Prod
public import proofs.«01_k».proof.Proof.Gen.Kernel2.Frame
public import proofs.«01_k».proof.Proof.Gen.Kernel2Ideal.Value
public import proofs.«01_k».proof.Proof.Gen.Reference2Ideal.Run
public import Idealize.ShloMosaic.Lib.Claim
public import Idealize.ShloMosaic.Lib.Pipeline.ValueKit.Point
public import Idealize.ShloMosaic.Lib.StableHlo.ReadAt

/-! # The gradient of ConvFFN's last product, of its left factor -/

@[expose] public section

set_option maxRecDepth 16384

noncomputable section

namespace Cert.Kernel2Ideal.Whole

open Cert.Kernel2Ideal Cert.Kernel2Ideal.Gen Idealize.ShloMosaic Cert.Prod

/-- The blocks of grid point `t`. -/
theorem idx : ∀ t : Fin cfg0.N, win0_0.index t = ![t.val / 4, 0] ∧ win0_1.index t = ![t.val % 4, 0]
    ∧ win0_2.index t = ![t.val / 4, t.val % 4] := by decide +kernel

/-- There are 32 grid points. -/
theorem lt_N (t : Fin cfg0.N) : t.val < 32 := t.isLt

/-- A point's result is the product of its blocks. -/
theorem block (x : Vec Ideal S1024x2048 .bf16) (y : Vec Ideal S1408x2048 .bf16) : out0_2 x y = nt x y := by
  funext i
  unfold out0_2
  rw [View.canon_unit_zero (by decide), View.ld_unit_zero (by decide), View.ld_unit_zero (by decide)]
  pointwise [k0_pay1, nt]

variable (m : (ℓ : Loc nD τ sig) → Buf (Elt Ideal) ℓ) (c : Dev nD)

/-- The factors. -/
abbrev arg0 : Mat 8192 2048 := m (c.tc.loc main_arg0)
abbrev arg1 : Mat 5632 2048 := m (c.tc.loc main_arg1)

/-- The call's first operand at an index. -/
theorem blk0 (t : Fin cfg0.N) (r : Fin 1024) (k : Fin 2048) :
    iblk m c 0 t (ix2 r k) = arg0 m c (ix2 ⟨1024 * (t.val / 4) + r.val, by have := lt_N t; omega⟩ k) := by
  obtain ⟨h0, h1, h2⟩ := idx t
  have e : iblk m c 0 t (ix2 r k) = V m c main_v0 (ix2 ⟨1024 * (t.val / 4) + r.val, by have := lt_N t; omega⟩ k) := by
    blk_ext [iblk, h0]
  rw [e]
  entry_read
  pointwise

/-- The call's second operand at an index. -/
theorem blk1 (t : Fin cfg0.N) (r : Fin 1408) (k : Fin 2048) :
    iblk m c 1 t (ix2 r k) = arg1 m c (ix2 ⟨1408 * (t.val % 4) + r.val, by have := lt_N t; omega⟩ k) := by
  obtain ⟨h0, h1, h2⟩ := idx t
  have e : iblk m c 1 t (ix2 r k) = V m c main_v1 (ix2 ⟨1408 * (t.val % 4) + r.val, by have := lt_N t; omega⟩ k) := by
    blk_ext [iblk, h1]
  rw [e]
  entry_read
  pointwise

/-- The array after the run is the product of the two arguments. -/
theorem arr : (dats m 0 c).arrAt 2 cfg0.N = nt (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1408) y
  have e : ((cfg0.win 2).blk t).view.emb (ix2 r q) = ix2 ⟨1024 * (t.val / 4) + r.val, by omega⟩ ⟨1408 * (t.val % 4) + q.val, by omega⟩ := by
    blk_ext [h2]
  rw [e, after0_2, block]
  exact nt_tile (fun k => blk0 m c t r k) (fun k => blk1 m c t q k)

end Cert.Kernel2Ideal.Whole

namespace Cert.Proof.Prod2

open Idealize.ShloMosaic Idealize.SL.Sem Cert.Prod

/-- The kernel, its idealization and the reference end, their arguments unchanged and their counters at zero. -/
theorem frame_bits : Cert.quiescent_Kernel2 := fun m ρ _ => Cert.Kernel2.Gen.frame m ρ

theorem frame_ideal : Cert.quiescent_Kernel2Ideal := fun m ρ _ => Cert.Kernel2Ideal.Gen.frame m ρ

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two end with the same product. -/
theorem value : Cert.algebraic_Kernel2Ideal_Reference2Ideal := by
  intro m ρ m' ρ' _ hargs
  refine ⟨_, (θ_run Cert.Kernel2Ideal.defs _ _).mono (fun _ h c => ⟨(h c).1.trans (Cert.Kernel2Ideal.Whole.arr m c), (h c).2⟩)
      (Cert.Kernel2Ideal.Value.run_blocks m ρ),
    (θ_run Cert.Reference2Ideal.defs _ _).mono (fun _ h c => ⟨(h c).1.trans ?_, (h c).2⟩)
      (Cert.Reference2Ideal.Value.run (F := Ideal) m' ρ')⟩
  rw [(hargs c).1, (hargs c).2]
  funext i
  pointwise [nt]

end Cert.Proof.Prod2

end
-- ==== Proof.Prod3.lean ====
module

public import proofs.«01_k».proof.Defs
public import proofs.«01_k».proof.Proof.Prod
public import proofs.«01_k».proof.Proof.Gen.Kernel3.Frame
public import proofs.«01_k».proof.Proof.Gen.Kernel3Ideal.Value
public import proofs.«01_k».proof.Proof.Gen.Reference3Ideal.Run
public import Idealize.ShloMosaic.Lib.Claim
public import Idealize.ShloMosaic.Lib.Pipeline.ValueKit.Point
public import Idealize.ShloMosaic.Lib.StableHlo.ReadAt

/-! # The gradient of the mixer's output projection, of its left factor -/

@[expose] public section

set_option maxRecDepth 16384

noncomputable section

namespace Cert.Kernel3Ideal.Whole

open Cert.Kernel3Ideal Cert.Kernel3Ideal.Gen Idealize.ShloMosaic Cert.Prod

/-- The blocks of grid point `t`. -/
theorem idx : ∀ t : Fin cfg0.N, win0_0.index t = ![t.val / 2, 0] ∧ win0_1.index t = ![t.val % 2, 0]
    ∧ win0_2.index t = ![t.val / 2, t.val % 2] := by decide +kernel

/-- There are 16 grid points. -/
theorem lt_N (t : Fin cfg0.N) : t.val < 16 := t.isLt

/-- A point's result is the product of its blocks. -/
theorem block (x : Vec Ideal S1024x2048 .bf16) (y : Vec Ideal S1024x2048 .bf16) : out0_2 x y = nt x y := by
  funext i
  unfold out0_2
  rw [View.canon_unit_zero (by decide), View.ld_unit_zero (by decide), View.ld_unit_zero (by decide)]
  pointwise [k0_pay1, nt]

variable (m : (ℓ : Loc nD τ sig) → Buf (Elt Ideal) ℓ) (c : Dev nD)

/-- The factors. -/
abbrev arg0 : Mat 8192 2048 := m (c.tc.loc main_arg0)
abbrev arg1 : Mat 2048 2048 := m (c.tc.loc main_arg1)

/-- The call's first operand at an index. -/
theorem blk0 (t : Fin cfg0.N) (r : Fin 1024) (k : Fin 2048) :
    iblk m c 0 t (ix2 r k) = arg0 m c (ix2 ⟨1024 * (t.val / 2) + r.val, by have := lt_N t; omega⟩ k) := by
  obtain ⟨h0, h1, h2⟩ := idx t
  have e : iblk m c 0 t (ix2 r k) = V m c main_v0 (ix2 ⟨1024 * (t.val / 2) + r.val, by have := lt_N t; omega⟩ k) := by
    blk_ext [iblk, h0]
  rw [e]
  entry_read
  pointwise

/-- The call's second operand at an index. -/
theorem blk1 (t : Fin cfg0.N) (r : Fin 1024) (k : Fin 2048) :
    iblk m c 1 t (ix2 r k) = arg1 m c (ix2 ⟨1024 * (t.val % 2) + r.val, by have := lt_N t; omega⟩ k) := by
  obtain ⟨h0, h1, h2⟩ := idx t
  have e : iblk m c 1 t (ix2 r k) = V m c main_v1 (ix2 ⟨1024 * (t.val % 2) + r.val, by have := lt_N t; omega⟩ k) := by
    blk_ext [iblk, h1]
  rw [e]
  entry_read
  pointwise

/-- The array after the run is the product of the two arguments. -/
theorem arr : (dats m 0 c).arrAt 2 cfg0.N = nt (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1024) y
  have e : ((cfg0.win 2).blk t).view.emb (ix2 r q) = ix2 ⟨1024 * (t.val / 2) + r.val, by omega⟩ ⟨1024 * (t.val % 2) + q.val, by omega⟩ := by
    blk_ext [h2]
  rw [e, after0_2, block]
  exact nt_tile (fun k => blk0 m c t r k) (fun k => blk1 m c t q k)

end Cert.Kernel3Ideal.Whole

namespace Cert.Proof.Prod3

open Idealize.ShloMosaic Idealize.SL.Sem Cert.Prod

/-- The kernel, its idealization and the reference end, their arguments unchanged and their counters at zero. -/
theorem frame_bits : Cert.quiescent_Kernel3 := fun m ρ _ => Cert.Kernel3.Gen.frame m ρ

theorem frame_ideal : Cert.quiescent_Kernel3Ideal := fun m ρ _ => Cert.Kernel3Ideal.Gen.frame m ρ

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two end with the same product. -/
theorem value : Cert.algebraic_Kernel3Ideal_Reference3Ideal := by
  intro m ρ m' ρ' _ hargs
  refine ⟨_, (θ_run Cert.Kernel3Ideal.defs _ _).mono (fun _ h c => ⟨(h c).1.trans (Cert.Kernel3Ideal.Whole.arr m c), (h c).2⟩)
      (Cert.Kernel3Ideal.Value.run_blocks m ρ),
    (θ_run Cert.Reference3Ideal.defs _ _).mono (fun _ h c => ⟨(h c).1.trans ?_, (h c).2⟩)
      (Cert.Reference3Ideal.Value.run (F := Ideal) m' ρ')⟩
  rw [(hargs c).1, (hargs c).2]
  funext i
  pointwise [nt]

end Cert.Proof.Prod3

end
-- ==== Proof.Prod4.lean ====
module

public import proofs.«01_k».proof.Defs
public import proofs.«01_k».proof.Proof.Prod
public import proofs.«01_k».proof.Proof.Gen.Kernel4.Frame
public import proofs.«01_k».proof.Proof.Gen.Kernel4Ideal.Value
public import proofs.«01_k».proof.Proof.Gen.Reference4Ideal.Run
public import Idealize.ShloMosaic.Lib.Claim
public import Idealize.ShloMosaic.Lib.Pipeline.ValueKit.Point
public import Idealize.ShloMosaic.Lib.StableHlo.ReadAt

/-! # The gradient of the state-space branch's projection, of its left factor -/

@[expose] public section

set_option maxRecDepth 16384

noncomputable section

namespace Cert.Kernel4Ideal.Whole

open Cert.Kernel4Ideal Cert.Kernel4Ideal.Gen Idealize.ShloMosaic Cert.Prod

/-- The blocks of grid point `t`. -/
theorem idx : ∀ t : Fin cfg0.N, win0_0.index t = ![t.val / 4, 0] ∧ win0_1.index t = ![t.val % 4, 0]
    ∧ win0_2.index t = ![t.val / 4, t.val % 4] := by decide +kernel

/-- There are 32 grid points. -/
theorem lt_N (t : Fin cfg0.N) : t.val < 32 := t.isLt

/-- A point's result is the product of its blocks. -/
theorem block (x : Vec Ideal S1024x2048 .bf16) (y : Vec Ideal S1024x2048 .bf16) : out0_2 x y = nt x y := by
  funext i
  unfold out0_2
  rw [View.canon_unit_zero (by decide), View.ld_unit_zero (by decide), View.ld_unit_zero (by decide)]
  pointwise [k0_pay1, nt]

variable (m : (ℓ : Loc nD τ sig) → Buf (Elt Ideal) ℓ) (c : Dev nD)

/-- The factors. -/
abbrev arg0 : Mat 8192 2048 := m (c.tc.loc main_arg0)
abbrev arg1 : Mat 4096 2048 := m (c.tc.loc main_arg1)

/-- The call's first operand at an index. -/
theorem blk0 (t : Fin cfg0.N) (r : Fin 1024) (k : Fin 2048) :
    iblk m c 0 t (ix2 r k) = arg0 m c (ix2 ⟨1024 * (t.val / 4) + r.val, by have := lt_N t; omega⟩ k) := by
  obtain ⟨h0, h1, h2⟩ := idx t
  have e : iblk m c 0 t (ix2 r k) = V m c main_v0 (ix2 ⟨1024 * (t.val / 4) + r.val, by have := lt_N t; omega⟩ k) := by
    blk_ext [iblk, h0]
  rw [e]
  entry_read
  pointwise

/-- The call's second operand at an index. -/
theorem blk1 (t : Fin cfg0.N) (r : Fin 1024) (k : Fin 2048) :
    iblk m c 1 t (ix2 r k) = arg1 m c (ix2 ⟨1024 * (t.val % 4) + r.val, by have := lt_N t; omega⟩ k) := by
  obtain ⟨h0, h1, h2⟩ := idx t
  have e : iblk m c 1 t (ix2 r k) = V m c main_v1 (ix2 ⟨1024 * (t.val % 4) + r.val, by have := lt_N t; omega⟩ k) := by
    blk_ext [iblk, h1]
  rw [e]
  entry_read
  pointwise

/-- The array after the run is the product of the two arguments. -/
theorem arr : (dats m 0 c).arrAt 2 cfg0.N = nt (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1024) y
  have e : ((cfg0.win 2).blk t).view.emb (ix2 r q) = ix2 ⟨1024 * (t.val / 4) + r.val, by omega⟩ ⟨1024 * (t.val % 4) + q.val, by omega⟩ := by
    blk_ext [h2]
  rw [e, after0_2, block]
  exact nt_tile (fun k => blk0 m c t r k) (fun k => blk1 m c t q k)

end Cert.Kernel4Ideal.Whole

namespace Cert.Proof.Prod4

open Idealize.ShloMosaic Idealize.SL.Sem Cert.Prod

/-- The kernel, its idealization and the reference end, their arguments unchanged and their counters at zero. -/
theorem frame_bits : Cert.quiescent_Kernel4 := fun m ρ _ => Cert.Kernel4.Gen.frame m ρ

theorem frame_ideal : Cert.quiescent_Kernel4Ideal := fun m ρ _ => Cert.Kernel4Ideal.Gen.frame m ρ

theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two end with the same product. -/
theorem value : Cert.algebraic_Kernel4Ideal_Reference4Ideal := by
  intro m ρ m' ρ' _ hargs
  refine ⟨_, (θ_run Cert.Kernel4Ideal.defs _ _).mono (fun _ h c => ⟨(h c).1.trans (Cert.Kernel4Ideal.Whole.arr m c), (h c).2⟩)
      (Cert.Kernel4Ideal.Value.run_blocks m ρ),
    (θ_run Cert.Reference4Ideal.defs _ _).mono (fun _ h c => ⟨(h c).1.trans ?_, (h c).2⟩)
      (Cert.Reference4Ideal.Value.run (F := Ideal) m' ρ')⟩
  rw [(hargs c).1, (hargs c).2]
  funext i
  pointwise [nt]

end Cert.Proof.Prod4

end
-- ==== Proof.Prod5.lean ====
module

public import proofs.«01_k».proof.Defs
public import proofs.«01_k».proof.Proof.Prod
public import proofs.«01_k».proof.Proof.Gen.Kernel5.Frame
public import proofs.«01_k».proof.Proof.Gen.Kernel5Ideal.Value
public import proofs.«01_k».proof.Proof.Gen.Reference5Ideal.Run
public import Idealize.ShloMosaic.Lib.Claim
public import Idealize.ShloMosaic.Lib.Pipeline.ValueKit.Point
public import Idealize.ShloMosaic.Lib.StableHlo.ReadAt

/-! # The input projection of the gated branch -/

@[expose] public section

set_option maxRecDepth 16384

noncomputable section

namespace Cert.Kernel5Ideal.Whole

open Cert.Kernel5Ideal Cert.Kernel5Ideal.Gen Idealize.ShloMosaic Cert.Prod

/-- The blocks of grid point `t`. -/
theorem idx : ∀ t : Fin cfg0.N, win0_0.index t = ![t.val / 8, 0] ∧ win0_1.index t = ![t.val % 8, 0]
    ∧ win0_2.index t = ![t.val / 8, t.val % 8] := by decide +kernel

/-- There are 64 grid points. -/
theorem lt_N (t : Fin cfg0.N) : t.val < 64 := t.isLt

/-- A point's result is the product of its blocks. -/
theorem block (x : Vec Ideal S1024x2048 .bf16) (y : Vec Ideal S1024x2048 .bf16) : out0_2 x y = nt x y := by
  funext i
  unfold out0_2
  rw [View.canon_unit_zero (by decide), View.ld_unit_zero (by decide), View.ld_unit_zero (by decide)]
  pointwise [k0_pay1, nt]

variable (m : (ℓ : Loc nD τ sig) → Buf (Elt Ideal) ℓ) (c : Dev nD)

/-- The factors. -/
abbrev arg0 : Mat 8192 2048 := m (c.tc.loc main_arg0)
abbrev arg1 : Mat 8192 2048 := m (c.tc.loc main_arg1)

/-- The call's first operand at an index. -/
theorem blk0 (t : Fin cfg0.N) (r : Fin 1024) (k : Fin 2048) :
    iblk m c 0 t (ix2 r k) = arg0 m c (ix2 ⟨1024 * (t.val / 8) + r.val, by have := lt_N t; omega⟩ k) := by
  obtain ⟨h0, h1, h2⟩ := idx t
  have e : iblk m c 0 t (ix2 r k) = V m c main_v0 (ix2 ⟨1024 * (t.val / 8) + r.val, by have := lt_N t; omega⟩ k) := by
    blk_ext [iblk, h0]
  rw [e]
  entry_read
  pointwise

/-- The call's second operand at an index. -/
theorem blk1 (t : Fin cfg0.N) (r : Fin 1024) (k : Fin 2048) :
    iblk m c 1 t (ix2 r k) = arg1 m c (ix2 ⟨1024 * (t.val % 8) + r.val, by have := lt_N t; omega⟩ k) := by
  obtain ⟨h0, h1, h2⟩ := idx t
  have e : iblk m c 1 t (ix2 r k) = V m c main_v1 (ix2 ⟨1024 * (t.val % 8) + r.val, by have := lt_N t; omega⟩ k) := by
    blk_ext [iblk, h1]
  rw [e]
  entry_read
  pointwise

/-- The array after the run is the product of the two arguments. -/
theorem arr : (dats m 0 c).arrAt 2 cfg0.N = nt (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1024) y
  have e : ((cfg0.win 2).blk t).view.emb (ix2 r q) = ix2 ⟨1024 * (t.val / 8) + r.val, by omega⟩ ⟨1024 * (t.val % 8) + q.val, by omega⟩ := by
    blk_ext [h2]
  rw [e, after0_2, block]
  exact nt_tile (fun k => blk0 m c t r k) (fun k => blk1 m c t q k)

end Cert.Kernel5Ideal.Whole

namespace Cert.Proof.Prod5

open Idealize.ShloMosaic Idealize.SL.Sem Cert.Prod

/-- The kernel, its idealization and the reference end, their arguments unchanged and their counters at zero. -/
theorem frame_bits : Cert.quiescent_Kernel5 := fun m ρ _ => Cert.Kernel5.Gen.frame m ρ

theorem frame_ideal : Cert.quiescent_Kernel5Ideal := fun m ρ _ => Cert.Kernel5Ideal.Gen.frame m ρ

theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two end with the same product. -/
theorem value : Cert.algebraic_Kernel5Ideal_Reference5Ideal := by
  intro m ρ m' ρ' _ hargs
  refine ⟨_, (θ_run Cert.Kernel5Ideal.defs _ _).mono (fun _ h c => ⟨(h c).1.trans (Cert.Kernel5Ideal.Whole.arr m c), (h c).2⟩)
      (Cert.Kernel5Ideal.Value.run_blocks m ρ),
    (θ_run Cert.Reference5Ideal.defs _ _).mono (fun _ h c => ⟨(h c).1.trans ?_, (h c).2⟩)
      (Cert.Reference5Ideal.Value.run (F := Ideal) m' ρ')⟩
  rw [(hargs c).1, (hargs c).2]
  funext i
  pointwise [nt]

end Cert.Proof.Prod5

end
-- ==== Proof.Prod6.lean ====
module

public import proofs.«01_k».proof.Defs
public import proofs.«01_k».proof.Proof.Prod
public import proofs.«01_k».proof.Proof.Gen.Kernel6.Frame
public import proofs.«01_k».proof.Proof.Gen.Kernel6Ideal.Value
public import proofs.«01_k».proof.Proof.Gen.Reference6Ideal.Run
public import Idealize.ShloMosaic.Lib.Claim
public import Idealize.ShloMosaic.Lib.Pipeline.ValueKit.Point
public import Idealize.ShloMosaic.Lib.StableHlo.ReadAt

/-! # ConvFFN's first product -/

@[expose] public section

set_option maxRecDepth 16384

noncomputable section

namespace Cert.Kernel6Ideal.Whole

open Cert.Kernel6Ideal Cert.Kernel6Ideal.Gen Idealize.ShloMosaic Cert.Prod

/-- The blocks of grid point `t`. -/
theorem idx : ∀ t : Fin cfg0.N, win0_0.index t = ![t.val / 11, 0] ∧ win0_1.index t = ![t.val % 11, 0]
    ∧ win0_2.index t = ![t.val / 11, t.val % 11] := by decide +kernel

/-- There are 88 grid points. -/
theorem lt_N (t : Fin cfg0.N) : t.val < 88 := t.isLt

/-- A point's result is the product of its blocks. -/
theorem block (x : Vec Ideal S1024x2048 .bf16) (y : Vec Ideal S1024x2048 .bf16) : out0_2 x y = nt x y := by
  funext i
  unfold out0_2
  rw [View.canon_unit_zero (by decide), View.ld_unit_zero (by decide), View.ld_unit_zero (by decide)]
  pointwise [k0_pay1, nt]

variable (m : (ℓ : Loc nD τ sig) → Buf (Elt Ideal) ℓ) (c : Dev nD)

/-- The factors. -/
abbrev arg0 : Mat 8192 2048 := m (c.tc.loc main_arg0)
abbrev arg1 : Mat 11264 2048 := m (c.tc.loc main_arg1)

/-- The call's first operand at an index. -/
theorem blk0 (t : Fin cfg0.N) (r : Fin 1024) (k : Fin 2048) :
    iblk m c 0 t (ix2 r k) = arg0 m c (ix2 ⟨1024 * (t.val / 11) + r.val, by have := lt_N t; omega⟩ k) := by
  obtain ⟨h0, h1, h2⟩ := idx t
  have e : iblk m c 0 t (ix2 r k) = V m c main_v0 (ix2 ⟨1024 * (t.val / 11) + r.val, by have := lt_N t; omega⟩ k) := by
    blk_ext [iblk, h0]
  rw [e]
  entry_read
  pointwise

/-- The call's second operand at an index. -/
theorem blk1 (t : Fin cfg0.N) (r : Fin 1024) (k : Fin 2048) :
    iblk m c 1 t (ix2 r k) = arg1 m c (ix2 ⟨1024 * (t.val % 11) + r.val, by have := lt_N t; omega⟩ k) := by
  obtain ⟨h0, h1, h2⟩ := idx t
  have e : iblk m c 1 t (ix2 r k) = V m c main_v1 (ix2 ⟨1024 * (t.val % 11) + r.val, by have := lt_N t; omega⟩ k) := by
    blk_ext [iblk, h1]
  rw [e]
  entry_read
  pointwise

/-- The array after the run is the product of the two arguments. -/
theorem arr : (dats m 0 c).arrAt 2 cfg0.N = nt (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1024) y
  have e : ((cfg0.win 2).blk t).view.emb (ix2 r q) = ix2 ⟨1024 * (t.val / 11) + r.val, by omega⟩ ⟨1024 * (t.val % 11) + q.val, by omega⟩ := by
    blk_ext [h2]
  rw [e, after0_2, block]
  exact nt_tile (fun k => blk0 m c t r k) (fun k => blk1 m c t q k)

end Cert.Kernel6Ideal.Whole

namespace Cert.Proof.Prod6

open Idealize.ShloMosaic Idealize.SL.Sem Cert.Prod

/-- The kernel, its idealization and the reference end, their arguments unchanged and their counters at zero. -/
theorem frame_bits : Cert.quiescent_Kernel6 := fun m ρ _ => Cert.Kernel6.Gen.frame m ρ

theorem frame_ideal : Cert.quiescent_Kernel6Ideal := fun m ρ _ => Cert.Kernel6Ideal.Gen.frame m ρ

theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two end with the same product. -/
theorem value : Cert.algebraic_Kernel6Ideal_Reference6Ideal := by
  intro m ρ m' ρ' _ hargs
  refine ⟨_, (θ_run Cert.Kernel6Ideal.defs _ _).mono (fun _ h c => ⟨(h c).1.trans (Cert.Kernel6Ideal.Whole.arr m c), (h c).2⟩)
      (Cert.Kernel6Ideal.Value.run_blocks m ρ),
    (θ_run Cert.Reference6Ideal.defs _ _).mono (fun _ h c => ⟨(h c).1.trans ?_, (h c).2⟩)
      (Cert.Reference6Ideal.Value.run (F := Ideal) m' ρ')⟩
  rw [(hargs c).1, (hargs c).2]
  funext i
  pointwise [nt]

end Cert.Proof.Prod6

end
-- ==== Proof.Prod7.lean ====
module

public import proofs.«01_k».proof.Defs
public import proofs.«01_k».proof.Proof.Prod
public import proofs.«01_k».proof.Proof.Gen.Kernel7.Frame
public import proofs.«01_k».proof.Proof.Gen.Kernel7Ideal.Value
public import proofs.«01_k».proof.Proof.Gen.Reference7Ideal.Run
public import Idealize.ShloMosaic.Lib.Claim
public import Idealize.ShloMosaic.Lib.Pipeline.ValueKit.Point
public import Idealize.ShloMosaic.Lib.StableHlo.ReadAt

/-! # The mixer's output projection -/

@[expose] public section

set_option maxRecDepth 16384

noncomputable section

namespace Cert.Kernel7Ideal.Whole

open Cert.Kernel7Ideal Cert.Kernel7Ideal.Gen Idealize.ShloMosaic Cert.Prod

/-- The blocks of grid point `t`. -/
theorem idx : ∀ t : Fin cfg0.N, win0_0.index t = ![t.val / 2, 0] ∧ win0_1.index t = ![0, t.val % 2]
    ∧ win0_2.index t = ![t.val / 2, t.val % 2] := by decide +kernel

/-- There are 16 grid points. -/
theorem lt_N (t : Fin cfg0.N) : t.val < 16 := t.isLt

/-- A point's result is the product of its blocks. -/
theorem block (x : Vec Ideal S1024x2048 .bf16) (y : Vec Ideal S2048x1024 .bf16) : out0_2 x y = nn x y := by
  funext i
  unfold out0_2
  rw [View.canon_unit_zero (by decide), View.ld_unit_zero (by decide), View.ld_unit_zero (by decide)]
  pointwise [k0_pay1, nn]

variable (m : (ℓ : Loc nD τ sig) → Buf (Elt Ideal) ℓ) (c : Dev nD)

/-- The factors. -/
abbrev arg0 : Mat 8192 2048 := m (c.tc.loc main_arg0)
abbrev arg1 : Mat 2048 2048 := m (c.tc.loc main_arg1)

/-- The call's first operand at an index. -/
theorem blk0 (t : Fin cfg0.N) (r : Fin 1024) (k : Fin 2048) :
    iblk m c 0 t (ix2 r k) = arg0 m c (ix2 ⟨1024 * (t.val / 2) + r.val, by have := lt_N t; omega⟩ k) := by
  obtain ⟨h0, h1, h2⟩ := idx t
  have e : iblk m c 0 t (ix2 r k) = V m c main_v0 (ix2 ⟨1024 * (t.val / 2) + r.val, by have := lt_N t; omega⟩ k) := by
    blk_ext [iblk, h0]
  rw [e]
  entry_read
  pointwise

/-- The call's second operand at an index. -/
theorem blk1 (t : Fin cfg0.N) (k : Fin 2048) (r : Fin 1024) :
    iblk m c 1 t (ix2 k r) = arg1 m c (ix2 k ⟨1024 * (t.val % 2) + r.val, by have := lt_N t; omega⟩) := by
  obtain ⟨h0, h1, h2⟩ := idx t
  have e : iblk m c 1 t (ix2 k r) = V m c main_v1 (ix2 k ⟨1024 * (t.val % 2) + r.val, by have := lt_N t; omega⟩) := by
    blk_ext [iblk, h1]
  rw [e]
  entry_read
  pointwise

/-- The array after the run is the product of the two arguments. -/
theorem arr : (dats m 0 c).arrAt 2 cfg0.N = nn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1024) y
  have e : ((cfg0.win 2).blk t).view.emb (ix2 r q) = ix2 ⟨1024 * (t.val / 2) + r.val, by omega⟩ ⟨1024 * (t.val % 2) + q.val, by omega⟩ := by
    blk_ext [h2]
  rw [e, after0_2, block]
  exact nn_tile (fun k => blk0 m c t r k) (fun k => blk1 m c t k q)

end Cert.Kernel7Ideal.Whole

namespace Cert.Proof.Prod7

open Idealize.ShloMosaic Idealize.SL.Sem Cert.Prod

/-- The kernel, its idealization and the reference end, their arguments unchanged and their counters at zero. -/
theorem frame_bits : Cert.quiescent_Kernel7 := fun m ρ _ => Cert.Kernel7.Gen.frame m ρ

theorem frame_ideal : Cert.quiescent_Kernel7Ideal := fun m ρ _ => Cert.Kernel7Ideal.Gen.frame m ρ

theorem frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two end with the same product. -/
theorem value : Cert.algebraic_Kernel7Ideal_Reference7Ideal := by
  intro m ρ m' ρ' _ hargs
  refine ⟨_, (θ_run Cert.Kernel7Ideal.defs _ _).mono (fun _ h c => ⟨(h c).1.trans (Cert.Kernel7Ideal.Whole.arr m c), (h c).2⟩)
      (Cert.Kernel7Ideal.Value.run_blocks m ρ),
    (θ_run Cert.Reference7Ideal.defs _ _).mono (fun _ h c => ⟨(h c).1.trans ?_, (h c).2⟩)
      (Cert.Reference7Ideal.Value.run (F := Ideal) m' ρ')⟩
  rw [(hargs c).1, (hargs c).2]
  funext i
  pointwise [nn]

end Cert.Proof.Prod7

end
-- ==== Proof.Prod8.lean ====
module

public import proofs.«01_k».proof.Defs
public import proofs.«01_k».proof.Proof.Prod
public import proofs.«01_k».proof.Proof.Gen.Kernel8.Frame
public import proofs.«01_k».proof.Proof.Gen.Kernel8Ideal.Value
public import proofs.«01_k».proof.Proof.Gen.Reference8Ideal.Run
public import Idealize.ShloMosaic.Lib.Claim
public import Idealize.ShloMosaic.Lib.Pipeline.ValueKit.Point
public import Idealize.ShloMosaic.Lib.StableHlo.ReadAt

/-! # The state-space branch's projection -/

@[expose] public section

set_option maxRecDepth 16384

noncomputable section

namespace Cert.Kernel8Ideal.Whole

open Cert.Kernel8Ideal Cert.Kernel8Ideal.Gen Idealize.ShloMosaic Cert.Prod

/-- The blocks of grid point `t`. -/
theorem idx : ∀ t : Fin cfg0.N, win0_0.index t = ![t.val / 2, 0] ∧ win0_1.index t = ![0, t.val % 2]
    ∧ win0_2.index t = ![t.val / 2, t.val % 2] := by decide +kernel

/-- There are 16 grid points. -/
theorem lt_N (t : Fin cfg0.N) : t.val < 16 := t.isLt

/-- A point's result is the product of its blocks. -/
theorem block (x : Vec Ideal S1024x4096 .bf16) (y : Vec Ideal S4096x1024 .bf16) : out0_2 x y = nn x y := by
  funext i
  unfold out0_2
  rw [View.canon_unit_zero (by decide), View.ld_unit_zero (by decide), View.ld_unit_zero (by decide)]
  pointwise [k0_pay1, nn]

variable (m : (ℓ : Loc nD τ sig) → Buf (Elt Ideal) ℓ) (c : Dev nD)

/-- The factors. -/
abbrev arg0 : Mat 8192 4096 := m (c.tc.loc main_arg0)
abbrev arg1 : Mat 4096 2048 := m (c.tc.loc main_arg1)

/-- The call's first operand at an index. -/
theorem blk0 (t : Fin cfg0.N) (r : Fin 1024) (k : Fin 4096) :
    iblk m c 0 t (ix2 r k) = arg0 m c (ix2 ⟨1024 * (t.val / 2) + r.val, by have := lt_N t; omega⟩ k) := by
  obtain ⟨h0, h1, h2⟩ := idx t
  have e : iblk m c 0 t (ix2 r k) = V m c main_v0 (ix2 ⟨1024 * (t.val / 2) + r.val, by have := lt_N t; omega⟩ k) := by
    blk_ext [iblk, h0]
  rw [e]
  entry_read
  pointwise

/-- The call's second operand at an index. -/
theorem blk1 (t : Fin cfg0.N) (k : Fin 4096) (r : Fin 1024) :
    iblk m c 1 t (ix2 k r) = arg1 m c (ix2 k ⟨1024 * (t.val % 2) + r.val, by have := lt_N t; omega⟩) := by
  obtain ⟨h0, h1, h2⟩ := idx t
  have e : iblk m c 1 t (ix2 k r) = V m c main_v1 (ix2 k ⟨1024 * (t.val % 2) + r.val, by have := lt_N t; omega⟩) := by
    blk_ext [iblk, h1]
  rw [e]
  entry_read
  pointwise

/-- The array after the run is the product of the two arguments. -/
theorem arr : (dats m 0 c).arrAt 2 cfg0.N = nn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 1024) y
  have e : ((cfg0.win 2).blk t).view.emb (ix2 r q) = ix2 ⟨1024 * (t.val / 2) + r.val, by omega⟩ ⟨1024 * (t.val % 2) + q.val, by omega⟩ := by
    blk_ext [h2]
  rw [e, after0_2, block]
  exact nn_tile (fun k => blk0 m c t r k) (fun k => blk1 m c t k q)

end Cert.Kernel8Ideal.Whole

namespace Cert.Proof.Prod8

open Idealize.ShloMosaic Idealize.SL.Sem Cert.Prod

/-- The kernel, its idealization and the reference end, their arguments unchanged and their counters at zero. -/
theorem frame_bits : Cert.quiescent_Kernel8 := fun m ρ _ => Cert.Kernel8.Gen.frame m ρ

theorem frame_ideal : Cert.quiescent_Kernel8Ideal := fun m ρ _ => Cert.Kernel8Ideal.Gen.frame m ρ

theorem frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The two end with the same product. -/
theorem value : Cert.algebraic_Kernel8Ideal_Reference8Ideal := by
  intro m ρ m' ρ' _ hargs
  refine ⟨_, (θ_run Cert.Kernel8Ideal.defs _ _).mono (fun _ h c => ⟨(h c).1.trans (Cert.Kernel8Ideal.Whole.arr m c), (h c).2⟩)
      (Cert.Kernel8Ideal.Value.run_blocks m ρ),
    (θ_run Cert.Reference8Ideal.defs _ _).mono (fun _ h c => ⟨(h c).1.trans ?_, (h c).2⟩)
      (Cert.Reference8Ideal.Value.run (F := Ideal) m' ρ')⟩
  rw [(hargs c).1, (hargs c).2]
  funext i
  pointwise [nn]

end Cert.Proof.Prod8

end
-- ==== Proof.Prod9.lean ====
module

public import proofs.«01_k».proof.Defs
public import proofs.«01_k».proof.Proof.Prod
public import proofs.«01_k».proof.Proof.Gen.Kernel9.Frame
public import proofs.«01_k».proof.Proof.Gen.Kernel9Ideal.Value
public import proofs.«01_k».proof.Proof.Gen.Reference9Ideal.Run
public import Idealize.ShloMosaic.Lib.Claim
public import Idealize.ShloMosaic.Lib.Pipeline.ValueKit.Point
public import Idealize.ShloMosaic.Lib.StableHlo.ReadAt

/-! # ConvFFN's last product -/

@[expose] public section

set_option maxRecDepth 16384

noncomputable section

namespace Cert.Kernel9Ideal.Whole

open Cert.Kernel9Ideal Cert.Kernel9Ideal.Gen Idealize.ShloMosaic Cert.Prod

/-- The blocks of grid point `t`. -/
theorem idx : ∀ t : Fin cfg0.N, win0_0.index t = ![t.val / 4, 0] ∧ win0_1.index t = ![0, t.val % 4]
    ∧ win0_2.index t = ![t.val / 4, t.val % 4] := by decide +kernel

/-- There are 32 grid points. -/
theorem lt_N (t : Fin cfg0.N) : t.val < 32 := t.isLt

/-- A point's result is the product of its blocks. -/
theorem block (x : Vec Ideal S1024x5632 .bf16) (y : Vec Ideal S5632x512 .bf16) : out0_2 x y = nn x y := by
  funext i
  unfold out0_2
  rw [View.canon_unit_zero (by decide), View.ld_unit_zero (by decide), View.ld_unit_zero (by decide)]
  pointwise [k0_pay1, nn]

variable (m : (ℓ : Loc nD τ sig) → Buf (Elt Ideal) ℓ) (c : Dev nD)

/-- The factors. -/
abbrev arg0 : Mat 8192 5632 := m (c.tc.loc main_arg0)
abbrev arg1 : Mat 5632 2048 := m (c.tc.loc main_arg1)

/-- The call's first operand at an index. -/
theorem blk0 (t : Fin cfg0.N) (r : Fin 1024) (k : Fin 5632) :
    iblk m c 0 t (ix2 r k) = arg0 m c (ix2 ⟨1024 * (t.val / 4) + r.val, by have := lt_N t; omega⟩ k) := by
  obtain ⟨h0, h1, h2⟩ := idx t
  have e : iblk m c 0 t (ix2 r k) = V m c main_v0 (ix2 ⟨1024 * (t.val / 4) + r.val, by have := lt_N t; omega⟩ k) := by
    blk_ext [iblk, h0]
  rw [e]
  entry_read
  pointwise

/-- The call's second operand at an index. -/
theorem blk1 (t : Fin cfg0.N) (k : Fin 5632) (r : Fin 512) :
    iblk m c 1 t (ix2 k r) = arg1 m c (ix2 k ⟨512 * (t.val % 4) + r.val, by have := lt_N t; omega⟩) := by
  obtain ⟨h0, h1, h2⟩ := idx t
  have e : iblk m c 1 t (ix2 k r) = V m c main_v1 (ix2 k ⟨512 * (t.val % 4) + r.val, by have := lt_N t; omega⟩) := by
    blk_ext [iblk, h1]
  rw [e]
  entry_read
  pointwise

/-- The array after the run is the product of the two arguments. -/
theorem arr : (dats m 0 c).arrAt 2 cfg0.N = nn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 1024) (k := 512) y
  have e : ((cfg0.win 2).blk t).view.emb (ix2 r q) = ix2 ⟨1024 * (t.val / 4) + r.val, by omega⟩ ⟨512 * (t.val % 4) + q.val, by omega⟩ := by
    blk_ext [h2]
  rw [e, after0_2, block]
  exact nn_tile (fun k => blk0 m c t r k) (fun k => blk1 m c t k q)

end Cert.Kernel9Ideal.Whole

namespace Cert.Proof.Prod9

open Idealize.ShloMosaic Idealize.SL.Sem Cert.Prod

/-- The kernel, its idealization and the reference end, their arguments unchanged and their counters at zero. -/
theorem frame_bits : Cert.quiescent_Kernel9 := fun m ρ _ => Cert.Kernel9.Gen.frame m ρ

theorem frame_ideal : Cert.quiescent_Kernel9Ideal := fun m ρ _ => Cert.Kernel9Ideal.Gen.frame m ρ

theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two end with the same product. -/
theorem value : Cert.algebraic_Kernel9Ideal_Reference9Ideal := by
  intro m ρ m' ρ' _ hargs
  refine ⟨_, (θ_run Cert.Kernel9Ideal.defs _ _).mono (fun _ h c => ⟨(h c).1.trans (Cert.Kernel9Ideal.Whole.arr m c), (h c).2⟩)
      (Cert.Kernel9Ideal.Value.run_blocks m ρ),
    (θ_run Cert.Reference9Ideal.defs _ _).mono (fun _ h c => ⟨(h c).1.trans ?_, (h c).2⟩)
      (Cert.Reference9Ideal.Value.run (F := Ideal) m' ρ')⟩
  rw [(hargs c).1, (hargs c).2]
  funext i
  pointwise [nn]

end Cert.Proof.Prod9

end
-- ==== Proof.Prod10.lean ====
module

public import proofs.«01_k».proof.Defs
public import proofs.«01_k».proof.Proof.Prod
public import proofs.«01_k».proof.Proof.Gen.Kernel10.Frame
public import proofs.«01_k».proof.Proof.Gen.Kernel10Ideal.Value
public import proofs.«01_k».proof.Proof.Gen.Reference10Ideal.Run
public import Idealize.ShloMosaic.Lib.Claim
public import Idealize.ShloMosaic.Lib.Pipeline.ValueKit.Point
public import Idealize.ShloMosaic.Lib.StableHlo.ReadAt

/-! # The gradient of ConvFFN's last weight -/

@[expose] public section

set_option maxRecDepth 16384

noncomputable section

namespace Cert.Kernel10Ideal.Whole

open Cert.Kernel10Ideal Cert.Kernel10Ideal.Gen Idealize.ShloMosaic Cert.Prod

/-- The blocks of grid point `t`. -/
theorem idx : ∀ t : Fin cfg0.N, win0_0.index t = ![0, t.val / 4] ∧ win0_1.index t = ![0, t.val % 4]
    ∧ win0_2.index t = ![t.val / 4, t.val % 4] := by decide +kernel

/-- There are 44 grid points. -/
theorem lt_N (t : Fin cfg0.N) : t.val < 44 := t.isLt

/-- A point's result is the product of its blocks. -/
theorem block (x : Vec Ideal S8192x512 .bf16) (y : Vec Ideal S8192x512 .bf16) : out0_2 x y = tn x y := by
  funext i
  unfold out0_2
  rw [View.canon_unit_zero (by decide), View.ld_unit_zero (by decide), View.ld_unit_zero (by decide)]
  pointwise [k0_pay1, tn]

variable (m : (ℓ : Loc nD τ sig) → Buf (Elt Ideal) ℓ) (c : Dev nD)

/-- The factors. -/
abbrev arg0 : Mat 8192 5632 := m (c.tc.loc main_arg0)
abbrev arg1 : Mat 8192 2048 := m (c.tc.loc main_arg1)

/-- The call's first operand at an index. -/
theorem blk0 (t : Fin cfg0.N) (k : Fin 8192) (r : Fin 512) :
    iblk m c 0 t (ix2 k r) = arg0 m c (ix2 k ⟨512 * (t.val / 4) + r.val, by have := lt_N t; omega⟩) := by
  obtain ⟨h0, h1, h2⟩ := idx t
  have e : iblk m c 0 t (ix2 k r) = V m c main_v0 (ix2 k ⟨512 * (t.val / 4) + r.val, by have := lt_N t; omega⟩) := by
    blk_ext [iblk, h0]
  rw [e]
  entry_read
  pointwise

/-- The call's second operand at an index. -/
theorem blk1 (t : Fin cfg0.N) (k : Fin 8192) (r : Fin 512) :
    iblk m c 1 t (ix2 k r) = arg1 m c (ix2 k ⟨512 * (t.val % 4) + r.val, by have := lt_N t; omega⟩) := by
  obtain ⟨h0, h1, h2⟩ := idx t
  have e : iblk m c 1 t (ix2 k r) = V m c main_v1 (ix2 k ⟨512 * (t.val % 4) + r.val, by have := lt_N t; omega⟩) := by
    blk_ext [iblk, h1]
  rw [e]
  entry_read
  pointwise

/-- The array after the run is the product of the two arguments. -/
theorem arr : (dats m 0 c).arrAt 2 cfg0.N = tn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 512) (k := 512) y
  have e : ((cfg0.win 2).blk t).view.emb (ix2 r q) = ix2 ⟨512 * (t.val / 4) + r.val, by omega⟩ ⟨512 * (t.val % 4) + q.val, by omega⟩ := by
    blk_ext [h2]
  rw [e, after0_2, block]
  exact tn_tile (fun k => blk0 m c t k r) (fun k => blk1 m c t k q)

end Cert.Kernel10Ideal.Whole

namespace Cert.Proof.Prod10

open Idealize.ShloMosaic Idealize.SL.Sem Cert.Prod

/-- The kernel, its idealization and the reference end, their arguments unchanged and their counters at zero. -/
theorem frame_bits : Cert.quiescent_Kernel10 := fun m ρ _ => Cert.Kernel10.Gen.frame m ρ

theorem frame_ideal : Cert.quiescent_Kernel10Ideal := fun m ρ _ => Cert.Kernel10Ideal.Gen.frame m ρ

theorem frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The two end with the same product. -/
theorem value : Cert.algebraic_Kernel10Ideal_Reference10Ideal := by
  intro m ρ m' ρ' _ hargs
  refine ⟨_, (θ_run Cert.Kernel10Ideal.defs _ _).mono (fun _ h c => ⟨(h c).1.trans (Cert.Kernel10Ideal.Whole.arr m c), (h c).2⟩)
      (Cert.Kernel10Ideal.Value.run_blocks m ρ),
    (θ_run Cert.Reference10Ideal.defs _ _).mono (fun _ h c => ⟨(h c).1.trans ?_, (h c).2⟩)
      (Cert.Reference10Ideal.Value.run (F := Ideal) m' ρ')⟩
  rw [(hargs c).1, (hargs c).2]
  funext i
  pointwise [tn]
  exact Finset.sum_congr rfl fun k _ => mul_comm _ _

end Cert.Proof.Prod10

end
-- ==== Proof.Prod11.lean ====
module

public import proofs.«01_k».proof.Defs
public import proofs.«01_k».proof.Proof.Prod
public import proofs.«01_k».proof.Proof.Gen.Kernel11.Frame
public import proofs.«01_k».proof.Proof.Gen.Kernel11Ideal.Value
public import proofs.«01_k».proof.Proof.Gen.Reference11Ideal.Run
public import Idealize.ShloMosaic.Lib.Claim
public import Idealize.ShloMosaic.Lib.Pipeline.ValueKit.Point
public import Idealize.ShloMosaic.Lib.StableHlo.ReadAt

/-! # The gradient of ConvFFN's first weight -/

@[expose] public section

set_option maxRecDepth 16384

noncomputable section

namespace Cert.Kernel11Ideal.Whole

open Cert.Kernel11Ideal Cert.Kernel11Ideal.Gen Idealize.ShloMosaic Cert.Prod

/-- The blocks of grid point `t`. -/
theorem idx : ∀ t : Fin cfg0.N, win0_0.index t = ![0, t.val / 4] ∧ win0_1.index t = ![0, t.val % 4]
    ∧ win0_2.index t = ![t.val / 4, t.val % 4] := by decide +kernel

/-- There are 88 grid points. -/
theorem lt_N (t : Fin cfg0.N) : t.val < 88 := t.isLt

/-- A point's result is the product of its blocks. -/
theorem block (x : Vec Ideal S8192x512 .bf16) (y : Vec Ideal S8192x512 .bf16) : out0_2 x y = tn x y := by
  funext i
  unfold out0_2
  rw [View.canon_unit_zero (by decide), View.ld_unit_zero (by decide), View.ld_unit_zero (by decide)]
  pointwise [k0_pay1, tn]

variable (m : (ℓ : Loc nD τ sig) → Buf (Elt Ideal) ℓ) (c : Dev nD)

/-- The factors. -/
abbrev arg0 : Mat 8192 11264 := m (c.tc.loc main_arg0)
abbrev arg1 : Mat 8192 2048 := m (c.tc.loc main_arg1)

/-- The call's first operand at an index. -/
theorem blk0 (t : Fin cfg0.N) (k : Fin 8192) (r : Fin 512) :
    iblk m c 0 t (ix2 k r) = arg0 m c (ix2 k ⟨512 * (t.val / 4) + r.val, by have := lt_N t; omega⟩) := by
  obtain ⟨h0, h1, h2⟩ := idx t
  have e : iblk m c 0 t (ix2 k r) = V m c main_v0 (ix2 k ⟨512 * (t.val / 4) + r.val, by have := lt_N t; omega⟩) := by
    blk_ext [iblk, h0]
  rw [e]
  entry_read
  pointwise

/-- The call's second operand at an index. -/
theorem blk1 (t : Fin cfg0.N) (k : Fin 8192) (r : Fin 512) :
    iblk m c 1 t (ix2 k r) = arg1 m c (ix2 k ⟨512 * (t.val % 4) + r.val, by have := lt_N t; omega⟩) := by
  obtain ⟨h0, h1, h2⟩ := idx t
  have e : iblk m c 1 t (ix2 k r) = V m c main_v1 (ix2 k ⟨512 * (t.val % 4) + r.val, by have := lt_N t; omega⟩) := by
    blk_ext [iblk, h1]
  rw [e]
  entry_read
  pointwise

/-- The array after the run is the product of the two arguments. -/
theorem arr : (dats m 0 c).arrAt 2 cfg0.N = tn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 512) (k := 512) y
  have e : ((cfg0.win 2).blk t).view.emb (ix2 r q) = ix2 ⟨512 * (t.val / 4) + r.val, by omega⟩ ⟨512 * (t.val % 4) + q.val, by omega⟩ := by
    blk_ext [h2]
  rw [e, after0_2, block]
  exact tn_tile (fun k => blk0 m c t k r) (fun k => blk1 m c t k q)

end Cert.Kernel11Ideal.Whole

namespace Cert.Proof.Prod11

open Idealize.ShloMosaic Idealize.SL.Sem Cert.Prod

/-- The kernel, its idealization and the reference end, their arguments unchanged and their counters at zero. -/
theorem frame_bits : Cert.quiescent_Kernel11 := fun m ρ _ => Cert.Kernel11.Gen.frame m ρ

theorem frame_ideal : Cert.quiescent_Kernel11Ideal := fun m ρ _ => Cert.Kernel11Ideal.Gen.frame m ρ

theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The two end with the same product. -/
theorem value : Cert.algebraic_Kernel11Ideal_Reference11Ideal := by
  intro m ρ m' ρ' _ hargs
  refine ⟨_, (θ_run Cert.Kernel11Ideal.defs _ _).mono (fun _ h c => ⟨(h c).1.trans (Cert.Kernel11Ideal.Whole.arr m c), (h c).2⟩)
      (Cert.Kernel11Ideal.Value.run_blocks m ρ),
    (θ_run Cert.Reference11Ideal.defs _ _).mono (fun _ h c => ⟨(h c).1.trans ?_, (h c).2⟩)
      (Cert.Reference11Ideal.Value.run (F := Ideal) m' ρ')⟩
  rw [(hargs c).1, (hargs c).2]
  funext i
  pointwise [tn]

end Cert.Proof.Prod11

end
-- ==== Proof.Prod12.lean ====
module

public import proofs.«01_k».proof.Defs
public import proofs.«01_k».proof.Proof.Prod
public import proofs.«01_k».proof.Proof.Gen.Kernel12.Frame
public import proofs.«01_k».proof.Proof.Gen.Kernel12Ideal.Value
public import proofs.«01_k».proof.Proof.Gen.Reference12Ideal.Run
public import Idealize.ShloMosaic.Lib.Claim
public import Idealize.ShloMosaic.Lib.Pipeline.ValueKit.Point
public import Idealize.ShloMosaic.Lib.StableHlo.ReadAt

/-! # The gradient of the mixer's output weight -/

@[expose] public section

set_option maxRecDepth 16384

noncomputable section

namespace Cert.Kernel12Ideal.Whole

open Cert.Kernel12Ideal Cert.Kernel12Ideal.Gen Idealize.ShloMosaic Cert.Prod

/-- The blocks of grid point `t`. -/
theorem idx : ∀ t : Fin cfg0.N, win0_0.index t = ![0, t.val / 4] ∧ win0_1.index t = ![0, t.val % 4]
    ∧ win0_2.index t = ![t.val / 4, t.val % 4] := by decide +kernel

/-- There are 16 grid points. -/
theorem lt_N (t : Fin cfg0.N) : t.val < 16 := t.isLt

/-- A point's result is the product of its blocks. -/
theorem block (x : Vec Ideal S8192x512 .bf16) (y : Vec Ideal S8192x512 .bf16) : out0_2 x y = tn x y := by
  funext i
  unfold out0_2
  rw [View.canon_unit_zero (by decide), View.ld_unit_zero (by decide), View.ld_unit_zero (by decide)]
  pointwise [k0_pay1, tn]

variable (m : (ℓ : Loc nD τ sig) → Buf (Elt Ideal) ℓ) (c : Dev nD)

/-- The factors. -/
abbrev arg0 : Mat 8192 2048 := m (c.tc.loc main_arg0)
abbrev arg1 : Mat 8192 2048 := m (c.tc.loc main_arg1)

/-- The call's first operand at an index. -/
theorem blk0 (t : Fin cfg0.N) (k : Fin 8192) (r : Fin 512) :
    iblk m c 0 t (ix2 k r) = arg0 m c (ix2 k ⟨512 * (t.val / 4) + r.val, by have := lt_N t; omega⟩) := by
  obtain ⟨h0, h1, h2⟩ := idx t
  have e : iblk m c 0 t (ix2 k r) = V m c main_v0 (ix2 k ⟨512 * (t.val / 4) + r.val, by have := lt_N t; omega⟩) := by
    blk_ext [iblk, h0]
  rw [e]
  entry_read
  pointwise

/-- The call's second operand at an index. -/
theorem blk1 (t : Fin cfg0.N) (k : Fin 8192) (r : Fin 512) :
    iblk m c 1 t (ix2 k r) = arg1 m c (ix2 k ⟨512 * (t.val % 4) + r.val, by have := lt_N t; omega⟩) := by
  obtain ⟨h0, h1, h2⟩ := idx t
  have e : iblk m c 1 t (ix2 k r) = V m c main_v1 (ix2 k ⟨512 * (t.val % 4) + r.val, by have := lt_N t; omega⟩) := by
    blk_ext [iblk, h1]
  rw [e]
  entry_read
  pointwise

/-- The array after the run is the product of the two arguments. -/
theorem arr : (dats m 0 c).arrAt 2 cfg0.N = tn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 512) (k := 512) y
  have e : ((cfg0.win 2).blk t).view.emb (ix2 r q) = ix2 ⟨512 * (t.val / 4) + r.val, by omega⟩ ⟨512 * (t.val % 4) + q.val, by omega⟩ := by
    blk_ext [h2]
  rw [e, after0_2, block]
  exact tn_tile (fun k => blk0 m c t k r) (fun k => blk1 m c t k q)

end Cert.Kernel12Ideal.Whole

namespace Cert.Proof.Prod12

open Idealize.ShloMosaic Idealize.SL.Sem Cert.Prod

/-- The kernel, its idealization and the reference end, their arguments unchanged and their counters at zero. -/
theorem frame_bits : Cert.quiescent_Kernel12 := fun m ρ _ => Cert.Kernel12.Gen.frame m ρ

theorem frame_ideal : Cert.quiescent_Kernel12Ideal := fun m ρ _ => Cert.Kernel12Ideal.Gen.frame m ρ

theorem frame_ref : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The two end with the same product. -/
theorem value : Cert.algebraic_Kernel12Ideal_Reference12Ideal := by
  intro m ρ m' ρ' _ hargs
  refine ⟨_, (θ_run Cert.Kernel12Ideal.defs _ _).mono (fun _ h c => ⟨(h c).1.trans (Cert.Kernel12Ideal.Whole.arr m c), (h c).2⟩)
      (Cert.Kernel12Ideal.Value.run_blocks m ρ),
    (θ_run Cert.Reference12Ideal.defs _ _).mono (fun _ h c => ⟨(h c).1.trans ?_, (h c).2⟩)
      (Cert.Reference12Ideal.Value.run (F := Ideal) m' ρ')⟩
  rw [(hargs c).1, (hargs c).2]
  funext i
  pointwise [tn]
  exact Finset.sum_congr rfl fun k _ => mul_comm _ _

end Cert.Proof.Prod12

end
-- ==== Proof.Prod13.lean ====
module

public import proofs.«01_k».proof.Defs
public import proofs.«01_k».proof.Proof.Prod
public import proofs.«01_k».proof.Proof.Gen.Kernel13.Frame
public import proofs.«01_k».proof.Proof.Gen.Kernel13Ideal.Value
public import proofs.«01_k».proof.Proof.Gen.Reference13Ideal.Run
public import Idealize.ShloMosaic.Lib.Claim
public import Idealize.ShloMosaic.Lib.Pipeline.ValueKit.Point
public import Idealize.ShloMosaic.Lib.StableHlo.ReadAt

/-! # The gradient of the state-space branch's weight -/

@[expose] public section

set_option maxRecDepth 16384

noncomputable section

namespace Cert.Kernel13Ideal.Whole

open Cert.Kernel13Ideal Cert.Kernel13Ideal.Gen Idealize.ShloMosaic Cert.Prod

/-- The blocks of grid point `t`. -/
theorem idx : ∀ t : Fin cfg0.N, win0_0.index t = ![0, t.val / 4] ∧ win0_1.index t = ![0, t.val % 4]
    ∧ win0_2.index t = ![t.val / 4, t.val % 4] := by decide +kernel

/-- There are 32 grid points. -/
theorem lt_N (t : Fin cfg0.N) : t.val < 32 := t.isLt

/-- A point's result is the product of its blocks. -/
theorem block (x : Vec Ideal S8192x512 .bf16) (y : Vec Ideal S8192x512 .bf16) : out0_2 x y = tn x y := by
  funext i
  unfold out0_2
  rw [View.canon_unit_zero (by decide), View.ld_unit_zero (by decide), View.ld_unit_zero (by decide)]
  pointwise [k0_pay1, tn]

variable (m : (ℓ : Loc nD τ sig) → Buf (Elt Ideal) ℓ) (c : Dev nD)

/-- The factors. -/
abbrev arg0 : Mat 8192 4096 := m (c.tc.loc main_arg0)
abbrev arg1 : Mat 8192 2048 := m (c.tc.loc main_arg1)

/-- The call's first operand at an index. -/
theorem blk0 (t : Fin cfg0.N) (k : Fin 8192) (r : Fin 512) :
    iblk m c 0 t (ix2 k r) = arg0 m c (ix2 k ⟨512 * (t.val / 4) + r.val, by have := lt_N t; omega⟩) := by
  obtain ⟨h0, h1, h2⟩ := idx t
  have e : iblk m c 0 t (ix2 k r) = V m c main_v0 (ix2 k ⟨512 * (t.val / 4) + r.val, by have := lt_N t; omega⟩) := by
    blk_ext [iblk, h0]
  rw [e]
  entry_read
  pointwise

/-- The call's second operand at an index. -/
theorem blk1 (t : Fin cfg0.N) (k : Fin 8192) (r : Fin 512) :
    iblk m c 1 t (ix2 k r) = arg1 m c (ix2 k ⟨512 * (t.val % 4) + r.val, by have := lt_N t; omega⟩) := by
  obtain ⟨h0, h1, h2⟩ := idx t
  have e : iblk m c 1 t (ix2 k r) = V m c main_v1 (ix2 k ⟨512 * (t.val % 4) + r.val, by have := lt_N t; omega⟩) := by
    blk_ext [iblk, h1]
  rw [e]
  entry_read
  pointwise

/-- The array after the run is the product of the two arguments. -/
theorem arr : (dats m 0 c).arrAt 2 cfg0.N = tn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 512) (k := 512) y
  have e : ((cfg0.win 2).blk t).view.emb (ix2 r q) = ix2 ⟨512 * (t.val / 4) + r.val, by omega⟩ ⟨512 * (t.val % 4) + q.val, by omega⟩ := by
    blk_ext [h2]
  rw [e, after0_2, block]
  exact tn_tile (fun k => blk0 m c t k r) (fun k => blk1 m c t k q)

end Cert.Kernel13Ideal.Whole

namespace Cert.Proof.Prod13

open Idealize.ShloMosaic Idealize.SL.Sem Cert.Prod

/-- The kernel, its idealization and the reference end, their arguments unchanged and their counters at zero. -/
theorem frame_bits : Cert.quiescent_Kernel13 := fun m ρ _ => Cert.Kernel13.Gen.frame m ρ

theorem frame_ideal : Cert.quiescent_Kernel13Ideal := fun m ρ _ => Cert.Kernel13Ideal.Gen.frame m ρ

theorem frame_ref : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The two end with the same product. -/
theorem value : Cert.algebraic_Kernel13Ideal_Reference13Ideal := by
  intro m ρ m' ρ' _ hargs
  refine ⟨_, (θ_run Cert.Kernel13Ideal.defs _ _).mono (fun _ h c => ⟨(h c).1.trans (Cert.Kernel13Ideal.Whole.arr m c), (h c).2⟩)
      (Cert.Kernel13Ideal.Value.run_blocks m ρ),
    (θ_run Cert.Reference13Ideal.defs _ _).mono (fun _ h c => ⟨(h c).1.trans ?_, (h c).2⟩)
      (Cert.Reference13Ideal.Value.run (F := Ideal) m' ρ')⟩
  rw [(hargs c).1, (hargs c).2]
  funext i
  pointwise [tn]
  exact Finset.sum_congr rfl fun k _ => mul_comm _ _

end Cert.Proof.Prod13

end
-- ==== Proof.Prod14.lean ====
module

public import proofs.«01_k».proof.Defs
public import proofs.«01_k».proof.Proof.Prod
public import proofs.«01_k».proof.Proof.Gen.Kernel14.Frame
public import proofs.«01_k».proof.Proof.Gen.Kernel14Ideal.Value
public import proofs.«01_k».proof.Proof.Gen.Reference14Ideal.Run
public import Idealize.ShloMosaic.Lib.Claim
public import Idealize.ShloMosaic.Lib.Pipeline.ValueKit.Point
public import Idealize.ShloMosaic.Lib.StableHlo.ReadAt

/-! # The gradient of the gated branch's input weight -/

@[expose] public section

set_option maxRecDepth 16384

noncomputable section

namespace Cert.Kernel14Ideal.Whole

open Cert.Kernel14Ideal Cert.Kernel14Ideal.Gen Idealize.ShloMosaic Cert.Prod

/-- The blocks of grid point `t`. -/
theorem idx : ∀ t : Fin cfg0.N, win0_0.index t = ![0, t.val / 4] ∧ win0_1.index t = ![0, t.val % 4]
    ∧ win0_2.index t = ![t.val / 4, t.val % 4] := by decide +kernel

/-- There are 64 grid points. -/
theorem lt_N (t : Fin cfg0.N) : t.val < 64 := t.isLt

/-- A point's result is the product of its blocks. -/
theorem block (x : Vec Ideal S8192x512 .bf16) (y : Vec Ideal S8192x512 .bf16) : out0_2 x y = tn x y := by
  funext i
  unfold out0_2
  rw [View.canon_unit_zero (by decide), View.ld_unit_zero (by decide), View.ld_unit_zero (by decide)]
  pointwise [k0_pay1, tn]

variable (m : (ℓ : Loc nD τ sig) → Buf (Elt Ideal) ℓ) (c : Dev nD)

/-- The factors. -/
abbrev arg0 : Mat 8192 8192 := m (c.tc.loc main_arg0)
abbrev arg1 : Mat 8192 2048 := m (c.tc.loc main_arg1)

/-- The call's first operand at an index. -/
theorem blk0 (t : Fin cfg0.N) (k : Fin 8192) (r : Fin 512) :
    iblk m c 0 t (ix2 k r) = arg0 m c (ix2 k ⟨512 * (t.val / 4) + r.val, by have := lt_N t; omega⟩) := by
  obtain ⟨h0, h1, h2⟩ := idx t
  have e : iblk m c 0 t (ix2 k r) = V m c main_v0 (ix2 k ⟨512 * (t.val / 4) + r.val, by have := lt_N t; omega⟩) := by
    blk_ext [iblk, h0]
  rw [e]
  entry_read
  pointwise

/-- The call's second operand at an index. -/
theorem blk1 (t : Fin cfg0.N) (k : Fin 8192) (r : Fin 512) :
    iblk m c 1 t (ix2 k r) = arg1 m c (ix2 k ⟨512 * (t.val % 4) + r.val, by have := lt_N t; omega⟩) := by
  obtain ⟨h0, h1, h2⟩ := idx t
  have e : iblk m c 1 t (ix2 k r) = V m c main_v1 (ix2 k ⟨512 * (t.val % 4) + r.val, by have := lt_N t; omega⟩) := by
    blk_ext [iblk, h1]
  rw [e]
  entry_read
  pointwise

/-- The array after the run is the product of the two arguments. -/
theorem arr : (dats m 0 c).arrAt 2 cfg0.N = tn (arg0 m c) (arg1 m c) := by
  refine (dats m 0 c).arrAt_eq_of_covers 2 _ (by decide +kernel) fun t hf y => ?_
  have ht := lt_N t
  obtain ⟨h0, h1, h2⟩ := idx t
  obtain ⟨r, q, rfl⟩ := eq_ix2 (n := 512) (k := 512) y
  have e : ((cfg0.win 2).blk t).view.emb (ix2 r q) = ix2 ⟨512 * (t.val / 4) + r.val, by omega⟩ ⟨512 * (t.val % 4) + q.val, by omega⟩ := by
    blk_ext [h2]
  rw [e, after0_2, block]
  exact tn_tile (fun k => blk0 m c t k r) (fun k => blk1 m c t k q)

end Cert.Kernel14Ideal.Whole

namespace Cert.Proof.Prod14

open Idealize.ShloMosaic Idealize.SL.Sem Cert.Prod

/-- The kernel, its idealization and the reference end, their arguments unchanged and their counters at zero. -/
theorem frame_bits : Cert.quiescent_Kernel14 := fun m ρ _ => Cert.Kernel14.Gen.frame m ρ

theorem frame_ideal : Cert.quiescent_Kernel14Ideal := fun m ρ _ => Cert.Kernel14Ideal.Gen.frame m ρ

theorem frame_ref : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The two end with the same product. -/
theorem value : Cert.algebraic_Kernel14Ideal_Reference14Ideal := by
  intro m ρ m' ρ' _ hargs
  refine ⟨_, (θ_run Cert.Kernel14Ideal.defs _ _).mono (fun _ h c => ⟨(h c).1.trans (Cert.Kernel14Ideal.Whole.arr m c), (h c).2⟩)
      (Cert.Kernel14Ideal.Value.run_blocks m ρ),
    (θ_run Cert.Reference14Ideal.defs _ _).mono (fun _ h c => ⟨(h c).1.trans ?_, (h c).2⟩)
      (Cert.Reference14Ideal.Value.run (F := Ideal) m' ρ')⟩
  rw [(hargs c).1, (hargs c).2]
  funext i
  pointwise [tn]

end Cert.Proof.Prod14

end
-- ==== Proof.Norm.lean ====
module

public import proofs.«01_k».proof.Proof.Prod

/-! # The gradient of the norm of a row, and sums over the rows by tiles -/

@[expose] public section

noncomputable section

namespace Cert.Norm

open Idealize.ShloMosaic Cert.Prod

/-- A row. -/
abbrev Row : Type := Fin 2048 → EReal

/-- The mean of the squares, a little above. -/
def ms (x : Row) : EReal :=
  Ideal.div (∑ k, x k * x k) (Ideal.ofBits FTy.f32 1157627904#32) + Ideal.ofBits FTy.f32 897988541#32

/-- The part of the gradient that comes through the mean. -/
def slope (x g : Row) : EReal :=
  ∑ _k : Fin 1, Ideal.div ((∑ k, x k * g k) * (Ideal.ofBits FTy.f32 3204448256#32 * Ideal.div (Ideal.rsqrt (ms x)) (ms x)))
    (Ideal.ofBits FTy.f32 1157627904#32)

/-- The gradient of the norm's argument, `g` being the incoming gradient times the weight. -/
def dx (x g : Row) : Row := fun q => g q * Ideal.rsqrt (ms x) + x q * slope x g + slope x g * x q

/-- A row's part of the gradient of the weight, `d` being the incoming gradient. -/
def dw (x d : Row) : Row := fun q => x q * Ideal.rsqrt (ms x) * d q

/-- The norm of a row, times the weight. -/
def rms (x w : Row) : Row := fun q => x q * Ideal.rsqrt (ms x) * w q

/-- A row of a matrix. -/
def row {n k : ℕ} (a : Mat n k) (p : Fin n) : Fin k → EReal := fun q => a (ix2 p q)

/-- A function of the rows, zero after the last. -/
def ext (f : Fin 8192 → EReal) (n : ℕ) : EReal := if h : n < 8192 then f ⟨n, h⟩ else 0

theorem ext_of (f : Fin 8192 → EReal) (n : ℕ) (h : n < 8192) : ext f n = f ⟨n, h⟩ := dif_pos h

/-- The sum over all rows. -/
theorem sum_ext (f : Fin 8192 → EReal) : ∑ n ∈ Finset.range 8192, ext f n = ∑ r, f r := by
  rw [← Fin.sum_univ_eq_sum_range]
  exact Finset.sum_congr rfl fun r _ => ext_of f r.val r.isLt

/-- The sum over a tile's rows. -/
theorem sum_tile (f : Fin 8192 → EReal) (T : ℕ) (hT : 256 * T + 256 ≤ 8192) (g : Fin 256 → EReal)
    (h : ∀ r : Fin 256, g r = f ⟨256 * T + r.val, by omega⟩) : ∑ r, g r = ∑ r ∈ Finset.range 256, ext f (256 * T + r) := by
  rw [← Fin.sum_univ_eq_sum_range (fun r => ext f (256 * T + r))]
  exact Finset.sum_congr rfl fun r _ => (h r).trans (ext_of f _ _).symm

/-- The sum over the rows before a tile's end, the tile's apart. -/
theorem sum_next (f : ℕ → EReal) (T : ℕ) :
    ∑ n ∈ Finset.range (256 * (T + 1)), f n = ∑ n ∈ Finset.range (256 * T), f n + ∑ r ∈ Finset.range 256, f (256 * T + r) := by
  rw [Nat.mul_succ, Finset.sum_range_add]

/-- A tile's sum. -/
def tile (f : Fin 8192 → EReal) (T : ℕ) : EReal := ∑ r ∈ Finset.range 256, ext f (256 * T + r)

theorem sum_tiles (f : ℕ → EReal) (n : ℕ) :
    ∑ T ∈ Finset.range n, ∑ r ∈ Finset.range 256, f (256 * T + r) = ∑ k ∈ Finset.range (256 * n), f k := by
  induction n with
  | zero => rfl
  | succ n ih => rw [Finset.sum_range_succ, ih, sum_next]

/-- The sum over all rows, its tiles taken from the last to the first. -/
theorem sum_back (f : Fin 8192 → EReal) : ∑ j ∈ Finset.range 32, tile f (31 - j) = ∑ r, f r :=
  (Finset.sum_range_reflect (tile f) 32).trans ((sum_tiles (ext f) 32).trans (sum_ext f))

end Cert.Norm

end
-- ==== Proof.MixBwd.lean ====
module

public import proofs.«01_k».proof.Defs
public import proofs.«01_k».proof.Proof.Norm
public import proofs.«01_k».proof.Proof.Gen.Kernel15Ideal.Value
public import proofs.«01_k».proof.Proof.Gen.Reference15Ideal.Run
public import Idealize.ShloMosaic.Lib.Claim
public import Idealize.ShloMosaic.Lib.Pipeline.ValueKit.Point
public import Idealize.ShloMosaic.Lib.StableHlo.ReadAt

/-! # The gradient of the gates that merge the two branches -/

@[expose] public section

set_option maxRecDepth 16384

noncomputable section

namespace Cert.Kernel15Ideal.Whole

open Cert.Kernel15Ideal Cert.Kernel15Ideal.Gen Idealize.ShloMosaic Idealize.SL.Sem Cert.Prod Cert.Norm

theorem hz2 : (![0, 0] : Fin 2 → ℕ) = fun _ => 0 := funext fun a => by fin_cases a <;> rfl

/-- A row of gates. -/
abbrev Gates : Type := Fin 4096 → EReal

/-- The gradient of a gate, `u` being its branch's value and `d` the incoming gradient. -/
def slopeOf (d u g : EReal) : EReal := d * u * (Ideal.logistic g * (1 - Ideal.logistic g))

/-- The gradient of a row of gates: the first 2048 are one branch's, the last 2048 the other's. -/
def dgate (g : Gates) (a b d : Row) : Gates := fun q =>
  (if h : q.val < 2048 then 0 else
    slopeOf (d ⟨q.val - 2048, by omega⟩) (b ⟨q.val - 2048, by omega⟩) (g ⟨2048 + (q.val - 2048), by omega⟩))
  + if h : q.val < 2048 then slopeOf (d ⟨q.val, h⟩) (a ⟨q.val, h⟩) (g q) else 0

/-- The gradients of the two branches. -/
def dleft (g : Gates) (d : Row) : Row := fun q => Ideal.logistic (g ⟨q.val, by omega⟩) * d q

def dright (g : Gates) (d : Row) : Row := fun q => Ideal.logistic (g ⟨2048 + q.val, by omega⟩) * d q

/-- An entry among the last 2048, and zero elsewhere. -/
theorem late (q : Fin 4096) (f : q.val - 2048 < 2048 → EReal) :
    (if h : 2048 ≤ q.val ∧ q.val - 2048 < 2048 then f h.2 else 0) = if h : q.val < 2048 then 0 else f (by omega) := by
  by_cases h : q.val < 2048
  · rw [dif_pos h, dif_neg (by omega)]
  · rw [dif_neg h, dif_pos ⟨by omega, by omega⟩]

/-- A block's gradients, entry by entry. -/
theorem pay_g (x : Vec Ideal S256x4096 .f32) (a b d : Vec Ideal S256x2048 .f32) (p : Fin 256) (q : Fin 4096) :
    k0_pay5 x a b d (ix2 p q) = dgate (row x p) (row a p) (row b p) (row d p) q := by
  pointwise [k0_pay5, k0_pay1, k0_pay2, k0_pay3, k0_pay4]
  rfl

theorem pay_a (x : Vec Ideal S256x4096 .f32) (d : Vec Ideal S256x2048 .f32) (p : Fin 256) (q : Fin 2048) :
    k0_pay6 x d (ix2 p q) = dleft (row x p) (row d p) q := by
  pointwise [k0_pay6, k0_pay1, k0_pay3]
  rfl

theorem pay_b (x : Vec Ideal S256x4096 .f32) (d : Vec Ideal S256x2048 .f32) (p : Fin 256) (q : Fin 2048) :
    k0_pay7 x d (ix2 p q) = dright (row x p) (row d p) q := by
  pointwise [k0_pay7, k0_pay2, k0_pay4]
  rfl

/-- What a point leaves. -/
theorem out4 (x : Vec Ideal S256x4096 .f32) (a b d : Vec Ideal S256x2048 .f32) : out0_4 x a b d = k0_pay5 x a b d := by
  unfold out0_4
  rw [View.canon_unit_zero hz2]
  simp only [View.ld_unit_zero (S := S256x4096) hz2, View.ld_unit_zero (S := S256x2048) hz2]

theorem out5 (x : Vec Ideal S256x4096 .f32) (a b d : Vec Ideal S256x2048 .f32) : out0_5 x a b d = k0_pay6 x d := by
  unfold out0_5
  rw [View.canon_unit_zero hz2]
  simp only [View.ld_unit_zero (S := S256x4096) hz2, View.ld_unit_zero (S := S256x2048) hz2]

theorem out6 (x : Vec Ideal S256x4096 .f32) (a b d : Vec Ideal S256x2048 .f32) : out0_6 x a b d = k0_pay7 x d := by
  unfold out0_6
  rw [View.canon_unit_zero hz2]
  simp only [View.ld_unit_zero (S := S256x4096) hz2, View.ld_unit_zero (S := S256x2048) hz2]

variable (m : (ℓ : Loc nD τ sig) → Buf (Elt Ideal) ℓ) (c : Dev nD)

/-- The arguments. -/
abbrev arg0 : Mat 8192 4096 := m (c.tc.loc main_arg0)
abbrev arg1 : Mat 8192 2048 := m (c.tc.loc main_arg1)
abbrev arg2 : Mat 8192 2048 := m (c.tc.loc main_arg2)
abbrev arg3 : Mat 8192 2048 := m (c.tc.loc main_arg3)

/-- The blocks of grid point `t`. -/
theorem idx : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![31 - t.val, 0] ∧ win0_5.index t = ![31 - t.val, 0]
    ∧ win0_6.index t = ![31 - t.val, 0] := by decide +kernel

/-- Row `p` of point `t`'s tile: the tiles are taken from the last to the first. -/
abbrev at_ (t : Fin cfg0.N) (p : Fin 256) : Fin 8192 := ⟨256 * (31 - t.val) + p.val, by omega⟩

/-- A row of a block is a row of the argument. -/
theorem row0 (t : Fin cfg0.N) (p : Fin 256) : row (n := 256) (k := 4096) (iblk m c 0 t) p = row (arg0 m c) (at_ t p) := by
  obtain ⟨h, -⟩ := idx t
  funext q
  have e : iblk m c 0 t (ix2 p q) = V m c main_arg0 (ix2 (at_ t p) q) := by blk_ext [iblk, h]
  exact e.trans (congrFun (V_main_arg0 m c) _)

theorem row1 (t : Fin cfg0.N) (p : Fin 256) : row (n := 256) (k := 2048) (iblk m c 1 t) p = row (arg1 m c) (at_ t p) := by
  obtain ⟨-, h, -⟩ := idx t
  funext q
  have e : iblk m c 1 t (ix2 p q) = V m c main_arg1 (ix2 (at_ t p) q) := by blk_ext [iblk, h]
  exact e.trans (congrFun (V_main_arg1 m c) _)

theorem row2 (t : Fin cfg0.N) (p : Fin 256) : row (n := 256) (k := 2048) (iblk m c 2 t) p = row (arg2 m c) (at_ t p) := by
  obtain ⟨-, -, h, -⟩ := idx t
  funext q
  have e : iblk m c 2 t (ix2 p q) = V m c main_arg2 (ix2 (at_ t p) q) := by blk_ext [iblk, h]
  exact e.trans (congrFun (V_main_arg2 m c) _)

theorem row3 (t : Fin cfg0.N) (p : Fin 256) : row (n := 256) (k := 2048) (iblk m c 3 t) p = row (arg3 m c) (at_ t p) := by
  obtain ⟨-, -, -, h, -⟩ := idx t
  funext q
  have e : iblk m c 3 t (ix2 p q) = V m c main_arg3 (ix2 (at_ t p) q) := by blk_ext [iblk, h]
  exact e.trans (congrFun (V_main_arg3 m c) _)

/-- The gradients, after the run. -/
theorem arr4 : (dats m 0 c).arrAt 4 cfg0.N
    = fun i => dgate (row (arg0 m c) (i 0)) (row (arg1 m c) (i 0)) (row (arg2 m c) (i 0)) (row (arg3 m c) (i 0)) (i 1) := by
  refine (dats m 0 c).arrAt_eq_of_covers 4 _ (by decide +kernel) fun t hf y => ?_
  obtain ⟨-, -, -, -, h, -⟩ := idx t
  obtain ⟨p, q, rfl⟩ := eq_ix2 (n := 256) (k := 4096) y
  have e : ((cfg0.win 4).blk t).view.emb (ix2 p q) = ix2 (at_ t p) q := by blk_ext [h]
  rw [e, after0_4, out4]
  refine (pay_g _ _ _ _ p q).trans ?_
  rw [row0, row1, row2, row3]
  rfl

theorem arr5 : (dats m 0 c).arrAt 5 cfg0.N = fun i => dleft (row (arg0 m c) (i 0)) (row (arg3 m c) (i 0)) (i 1) := by
  refine (dats m 0 c).arrAt_eq_of_covers 5 _ (by decide +kernel) fun t hf y => ?_
  obtain ⟨-, -, -, -, -, h, -⟩ := idx t
  obtain ⟨p, q, rfl⟩ := eq_ix2 (n := 256) (k := 2048) y
  have e : ((cfg0.win 5).blk t).view.emb (ix2 p q) = ix2 (at_ t p) q := by blk_ext [h]
  rw [e, after0_5, out5]
  refine (pay_a _ _ p q).trans ?_
  rw [row0, row3]
  rfl

theorem arr6 : (dats m 0 c).arrAt 6 cfg0.N = fun i => dright (row (arg0 m c) (i 0)) (row (arg3 m c) (i 0)) (i 1) := by
  refine (dats m 0 c).arrAt_eq_of_covers 6 _ (by decide +kernel) fun t hf y => ?_
  obtain ⟨-, -, -, -, -, -, h⟩ := idx t
  obtain ⟨p, q, rfl⟩ := eq_ix2 (n := 256) (k := 2048) y
  have e : ((cfg0.win 6).blk t).view.emb (ix2 p q) = ix2 (at_ t p) q := by blk_ext [h]
  rw [e, after0_6, out6]
  refine (pay_b _ _ p q).trans ?_
  rw [row0, row3]
  rfl

/-- The two end with the same gradients. -/
theorem value : Cert.algebraic_Kernel15Ideal_Reference15Ideal := by
  intro m ρ m' ρ' _ hargs
  refine ⟨_, _, _, (θ_run _ _ _).mono (fun _ h c => ⟨(h c).1.trans (arr4 m c), (h c).2.1.trans (arr5 m c),
      (h c).2.2.1.trans (arr6 m c), (h c).2.2.2⟩) (Cert.Kernel15Ideal.Value.run_blocks m ρ),
    (θ_run _ _ _).mono (fun _ h c => ⟨(h c).1.trans ?_, (h c).2.1.trans ?_, (h c).2.2.1.trans ?_, (h c).2.2.2⟩)
      (Cert.Reference15Ideal.Value.run (F := Ideal) m' ρ')⟩
  · obtain ⟨e0, e1, e2, e3⟩ := hargs c
    rw [e0, e1, e2, e3]
    funext i
    obtain ⟨p, q, rfl⟩ := eq_ix2 (n := 8192) (k := 4096) i
    pointwise
    exact congrArg (· + _) (late q fun h => slopeOf (arg3 m c (ix2 p ⟨q.val - 2048, h⟩)) (arg2 m c (ix2 p ⟨q.val - 2048, h⟩))
      (arg0 m c (ix2 p ⟨2048 + (q.val - 2048), by omega⟩)))
  · obtain ⟨e0, e1, e2, e3⟩ := hargs c
    rw [e0, e3]
    funext i
    obtain ⟨p, q, rfl⟩ := eq_ix2 (n := 8192) (k := 2048) i
    pointwise
    rfl
  · obtain ⟨e0, e1, e2, e3⟩ := hargs c
    rw [e0, e3]
    funext i
    obtain ⟨p, q, rfl⟩ := eq_ix2 (n := 8192) (k := 2048) i
    pointwise
    rfl

/-- The reference ends, its arguments unchanged and its counters at zero. -/
theorem frame_ref : Cert.quiescent_Reference15Ideal := fun m ρ _ =>
  (θ_run _ _ _).mono (fun r h => ⟨fun c => (h c).2.2.2, sem_eq_zero_of_no_sems (by decide) r.2⟩) (Cert.Reference15Ideal.Value.run (F := Ideal) m ρ)

end Cert.Kernel15Ideal.Whole

end
-- ==== Proof.PreBwd.lean ====
module

public import proofs.«01_k».proof.Defs
public import proofs.«01_k».proof.Proof.Norm
public import proofs.«01_k».proof.Proof.Gen.Kernel16Ideal.Value
public import proofs.«01_k».proof.Proof.Gen.Reference16Ideal.Run
public import Idealize.ShloMosaic.Lib.Claim
public import Idealize.ShloMosaic.Lib.Pipeline.ValueKit.Point
public import Idealize.ShloMosaic.Lib.StableHlo.ReadAt

/-! # The gradient of the mixers' first norm, added to the residual's: the gradient of the step's input -/

@[expose] public section

set_option maxRecDepth 16384

noncomputable section

namespace Cert.Kernel16Ideal.Whole

open Cert.Kernel16Ideal Cert.Kernel16Ideal.Gen Idealize.ShloMosaic Idealize.SL.Sem Cert.Prod Cert.Norm

/-- The three incoming gradients added, and then times the weight. -/
def inc {n : ℕ} (a b d : Mat n 2048) (p : Fin n) : Row := fun k => a (ix2 p k) + b (ix2 p k) + d (ix2 p k)

def incW {n : ℕ} (a b d : Mat n 2048) (w : Row) (p : Fin n) : Row := fun k => (a (ix2 p k) + b (ix2 p k) + d (ix2 p k)) * w k

theorem hz2 : (![0, 0] : Fin 2 → ℕ) = fun _ => 0 := funext fun a => by fin_cases a <;> rfl

theorem hz3 : (![0, 0, 0] : Fin 3 → ℕ) = fun _ => 0 := funext fun a => by fin_cases a <;> rfl

/-- A block's gradient of the argument, entry by entry. -/
theorem pay_x (x a b d r : Vec Ideal S256x2048 .f32) (w : Vec Ideal S1x1x2048 .f32) (p : Fin 256) (q : Fin 2048) :
    k0_pay1 x r (k0_pay9 x a b d w) (k0_pay10 x a b d w) (ix2 p q)
      = dx (row x p) (incW a b d (fun k => w (ix3 0 0 k)) p) q + r (ix2 p q) := by
  pointwise [k0_pay1, k0_pay9, k0_pay10, k0_pay8, k0_pay6, k0_pay5, k0_pay4]
  rfl

/-- A block's part of the gradient of the weight, on top of what is there. -/
theorem pay_w (x a b d : Vec Ideal S256x2048 .f32) (g : Vec Ideal S1x1x2048 .f32) (q : Fin 2048) :
    k0_pay2 (k0_pay7 x a b d) g (ix3 0 0 q) = g (ix3 0 0 q) + ∑ p, dw (row x p) (inc a b d p) q := by
  pointwise [k0_pay2, k0_pay7, k0_pay6, k0_pay5, k0_pay4]
  rfl

section cases

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S256x2048 .f32) (h6 : a6.IsWhole)
  (a7 : Memref sig .tc .vmem S1x1x2048 .f32) (h7 : a7.IsWhole) (a8 : Memref sig .tc .vmem S256x2048 .f32) (h8 : a8.IsWhole)
  (a9 : Memref sig .tc .vmem S1x1x2048 .f32) (h9 : a9.IsWhole)
  (x a b d r : Vec Ideal S256x2048 .f32) (w : Vec Ideal S1x1x2048 .f32) (g : Vec Ideal S1x1x2048 .f32)

/-- What the first point leaves. -/
theorem first6 (hc : cond0_0 i) : out0_A_6 c i a2 h2 a3 h3 a4 h4 a5 h5 a6 h6 a7 h7 a8 h8 a9 h9 hc x a b d r w
    = k0_pay1 x r (k0_pay9 x a b d w) (k0_pay10 x a b d w) := by
  unfold out0_A_6
  rw [View.read_writes_eq_canon _ _ _ (cover0_A_6 c i a2 h2 a3 h3 a4 h4 a5 h5 a6 h6 a7 h7 a8 h8 a9 h9 hc x a b d r w)]
  unfold kernelRun0_A
  dsimp only
  sl_unfold_words
  rw [View.canon_unit_zero hz2]
  simp only [View.readAt_eq_ld, h2.read_unread, h3.read_unread, h4.read_unread, h5.read_unread, h6.read_unread, h7.read_unread,
    View.ld_unit_zero (S := S256x2048) hz2, View.ld_unit_zero (S := S1x1x2048) hz3]

theorem first7 (hc : cond0_0 i) : out0_A_7 c i a2 h2 a3 h3 a4 h4 a5 h5 a6 h6 a7 h7 a8 h8 a9 h9 hc x a b d r w
    = k0_pay2 (k0_pay7 x a b d) (k0_pay3 (F := Ideal)) := by
  unfold out0_A_7
  rw [View.read_writes_eq_canon _ _ _ (cover0_A_7 c i a2 h2 a3 h3 a4 h4 a5 h5 a6 h6 a7 h7 a8 h8 a9 h9 hc x a b d r w)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread, h5.read_unread,
    View.ld_unit_zero (S := S256x2048) hz2]

/-- What a later point leaves. -/
theorem later6 (hc : ¬cond0_0 i) : out0_B_6 c i a2 h2 a3 h3 a4 h4 a5 h5 a6 h6 a7 h7 a8 h8 a9 h9 hc x a b d r w g
    = k0_pay1 x r (k0_pay9 x a b d w) (k0_pay10 x a b d w) := by
  unfold out0_B_6
  rw [View.read_writes_eq_canon _ _ _ (cover0_B_6 c i a2 h2 a3 h3 a4 h4 a5 h5 a6 h6 a7 h7 a8 h8 a9 h9 hc x a b d r w g)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S256x2048) hz2, View.ld_unit_zero (S := S1x1x2048) hz3]

theorem later7 (hc : ¬cond0_0 i) : out0_B_7 c i a2 h2 a3 h3 a4 h4 a5 h5 a6 h6 a7 h7 a8 h8 a9 h9 hc x a b d r w g
    = k0_pay2 (k0_pay7 x a b d) g := by
  unfold out0_B_7
  rw [View.read_writes_eq_canon _ _ _ (cover0_B_7 c i a2 h2 a3 h3 a4 h4 a5 h5 a6 h6 a7 h7 a8 h8 a9 h9 hc x a b d r w g)]
  unfold kernelRun0_B
  dsimp only
  sl_unfold_words
  rw [View.canon_unit_zero hz3]
  simp only [View.readAt_eq_ld, h2.read_unread, h3.read_unread, h4.read_unread, h5.read_unread, h9.read_unread,
    View.ld_unit_zero (S := S256x2048) hz2, View.ld_unit_zero (S := S1x1x2048) hz3]

end cases

variable (m : (ℓ : Loc nD τ sig) → Buf (Elt Ideal) ℓ) (c : Dev nD)

/-- The arguments. -/
abbrev arg0 : Mat 8192 2048 := m (c.tc.loc main_arg0)
abbrev arg1 : Mat 1 2048 := m (c.tc.loc main_arg1)
abbrev arg2 : Mat 8192 2048 := m (c.tc.loc main_arg2)
abbrev arg3 : Mat 8192 2048 := m (c.tc.loc main_arg3)
abbrev arg4 : Mat 8192 2048 := m (c.tc.loc main_arg4)
abbrev arg5 : Mat 8192 2048 := m (c.tc.loc main_arg5)

/-- The blocks of grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![t.val, 0]
    ∧ win0_7.index t = ![0, 0, 0] := by decide +kernel

/-- There are 32 grid points. -/
theorem lt_N (t : Fin cfg0.N) : t.val < 32 := t.isLt

/-- Row `p` of tile `t`. -/
abbrev at_ (t : Fin cfg0.N) (p : Fin 256) : Fin 8192 := ⟨256 * t.val + p.val, by have := lt_N t; omega⟩

/-- The blocks are the arguments' rows. -/
theorem blk0 (t : Fin cfg0.N) (p : Fin 256) (q : Fin 2048) : iblk m c 0 t (ix2 p q) = arg0 m c (ix2 (at_ t p) q) := by
  obtain ⟨h, -⟩ := idx t
  have e : iblk m c 0 t (ix2 p q) = V m c main_arg0 (ix2 (at_ t p) q) := by blk_ext [iblk, h]
  rw [e, V_main_arg0]

theorem blk1 (t : Fin cfg0.N) (p : Fin 256) (q : Fin 2048) : iblk m c 1 t (ix2 p q) = arg2 m c (ix2 (at_ t p) q) := by
  obtain ⟨-, h, -⟩ := idx t
  have e : iblk m c 1 t (ix2 p q) = V m c main_arg2 (ix2 (at_ t p) q) := by blk_ext [iblk, h]
  rw [e, V_main_arg2]

theorem blk2 (t : Fin cfg0.N) (p : Fin 256) (q : Fin 2048) : iblk m c 2 t (ix2 p q) = arg3 m c (ix2 (at_ t p) q) := by
  obtain ⟨-, -, h, -⟩ := idx t
  have e : iblk m c 2 t (ix2 p q) = V m c main_arg3 (ix2 (at_ t p) q) := by blk_ext [iblk, h]
  rw [e, V_main_arg3]

theorem blk3 (t : Fin cfg0.N) (p : Fin 256) (q : Fin 2048) : iblk m c 3 t (ix2 p q) = arg4 m c (ix2 (at_ t p) q) := by
  obtain ⟨-, -, -, h, -⟩ := idx t
  have e : iblk m c 3 t (ix2 p q) = V m c main_arg4 (ix2 (at_ t p) q) := by blk_ext [iblk, h]
  rw [e, V_main_arg4]

theorem blk4 (t : Fin cfg0.N) (p : Fin 256) (q : Fin 2048) : iblk m c 4 t (ix2 p q) = arg5 m c (ix2 (at_ t p) q) := by
  obtain ⟨-, -, -, -, h, -⟩ := idx t
  have e : iblk m c 4 t (ix2 p q) = V m c main_arg5 (ix2 (at_ t p) q) := by blk_ext [iblk, h]
  rw [e, V_main_arg5]

theorem blk5 (t : Fin cfg0.N) (q : Fin 2048) : iblk m c 5 t (ix3 0 0 q) = arg1 m c (ix2 0 q) := by
  obtain ⟨-, -, -, -, -, h, -⟩ := idx t
  have e : iblk m c 5 t (ix3 0 0 q) = V m c main_v0 (ix3 0 0 q) := by blk_ext [iblk, h]
  rw [e]
  entry_read
  pointwise

/-- A row's gradient of the argument, and a row's part of the gradient of the weight. -/
def gx (p : Fin 8192) : Row := fun q =>
  dx (row (arg0 m c) p) (incW (arg2 m c) (arg3 m c) (arg4 m c) (row (arg1 m c) 0) p) q + arg5 m c (ix2 p q)

def gw (q : Fin 2048) (p : Fin 8192) : EReal := dw (row (arg0 m c) p) (inc (arg2 m c) (arg3 m c) (arg4 m c) p) q

/-- A row of a block is a row of the argument. -/
theorem row0 (t : Fin cfg0.N) (p : Fin 256) : row (n := 256) (k := 2048) (iblk m c 0 t) p = row (arg0 m c) (at_ t p) :=
  funext fun q => blk0 m c t p q

theorem inc_eq (t : Fin cfg0.N) (p : Fin 256) :
    inc (n := 256) (iblk m c 1 t) (iblk m c 2 t) (iblk m c 3 t) p = inc (arg2 m c) (arg3 m c) (arg4 m c) (at_ t p) :=
  funext fun q => congrArg₂ (· + ·) (congrArg₂ (· + ·) (blk1 m c t p q) (blk2 m c t p q)) (blk3 m c t p q)

theorem incW_eq (t : Fin cfg0.N) (p : Fin 256) :
    incW (n := 256) (iblk m c 1 t) (iblk m c 2 t) (iblk m c 3 t) (fun k => iblk m c 5 t (ix3 0 0 k)) p
      = incW (arg2 m c) (arg3 m c) (arg4 m c) (row (arg1 m c) 0) (at_ t p) :=
  funext fun q => congrArg₂ (· * ·) (congrFun (inc_eq m c t p) q) (blk5 m c t q)

/-- A row of a tile's gradient is the gradient of a row. -/
theorem rows (t : Fin cfg0.N) (p : Fin 256) (q : Fin 2048) :
    dx (row (n := 256) (k := 2048) (iblk m c 0 t) p) (incW (n := 256) (iblk m c 1 t) (iblk m c 2 t) (iblk m c 3 t)
      (fun k => iblk m c 5 t (ix3 0 0 k)) p) q + iblk m c 4 t (ix2 p q) = gx m c (at_ t p) q :=
  congrArg₂ (· + ·) (congrArg₂ (fun u v : Row => dx u v q) (row0 m c t p) (incW_eq m c t p)) (blk4 m c t p q)

/-- Point `t` leaves the gradient of its rows. -/
theorem point6 (t : Fin cfg0.N) (p : Fin 256) (q : Fin 2048) :
    (outsAt0 m c t.val t.isLt).1 (ix2 p q) = gx m c (at_ t p) q := by
  by_cases h : t.val % 32 = 0
  · refine (congrArg (fun z => z.1 (ix2 p q)) (outsAt0_A m c t h)).trans ?_
    dsimp only
    rw [first6, pay_x]
    exact rows m c t p q
  · refine (congrArg (fun z => z.1 (ix2 p q)) (outsAt0_B m c t h)).trans ?_
    dsimp only
    rw [later6, pay_x]
    exact rows m c t p q

/-- A tile's part of the gradient of the weight. -/
theorem part (q : Fin 2048) (t : Fin cfg0.N) :
    ∑ p, dw (row (n := 256) (k := 2048) (iblk m c 0 t) p) (inc (n := 256) (iblk m c 1 t) (iblk m c 2 t) (iblk m c 3 t) p) q
      = ∑ r ∈ Finset.range 256, ext (gw m c q) (256 * t.val + r) :=
  sum_tile (gw m c q) t.val (by have := lt_N t; omega) _ fun p =>
    congrArg₂ (fun u v : Row => dw u v q) (row0 m c t p) (inc_eq m c t p)

/-- Point `t` leaves the sum over the rows up to its last. -/
theorem point7 (q : Fin 2048) : ∀ (n : ℕ) (hn : n < cfg0.N),
    (outsAt0 m c n hn).2 (ix3 0 0 q) = ∑ r ∈ Finset.range (256 * (n + 1)), ext (gw m c q) r := by
  intro n
  induction n with
  | zero =>
    intro hn
    have e := congrArg (fun z => z.2 (ix3 0 0 q)) (outsAt0_A m c ⟨0, hn⟩ rfl)
    refine e.trans ?_
    dsimp only
    rw [first7, pay_w, part m c q ⟨0, hn⟩, sum_next, Nat.mul_zero, Finset.sum_range_zero]
    pointwise [k0_pay3]
  | succ n ih =>
    intro hn
    have hB : ¬ (n + 1) % 32 = 0 := by have := lt_N ⟨n + 1, hn⟩; dsimp only at this; omega
    have e := congrArg (fun z => z.2 (ix3 0 0 q)) (outsAt0_B m c ⟨n + 1, hn⟩ hB)
    refine e.trans ?_
    dsimp only
    rw [later7, pay_w, part m c q ⟨n + 1, hn⟩, sum_next]
    exact congrArg (· + _) (ih (Nat.lt_of_succ_lt hn))

/-- The gradient of the argument, after the run. -/
theorem arr6 : (dats m 0 c).arrAt 6 cfg0.N = fun i => gx m c (i 0) (i 1) := by
  refine (dats m 0 c).arrAt_eq_of_covers 6 _ (by decide +kernel) fun t hf y => ?_
  obtain ⟨-, -, -, -, -, -, h, -⟩ := idx t
  obtain ⟨p, q, rfl⟩ := eq_ix2 (n := 256) (k := 2048) y
  have e : ((cfg0.win 6).blk t).view.emb (ix2 p q) = ix2 (at_ t p) q := by blk_ext [h]
  rw [e, after0_6]
  exact point6 m c t p q

/-- The gradient of the weight, after the run. -/
theorem arr7 : (dats m 0 c).arrAt 7 cfg0.N = fun i => ∑ p, gw m c (i 2) p := by
  refine (dats m 0 c).arrAt_eq_of_covers 7 _ (by decide +kernel) fun t hf y => ?_
  obtain ⟨-, -, -, -, -, -, -, h⟩ := idx t
  have ht := (flush0_7 t).1 hf
  obtain ⟨q, rfl⟩ : ∃ (q : Fin 2048), y = ix3 0 0 q :=
    ⟨y 2, by funext a; fin_cases a; exacts [Subsingleton.elim (α := Fin 1) _ _, Subsingleton.elim (α := Fin 1) _ _, rfl]⟩
  have e : ((cfg0.win 7).blk t).view.emb (ix3 0 0 q) = ix3 0 0 q := by blk_ext [h]
  rw [e, after0_7]
  refine (point7 m c q t.val t.isLt).trans ?_
  rw [show 256 * (t.val + 1) = 8192 by have := lt_N t; omega, sum_ext]
  rfl

/-- The two end with the same gradients. -/
theorem value : Cert.algebraic_Kernel16Ideal_Reference16Ideal := by
  intro m ρ m' ρ' _ hargs
  refine ⟨_, _, (θ_run _ _ _).mono (fun _ h c => ⟨(h c).1.trans (arr6 m c), (h c).2.1.trans (arr7 m c), (h c).2.2⟩)
      (Cert.Kernel16Ideal.Value.run_blocks m ρ),
    (θ_run _ _ _).mono (fun _ h c => ⟨(h c).1.trans ?_, (h c).2.1.trans ?_, (h c).2.2⟩)
      (Cert.Reference16Ideal.Value.run (F := Ideal) m' ρ')⟩
  · obtain ⟨e0, e1, e2, e3, e4, e5⟩ := hargs c
    funext i
    obtain ⟨p, q, rfl⟩ := eq_ix2 (n := 8192) (k := 2048) i
    pointwise [Reference16Ideal.Value.res_main_v36]
    simp only [e0, e1, e2, e3, e4, e5]
    rfl
  · obtain ⟨e0, e1, e2, e3, e4, e5⟩ := hargs c
    rw [e0, e2, e3, e4]
    funext i
    pointwise
    rfl

/-- The reference ends, its arguments unchanged and its counters at zero. -/
theorem frame_ref : Cert.quiescent_Reference16Ideal := fun m ρ _ =>
  (θ_run _ _ _).mono (fun r h => ⟨fun c => (h c).2.2, sem_eq_zero_of_no_sems (by decide) r.2⟩) (Cert.Reference16Ideal.Value.run (F := Ideal) m ρ)

end Cert.Kernel16Ideal.Whole

end
-- ==== Proof.PostBwd.lean ====
module

public import proofs.«01_k».proof.Defs
public import proofs.«01_k».proof.Proof.Norm
public import proofs.«01_k».proof.Proof.Gen.Kernel17Ideal.Value
public import proofs.«01_k».proof.Proof.Gen.Reference17Ideal.Run
public import Idealize.ShloMosaic.Lib.Claim
public import Idealize.ShloMosaic.Lib.Pipeline.ValueKit.Point
public import Idealize.ShloMosaic.Lib.StableHlo.ReadAt

/-! # The gradient of the mixers' second norm, the residual and the first norm of ConvFFN -/

@[expose] public section

set_option maxRecDepth 16384

noncomputable section

namespace Cert.Kernel17Ideal.Whole

open Cert.Kernel17Ideal Cert.Kernel17Ideal.Gen Idealize.ShloMosaic Idealize.SL.Sem Cert.Prod Cert.Norm

/-- A row after the residual. -/
def mid (x v w : Row) : Row := fun q => x q + v q * Ideal.rsqrt (ms v) * w q

/-- The gradient of a norm's argument, on top of what comes by the residual. -/
def onto (d x g : Row) : Row := fun q => d q + g q * Ideal.rsqrt (ms x) + x q * slope x g + slope x g * x q

/-- The gradient of the residual's row. -/
def gMid (x v wp wr d h : Row) : Row := onto d (mid x v wp) fun k => h k * wr k

/-- The gradient of the mixers' row. -/
def gMix (x v wp wr d h : Row) : Row := dx v fun k => gMid x v wp wr d h k * wp k

/-- A block's vector of one row. -/
abbrev one (w : Vec Ideal S1x1x2048 .f32) : Row := fun k => w (ix3 0 0 k)

theorem hz2 : (![0, 0] : Fin 2 → ℕ) = fun _ => 0 := funext fun a => by fin_cases a <;> rfl

theorem hz3 : (![0, 0, 0] : Fin 3 → ℕ) = fun _ => 0 := funext fun a => by fin_cases a <;> rfl

section pays

variable (x v d h : Vec Ideal S256x2048 .f32) (wp wr g : Vec Ideal S1x1x2048 .f32) (p : Fin 256) (q : Fin 2048)

/-- What the first half of the body makes. -/
theorem pay12 : row (n := 256) (k := 2048) (k0_pay12 x v wp) p = mid (row x p) (row v p) (one wp) := by
  funext q
  unfold row
  pointwise [k0_pay12, k0_pay11, k0_pay9, k0_pay8, k0_pay6]
  rfl

theorem pay13 (j : Fin 1) : k0_pay13 x v wp (ix2 p j) = ms (mid (row x p) (row v p) (one wp)) := by
  rw [← pay12]
  pointwise [k0_pay13]
  rfl

theorem pay9 (j : Fin 1) : k0_pay9 v (ix2 p j) = Ideal.rsqrt (ms (row v p)) := by
  pointwise [k0_pay9, k0_pay8]
  rfl

theorem pay10 (j : Fin 1) : k0_pay10 v (ix2 p j) = Ideal.ofBits FTy.f32 3204448256#32 * Ideal.div (Ideal.rsqrt (ms (row v p))) (ms (row v p)) := by
  pointwise [k0_pay10, k0_pay9, k0_pay8]
  rfl

theorem pay11 : k0_pay11 v (ix2 p q) = v (ix2 p q) * Ideal.rsqrt (ms (row v p)) := by
  pointwise [k0_pay11, k0_pay9, k0_pay8]
  rfl

/-- The gradient of the residual's block. -/
theorem pay16 : k0_pay16 d h (k0_pay7 wr) (k0_pay12 x v wp) (k0_pay13 x v wp) (ix2 p q)
    = gMid (row x p) (row v p) (one wp) (one wr) (row d p) (row h p) q := by
  unfold gMid
  rw [← pay12]
  pointwise [k0_pay16, k0_pay14, k0_pay7]
  simp only [pay13, ← pay12]
  rfl

theorem pay17 : row (n := 256) (k := 2048) (k0_pay17 d h (k0_pay7 wr) (k0_pay12 x v wp) (k0_pay13 x v wp)) p
    = gMid (row x p) (row v p) (one wp) (one wr) (row d p) (row h p) := by
  funext q
  rw [← pay16]
  unfold row
  pointwise [k0_pay17]

/-- The gradient of the mixers' block. -/
theorem pay19 : k0_pay1 (k0_pay19 v d h (k0_pay6 wp) (k0_pay7 wr) (k0_pay9 v) (k0_pay10 v) (k0_pay12 x v wp) (k0_pay13 x v wp)) (ix2 p q)
    = gMix (row x p) (row v p) (one wp) (one wr) (row d p) (row h p) q := by
  unfold gMix
  rw [← pay17]
  pointwise [k0_pay1, k0_pay19, k0_pay6]
  simp only [pay9, pay10]
  rfl

/-- A block's parts of the gradients of the two weights, on top of what is there. -/
theorem pay18 : k0_pay2 (k0_pay18 d h (k0_pay7 wr) (k0_pay11 v) (k0_pay12 x v wp) (k0_pay13 x v wp)) g (ix3 0 0 q)
    = g (ix3 0 0 q) + ∑ p, dw (row v p) (gMid (row x p) (row v p) (one wp) (one wr) (row d p) (row h p)) q := by
  have e (p : Fin 256) : dw (row v p) (gMid (row x p) (row v p) (one wp) (one wr) (row d p) (row h p)) q
      = k0_pay11 v (ix2 p q) * k0_pay17 d h (k0_pay7 wr) (k0_pay12 x v wp) (k0_pay13 x v wp) (ix2 p q) := by
    rw [← pay17, pay11]
    rfl
  simp only [e]
  pointwise [k0_pay2, k0_pay18]

theorem pay15 : k0_pay3 (k0_pay15 h (k0_pay12 x v wp) (k0_pay13 x v wp)) g (ix3 0 0 q)
    = g (ix3 0 0 q) + ∑ p, dw (mid (row x p) (row v p) (one wp)) (row h p) q := by
  have e (p : Fin 256) : dw (mid (row x p) (row v p) (one wp)) (row h p) q
      = k0_pay12 x v wp (ix2 p q) * Ideal.rsqrt (k0_pay13 x v wp (ix2 p 0)) * h (ix2 p q) := by
    rw [pay13, ← pay12]
    rfl
  simp only [e]
  pointwise [k0_pay3, k0_pay15, k0_pay14]

end pays

section cases

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x1x2048 .f32) (h6 : a6.IsWhole)
  (a7 : Memref sig .tc .vmem S1x1x2048 .f32) (h7 : a7.IsWhole) (a8 : Memref sig .tc .vmem S256x2048 .f32) (h8 : a8.IsWhole)
  (a9 : Memref sig .tc .vmem S256x2048 .bf16) (h9 : a9.IsWhole) (a10 : Memref sig .tc .vmem S1x1x2048 .f32) (h10 : a10.IsWhole)
  (a11 : Memref sig .tc .vmem S1x1x2048 .f32) (h11 : a11.IsWhole)
  (x v d h : Vec Ideal S256x2048 .f32) (wp wr g8 g9 : Vec Ideal S1x1x2048 .f32)

/-- What the first point leaves. -/
theorem first6 (hc : cond0_0 i) : out0_A_6 c i a2 h2 a3 h3 a4 h4 a5 h5 a6 h6 a7 h7 a8 h8 a9 h9 a10 h10 a11 h11 hc x v d h wp wr
    = k0_pay16 d h (k0_pay7 wr) (k0_pay12 x v wp) (k0_pay13 x v wp) := by
  unfold out0_A_6
  rw [View.read_writes_eq_canon _ _ _ (cover0_A_6 c i a2 h2 a3 h3 a4 h4 a5 h5 a6 h6 a7 h7 a8 h8 a9 h9 a10 h10 a11 h11 hc x v d h wp wr)]
  unfold kernelRun0_A
  dsimp only
  sl_unfold_words
  rw [View.canon_unit_zero hz2]
  simp only [View.readAt_eq_ld, h2.read_unread, h3.read_unread, h4.read_unread, h5.read_unread, h6.read_unread, h7.read_unread,
    View.ld_unit_zero (S := S256x2048) hz2, View.ld_unit_zero (S := S1x1x2048) hz3]

theorem first7 (hc : cond0_0 i) : out0_A_7 c i a2 h2 a3 h3 a4 h4 a5 h5 a6 h6 a7 h7 a8 h8 a9 h9 a10 h10 a11 h11 hc x v d h wp wr
    = k0_pay1 (k0_pay19 v d h (k0_pay6 wp) (k0_pay7 wr) (k0_pay9 v) (k0_pay10 v) (k0_pay12 x v wp) (k0_pay13 x v wp)) := by
  unfold out0_A_7
  rw [View.read_writes_eq_canon _ _ _ (cover0_A_7 c i a2 h2 a3 h3 a4 h4 a5 h5 a6 h6 a7 h7 a8 h8 a9 h9 a10 h10 a11 h11 hc x v d h wp wr)]
  unfold kernelRun0_A
  dsimp only
  sl_unfold_words
  rw [View.canon_unit_zero hz2]
  simp only [View.readAt_eq_ld, h2.read_unread, h3.read_unread, h4.read_unread, h5.read_unread, h6.read_unread, h7.read_unread,
    View.ld_unit_zero (S := S256x2048) hz2, View.ld_unit_zero (S := S1x1x2048) hz3]

theorem first8 (hc : cond0_0 i) : out0_A_8 c i a2 h2 a3 h3 a4 h4 a5 h5 a6 h6 a7 h7 a8 h8 a9 h9 a10 h10 a11 h11 hc x v d h wp wr
    = k0_pay2 (k0_pay18 d h (k0_pay7 wr) (k0_pay11 v) (k0_pay12 x v wp) (k0_pay13 x v wp)) (k0_pay4 (F := Ideal)) := by
  unfold out0_A_8
  rw [View.read_writes_eq_canon _ _ _ (cover0_A_8 c i a2 h2 a3 h3 a4 h4 a5 h5 a6 h6 a7 h7 a8 h8 a9 h9 a10 h10 a11 h11 hc x v d h wp wr)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread, h5.read_unread, h6.read_unread, h7.read_unread,
    View.ld_unit_zero (S := S256x2048) hz2, View.ld_unit_zero (S := S1x1x2048) hz3]

theorem first9 (hc : cond0_0 i) : out0_A_9 c i a2 h2 a3 h3 a4 h4 a5 h5 a6 h6 a7 h7 a8 h8 a9 h9 a10 h10 a11 h11 hc x v d h wp wr
    = k0_pay3 (k0_pay15 h (k0_pay12 x v wp) (k0_pay13 x v wp)) (k0_pay5 (F := Ideal)) := by
  unfold out0_A_9
  rw [View.read_writes_eq_canon _ _ _ (cover0_A_9 c i a2 h2 a3 h3 a4 h4 a5 h5 a6 h6 a7 h7 a8 h8 a9 h9 a10 h10 a11 h11 hc x v d h wp wr)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h5.read_unread, h6.read_unread,
    View.ld_unit_zero (S := S256x2048) hz2, View.ld_unit_zero (S := S1x1x2048) hz3]

/-- What a later point leaves. -/
theorem later6 (hc : ¬cond0_0 i) : out0_B_6 c i a2 h2 a3 h3 a4 h4 a5 h5 a6 h6 a7 h7 a8 h8 a9 h9 a10 h10 a11 h11 hc x v d h wp wr g8 g9
    = k0_pay16 d h (k0_pay7 wr) (k0_pay12 x v wp) (k0_pay13 x v wp) := by
  unfold out0_B_6
  rw [View.read_writes_eq_canon _ _ _ (cover0_B_6 c i a2 h2 a3 h3 a4 h4 a5 h5 a6 h6 a7 h7 a8 h8 a9 h9 a10 h10 a11 h11 hc x v d h wp wr g8 g9)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S256x2048) hz2, View.ld_unit_zero (S := S1x1x2048) hz3]

theorem later7 (hc : ¬cond0_0 i) : out0_B_7 c i a2 h2 a3 h3 a4 h4 a5 h5 a6 h6 a7 h7 a8 h8 a9 h9 a10 h10 a11 h11 hc x v d h wp wr g8 g9
    = k0_pay1 (k0_pay19 v d h (k0_pay6 wp) (k0_pay7 wr) (k0_pay9 v) (k0_pay10 v) (k0_pay12 x v wp) (k0_pay13 x v wp)) := by
  unfold out0_B_7
  rw [View.read_writes_eq_canon _ _ _ (cover0_B_7 c i a2 h2 a3 h3 a4 h4 a5 h5 a6 h6 a7 h7 a8 h8 a9 h9 a10 h10 a11 h11 hc x v d h wp wr g8 g9)]
  unfold kernelRun0_B
  dsimp only
  sl_unfold_words
  rw [View.canon_unit_zero hz2]
  simp only [View.readAt_eq_ld, h2.read_unread, h3.read_unread, h4.read_unread, h5.read_unread, h6.read_unread, h7.read_unread,
    View.ld_unit_zero (S := S256x2048) hz2, View.ld_unit_zero (S := S1x1x2048) hz3]

theorem later8 (hc : ¬cond0_0 i) : out0_B_8 c i a2 h2 a3 h3 a4 h4 a5 h5 a6 h6 a7 h7 a8 h8 a9 h9 a10 h10 a11 h11 hc x v d h wp wr g8 g9
    = k0_pay2 (k0_pay18 d h (k0_pay7 wr) (k0_pay11 v) (k0_pay12 x v wp) (k0_pay13 x v wp)) g8 := by
  unfold out0_B_8
  rw [View.read_writes_eq_canon _ _ _ (cover0_B_8 c i a2 h2 a3 h3 a4 h4 a5 h5 a6 h6 a7 h7 a8 h8 a9 h9 a10 h10 a11 h11 hc x v d h wp wr g8 g9)]
  unfold kernelRun0_B
  dsimp only
  sl_unfold_words
  rw [View.canon_unit_zero hz3]
  simp only [View.readAt_eq_ld, h2.read_unread, h3.read_unread, h4.read_unread, h5.read_unread, h6.read_unread, h7.read_unread,
    h10.read_unread, View.ld_unit_zero (S := S256x2048) hz2, View.ld_unit_zero (S := S1x1x2048) hz3]

theorem later9 (hc : ¬cond0_0 i) : out0_B_9 c i a2 h2 a3 h3 a4 h4 a5 h5 a6 h6 a7 h7 a8 h8 a9 h9 a10 h10 a11 h11 hc x v d h wp wr g8 g9
    = k0_pay3 (k0_pay15 h (k0_pay12 x v wp) (k0_pay13 x v wp)) g9 := by
  unfold out0_B_9
  rw [View.read_writes_eq_canon _ _ _ (cover0_B_9 c i a2 h2 a3 h3 a4 h4 a5 h5 a6 h6 a7 h7 a8 h8 a9 h9 a10 h10 a11 h11 hc x v d h wp wr g8 g9)]
  unfold kernelRun0_B
  dsimp only
  sl_unfold_words
  rw [View.canon_unit_zero hz3]
  simp only [View.readAt_eq_ld, h2.read_unread, h3.read_unread, h5.read_unread, h6.read_unread,
    h11.read_unread, View.ld_unit_zero (S := S256x2048) hz2, View.ld_unit_zero (S := S1x1x2048) hz3]

end cases

variable (m : (ℓ : Loc nD τ sig) → Buf (Elt Ideal) ℓ) (c : Dev nD)

/-- The arguments. -/
abbrev arg0 : Mat 8192 2048 := m (c.tc.loc main_arg0)
abbrev arg1 : Mat 8192 2048 := m (c.tc.loc main_arg1)
abbrev arg2 : Mat 1 2048 := m (c.tc.loc main_arg2)
abbrev arg3 : Mat 1 2048 := m (c.tc.loc main_arg3)
abbrev arg4 : Mat 8192 2048 := m (c.tc.loc main_arg4)
abbrev arg5 : Mat 8192 2048 := m (c.tc.loc main_arg5)

/-- The blocks of grid point `t`. -/
theorem idx : ∀ t : Fin cfg0.N, win0_0.index t = ![31 - t.val, 0] ∧ win0_1.index t = ![31 - t.val, 0] ∧ win0_2.index t = ![31 - t.val, 0]
    ∧ win0_3.index t = ![31 - t.val, 0] ∧ win0_4.index t = ![0, 0, 0] ∧ win0_5.index t = ![0, 0, 0] ∧ win0_6.index t = ![31 - t.val, 0]
    ∧ win0_7.index t = ![31 - t.val, 0] ∧ win0_8.index t = ![0, 0, 0] ∧ win0_9.index t = ![0, 0, 0] := by decide +kernel

/-- There are 32 grid points. -/
theorem lt_N (t : Fin cfg0.N) : t.val < 32 := t.isLt

/-- Row `p` of point `t`'s tile: the tiles are taken from the last to the first. -/
abbrev at_ (t : Fin cfg0.N) (p : Fin 256) : Fin 8192 := ⟨256 * (31 - t.val) + p.val, by omega⟩

/-- A row of a block is a row of the argument. -/
theorem row0 (t : Fin cfg0.N) (p : Fin 256) : row (n := 256) (k := 2048) (iblk m c 0 t) p = row (arg0 m c) (at_ t p) := by
  obtain ⟨h, -⟩ := idx t
  funext q
  have e : iblk m c 0 t (ix2 p q) = V m c main_arg0 (ix2 (at_ t p) q) := by blk_ext [iblk, h]
  exact e.trans (by rw [V_main_arg0]; rfl)

theorem row1 (t : Fin cfg0.N) (p : Fin 256) : row (n := 256) (k := 2048) (iblk m c 1 t) p = row (arg1 m c) (at_ t p) := by
  obtain ⟨-, h, -⟩ := idx t
  funext q
  have e : iblk m c 1 t (ix2 p q) = V m c main_arg1 (ix2 (at_ t p) q) := by blk_ext [iblk, h]
  exact e.trans (by rw [V_main_arg1]; rfl)

theorem row2 (t : Fin cfg0.N) (p : Fin 256) : row (n := 256) (k := 2048) (iblk m c 2 t) p = row (arg4 m c) (at_ t p) := by
  obtain ⟨-, -, h, -⟩ := idx t
  funext q
  have e : iblk m c 2 t (ix2 p q) = V m c main_arg4 (ix2 (at_ t p) q) := by blk_ext [iblk, h]
  exact e.trans (by rw [V_main_arg4]; rfl)

theorem row3 (t : Fin cfg0.N) (p : Fin 256) : row (n := 256) (k := 2048) (iblk m c 3 t) p = row (arg5 m c) (at_ t p) := by
  obtain ⟨-, -, -, h, -⟩ := idx t
  funext q
  have e : iblk m c 3 t (ix2 p q) = V m c main_arg5 (ix2 (at_ t p) q) := by blk_ext [iblk, h]
  exact e.trans (by rw [V_main_arg5]; rfl)

theorem one4 (t : Fin cfg0.N) : one (iblk m c 4 t) = row (arg2 m c) 0 := by
  obtain ⟨-, -, -, -, h, -⟩ := idx t
  funext q
  have e : iblk m c 4 t (ix3 0 0 q) = V m c main_v0 (ix3 0 0 q) := by blk_ext [iblk, h]
  refine e.trans ?_
  entry_read
  pointwise
  rfl

theorem one5 (t : Fin cfg0.N) : one (iblk m c 5 t) = row (arg3 m c) 0 := by
  obtain ⟨-, -, -, -, -, h, -⟩ := idx t
  funext q
  have e : iblk m c 5 t (ix3 0 0 q) = V m c main_v1 (ix3 0 0 q) := by blk_ext [iblk, h]
  refine e.trans ?_
  entry_read
  pointwise
  rfl

/-- The gradients of a row, and a row's parts of the gradients of the weights. -/
def gx (p : Fin 8192) : Row := gMid (row (arg0 m c) p) (row (arg1 m c) p) (row (arg2 m c) 0) (row (arg3 m c) 0) (row (arg4 m c) p) (row (arg5 m c) p)

def gv (p : Fin 8192) : Row := gMix (row (arg0 m c) p) (row (arg1 m c) p) (row (arg2 m c) 0) (row (arg3 m c) 0) (row (arg4 m c) p) (row (arg5 m c) p)

def gp (q : Fin 2048) (p : Fin 8192) : EReal := dw (row (arg1 m c) p) (gx m c p) q

def gr (q : Fin 2048) (p : Fin 8192) : EReal := dw (mid (row (arg0 m c) p) (row (arg1 m c) p) (row (arg2 m c) 0)) (row (arg5 m c) p) q

/-- A row's gradients, of a block. -/
theorem rows6 (t : Fin cfg0.N) (p : Fin 256) :
    gMid (row (n := 256) (iblk m c 0 t) p) (row (n := 256) (iblk m c 1 t) p) (one (iblk m c 4 t)) (one (iblk m c 5 t))
      (row (n := 256) (iblk m c 2 t) p) (row (n := 256) (iblk m c 3 t) p) = gx m c (at_ t p) := by
  rw [row0, row1, row2, row3, one4, one5]
  rfl

theorem rows7 (t : Fin cfg0.N) (p : Fin 256) :
    gMix (row (n := 256) (iblk m c 0 t) p) (row (n := 256) (iblk m c 1 t) p) (one (iblk m c 4 t)) (one (iblk m c 5 t))
      (row (n := 256) (iblk m c 2 t) p) (row (n := 256) (iblk m c 3 t) p) = gv m c (at_ t p) := by
  rw [row0, row1, row2, row3, one4, one5]
  rfl

/-- A tile's parts of the gradients of the weights. -/
theorem part8 (q : Fin 2048) (t : Fin cfg0.N) :
    ∑ p, dw (row (n := 256) (iblk m c 1 t) p)
        (gMid (row (n := 256) (iblk m c 0 t) p) (row (n := 256) (iblk m c 1 t) p) (one (iblk m c 4 t)) (one (iblk m c 5 t))
          (row (n := 256) (iblk m c 2 t) p) (row (n := 256) (iblk m c 3 t) p)) q
      = tile (gp m c q) (31 - t.val) :=
  sum_tile (gp m c q) (31 - t.val) (by omega) _ fun p =>
    congrArg₂ (fun u v : Row => dw u v q) (row1 m c t p) (rows6 m c t p)

theorem part9 (q : Fin 2048) (t : Fin cfg0.N) :
    ∑ p, dw (mid (row (n := 256) (iblk m c 0 t) p) (row (n := 256) (iblk m c 1 t) p) (one (iblk m c 4 t))) (row (n := 256) (iblk m c 3 t) p) q
      = tile (gr m c q) (31 - t.val) :=
  sum_tile (gr m c q) (31 - t.val) (by omega) _ fun p => by
    rw [row0, row1, row3, one4]
    rfl

/-- Point `t` leaves the gradients of its rows. -/
theorem point6 (t : Fin cfg0.N) (p : Fin 256) (q : Fin 2048) :
    (outsAt0 m c t.val t.isLt).1 (ix2 p q) = gx m c (at_ t p) q := by
  by_cases h : t.val % 32 = 0
  · refine (congrArg (fun z => z.1 (ix2 p q)) (outsAt0_A m c t h)).trans ?_
    dsimp only
    rw [first6, pay16]
    exact congrFun (rows6 m c t p) q
  · refine (congrArg (fun z => z.1 (ix2 p q)) (outsAt0_B m c t h)).trans ?_
    dsimp only
    rw [later6, pay16]
    exact congrFun (rows6 m c t p) q

theorem point7 (t : Fin cfg0.N) (p : Fin 256) (q : Fin 2048) :
    (outsAt0 m c t.val t.isLt).2.1 (ix2 p q) = gv m c (at_ t p) q := by
  by_cases h : t.val % 32 = 0
  · refine (congrArg (fun z => z.2.1 (ix2 p q)) (outsAt0_A m c t h)).trans ?_
    dsimp only
    rw [first7, pay19]
    exact congrFun (rows7 m c t p) q
  · refine (congrArg (fun z => z.2.1 (ix2 p q)) (outsAt0_B m c t h)).trans ?_
    dsimp only
    rw [later7, pay19]
    exact congrFun (rows7 m c t p) q

/-- Point `n` leaves the sums over the tiles taken so far. -/
theorem point8 (q : Fin 2048) : ∀ (n : ℕ) (hn : n < cfg0.N),
    (outsAt0 m c n hn).2.2.1 (ix3 0 0 q) = ∑ j ∈ Finset.range (n + 1), tile (gp m c q) (31 - j) := by
  intro n
  induction n with
  | zero =>
    intro hn
    refine (congrArg (fun z => z.2.2.1 (ix3 0 0 q)) (outsAt0_A m c ⟨0, hn⟩ rfl)).trans ?_
    dsimp only
    rw [first8, pay18, part8 m c q ⟨0, hn⟩, Finset.sum_range_succ, Finset.sum_range_zero]
    pointwise [k0_pay4]
  | succ n ih =>
    intro hn
    have hB : ¬ (n + 1) % 32 = 0 := by have := lt_N ⟨n + 1, hn⟩; dsimp only at this; omega
    refine (congrArg (fun z => z.2.2.1 (ix3 0 0 q)) (outsAt0_B m c ⟨n + 1, hn⟩ hB)).trans ?_
    dsimp only
    rw [later8, pay18, part8 m c q ⟨n + 1, hn⟩, Finset.sum_range_succ]
    exact congrArg (· + _) (ih (Nat.lt_of_succ_lt hn))

theorem point9 (q : Fin 2048) : ∀ (n : ℕ) (hn : n < cfg0.N),
    (outsAt0 m c n hn).2.2.2 (ix3 0 0 q) = ∑ j ∈ Finset.range (n + 1), tile (gr m c q) (31 - j) := by
  intro n
  induction n with
  | zero =>
    intro hn
    refine (congrArg (fun z => z.2.2.2 (ix3 0 0 q)) (outsAt0_A m c ⟨0, hn⟩ rfl)).trans ?_
    dsimp only
    rw [first9, pay15, part9 m c q ⟨0, hn⟩, Finset.sum_range_succ, Finset.sum_range_zero]
    pointwise [k0_pay5]
  | succ n ih =>
    intro hn
    have hB : ¬ (n + 1) % 32 = 0 := by have := lt_N ⟨n + 1, hn⟩; dsimp only at this; omega
    refine (congrArg (fun z => z.2.2.2 (ix3 0 0 q)) (outsAt0_B m c ⟨n + 1, hn⟩ hB)).trans ?_
    dsimp only
    rw [later9, pay15, part9 m c q ⟨n + 1, hn⟩, Finset.sum_range_succ]
    exact congrArg (· + _) (ih (Nat.lt_of_succ_lt hn))

/-- The arrays after the run. -/
theorem arr6 : (dats m 0 c).arrAt 6 cfg0.N = fun i => gx m c (i 0) (i 1) := by
  refine (dats m 0 c).arrAt_eq_of_covers 6 _ (by decide +kernel) fun t hf y => ?_
  obtain ⟨-, -, -, -, -, -, h, -⟩ := idx t
  obtain ⟨p, q, rfl⟩ := eq_ix2 (n := 256) (k := 2048) y
  have e : ((cfg0.win 6).blk t).view.emb (ix2 p q) = ix2 (at_ t p) q := by blk_ext [h]
  rw [e, after0_6]
  exact point6 m c t p q

theorem arr7 : (dats m 0 c).arrAt 7 cfg0.N = fun i => gv m c (i 0) (i 1) := by
  refine (dats m 0 c).arrAt_eq_of_covers 7 _ (by decide +kernel) fun t hf y => ?_
  obtain ⟨-, -, -, -, -, -, -, h, -⟩ := idx t
  obtain ⟨p, q, rfl⟩ := eq_ix2 (n := 256) (k := 2048) y
  have e : ((cfg0.win 7).blk t).view.emb (ix2 p q) = ix2 (at_ t p) q := by blk_ext [h]
  rw [e, after0_7]
  exact point7 m c t p q

/-- An index of a vector of one row. -/
theorem eq_ix3 (y : S1x1x2048.Idx) : ∃ q : Fin 2048, y = ix3 0 0 q :=
  ⟨y 2, by funext a; fin_cases a; exacts [Subsingleton.elim (α := Fin 1) _ _, Subsingleton.elim (α := Fin 1) _ _, rfl]⟩

theorem arr8 : (dats m 0 c).arrAt 8 cfg0.N = fun i => ∑ p, gp m c (i 2) p := by
  refine (dats m 0 c).arrAt_eq_of_covers 8 _ (by decide +kernel) fun t hf y => ?_
  obtain ⟨-, -, -, -, -, -, -, -, h, -⟩ := idx t
  have ht := (flush0_8 t).1 hf
  obtain ⟨q, rfl⟩ := eq_ix3 y
  have e : ((cfg0.win 8).blk t).view.emb (ix3 0 0 q) = ix3 0 0 q := by blk_ext [h]
  rw [e, after0_8]
  refine (point8 m c q t.val t.isLt).trans ?_
  rw [show t.val + 1 = 32 by have := lt_N t; omega, sum_back]
  rfl

theorem arr9 : (dats m 0 c).arrAt 9 cfg0.N = fun i => ∑ p, gr m c (i 2) p := by
  refine (dats m 0 c).arrAt_eq_of_covers 9 _ (by decide +kernel) fun t hf y => ?_
  obtain ⟨-, -, -, -, -, -, -, -, -, h⟩ := idx t
  have ht := (flush0_9 t).1 hf
  obtain ⟨q, rfl⟩ := eq_ix3 y
  have e : ((cfg0.win 9).blk t).view.emb (ix3 0 0 q) = ix3 0 0 q := by blk_ext [h]
  rw [e, after0_9]
  refine (point9 m c q t.val t.isLt).trans ?_
  rw [show t.val + 1 = 32 by have := lt_N t; omega, sum_back]
  rfl

/-- The two end with the same gradients. -/
theorem value : Cert.algebraic_Kernel17Ideal_Reference17Ideal := by
  intro m ρ m' ρ' _ hargs
  refine ⟨_, _, _, _, (θ_run _ _ _).mono (fun _ h c => ⟨(h c).1.trans (arr6 m c), (h c).2.1.trans (arr7 m c),
      (h c).2.2.1.trans (arr8 m c), (h c).2.2.2.1.trans (arr9 m c), (h c).2.2.2.2⟩)
      (Cert.Kernel17Ideal.Value.run_blocks m ρ),
    (θ_run _ _ _).mono (fun _ h c => ⟨(h c).1.trans ?_, (h c).2.1.trans ?_, (h c).2.2.1.trans ?_, (h c).2.2.2.1.trans ?_, (h c).2.2.2.2⟩)
      (Cert.Reference17Ideal.Value.run (F := Ideal) m' ρ')⟩
  · obtain ⟨e0, e1, e2, e3, e4, e5⟩ := hargs c
    funext i
    obtain ⟨p, q, rfl⟩ := eq_ix2 (n := 8192) (k := 2048) i
    pointwise [Reference17Ideal.Value.res_main_v50]
    simp only [e0, e1, e2, e3, e4, e5]
    rfl
  · obtain ⟨e0, e1, e2, e3, e4, e5⟩ := hargs c
    funext i
    obtain ⟨p, q, rfl⟩ := eq_ix2 (n := 8192) (k := 2048) i
    pointwise [Reference17Ideal.Value.res_main_v71]
    simp only [e0, e1, e2, e3, e4, e5]
    rfl
  · obtain ⟨e0, e1, e2, e3, e4, e5⟩ := hargs c
    funext i
    pointwise [Reference17Ideal.Value.res_main_v72]
    simp only [e0, e1, e2, e3, e4, e5]
    rfl
  · obtain ⟨e0, e1, e2, e3, e4, e5⟩ := hargs c
    rw [e0, e1, e2, e5]
    funext i
    pointwise
    rfl

/-- The reference ends, its arguments unchanged and its counters at zero. -/
theorem frame_ref : Cert.quiescent_Reference17Ideal := fun m ρ _ =>
  (θ_run _ _ _).mono (fun r h => ⟨fun c => (h c).2.2.2.2, sem_eq_zero_of_no_sems (by decide) r.2⟩) (Cert.Reference17Ideal.Value.run (F := Ideal) m ρ)

end Cert.Kernel17Ideal.Whole

end
-- ==== Proof.LossHead.lean ====
module

public import proofs.«01_k».proof.Defs
public import proofs.«01_k».proof.Proof.Norm
public import proofs.«01_k».proof.Proof.Gen.Kernel18Ideal.Value
public import proofs.«01_k».proof.Proof.Gen.Reference18Ideal.Run
public import Idealize.ShloMosaic.Lib.Claim
public import Idealize.ShloMosaic.Lib.IdealHost
public import Idealize.ShloMosaic.Lib.Pipeline.ValueKit.Point
public import Idealize.ShloMosaic.Lib.StableHlo.ReadAt

/-! # The loss and its gradient through the last norm -/

@[expose] public section

set_option maxRecDepth 16384

noncomputable section

namespace Cert.Kernel18Ideal.Whole

open Cert.Kernel18Ideal Cert.Kernel18Ideal.Gen Idealize.ShloMosaic Idealize.SL.Sem Cert.Prod Cert.Norm

theorem hz2 : (![0, 0] : Fin 2 → ℕ) = fun _ => 0 := funext fun a => by fin_cases a <;> rfl

theorem hz3 : (![0, 0, 0] : Fin 3 → ℕ) = fun _ => 0 := funext fun a => by fin_cases a <;> rfl

/-- The constants: a half, two, and the number of columns. -/
abbrev half : EReal := Ideal.ofBits FTy.f32 1056964608#32
abbrev two : EReal := Ideal.ofBits FTy.f32 1073741824#32
abbrev cols : EReal := Ideal.ofBits FTy.f32 1157627904#32

theorem half_eq : half = (((1 : ℝ) / 2 : ℝ) : EReal) := by simp [half, Ideal.ofBits, Ideal.ieee, -EReal.coe_mul]; norm_num

theorem two_eq : two = ((2 : ℝ) : EReal) := by simp [two, Ideal.ofBits, Ideal.ieee, -EReal.coe_mul]; norm_num

theorem cols_eq : cols = ((2048 : ℝ) : EReal) := by simp [cols, Ideal.ofBits, Ideal.ieee, -EReal.coe_mul]; norm_num

/-- The gradient of a row's loss in the square of an entry's error. -/
abbrev step : EReal := Ideal.div half cols

theorem step_nonneg : 0 ≤ step := by
  have h : ((2048 : ℝ) : EReal) ≠ 0 := by norm_num
  rw [step, half_eq, cols_eq, Ideal.div, if_neg h, ← EReal.coe_inv, ← EReal.coe_mul]
  exact EReal.coe_nonneg.2 (by norm_num)

/-- The gradient of a row's loss in an entry's error, as the kernel adds it up. -/
def de (e : EReal) : EReal := e * (∑ _k : Fin 1, step) + (∑ _k : Fin 1, step) * e

/-- Twice the error is the error and the error. -/
theorem twice (e : EReal) : step * (two * e) = de e := by
  have h : two = 1 + 1 := by rw [two_eq, ← EReal.coe_one, ← EReal.coe_add]; norm_num
  rw [de, Fin.sum_univ_one, ← mul_assoc, mul_comm step two, h, EReal.right_distrib_of_nonneg zero_le_one zero_le_one, one_mul,
    EReal.right_distrib_of_nonneg step_nonneg step_nonneg, mul_comm e step]

/-- A half of a sum is the sum of the halves. -/
theorem half_sum {ι : Type} (s : Finset ι) (f : ι → EReal) : half * ∑ r ∈ s, f r = ∑ r ∈ s, half * f r := by
  classical
  have h0 : (0 : EReal) ≤ half := by rw [half_eq]; exact EReal.coe_nonneg.2 (by norm_num)
  have h1 : half ≠ ⊤ := by rw [half_eq]; exact EReal.coe_ne_top _
  induction s using Finset.induction with
  | empty => rw [Finset.sum_empty, Finset.sum_empty, mul_zero]
  | insert a s ha ih =>
    rw [Finset.sum_insert ha, Finset.sum_insert ha, EReal.left_distrib_of_nonneg_of_ne_top h0 h1, ih]

/-- A row's error. -/
def err (x d t w : Row) : Row := fun q => x q + d q * Ideal.rsqrt (ms d) * w q - t q

/-- A row's loss. -/
def rowLoss (e : Row) : EReal := half * Ideal.div (∑ q, e q * e q) cols

/-- The gradient of a row's loss. -/
def grad (e : Row) : Row := fun q => de (e q)

def gradW (e w : Row) : Row := fun q => de (e q) * w q

/-- A block's row. -/
abbrev wt (w : Vec Ideal S1x1x2048 .f32) : Row := fun q => w (ix3 0 0 q)

section entries

variable (a b d : Vec Ideal S256x2048 .f32) (w : Vec Ideal S1x1x2048 .f32) (p : Fin 256) (q : Fin 2048)

abbrev errOf : Row := err (row a p) (row b p) (row d p) (wt w)

/-- A block's error and its gradients, entry by entry. -/
theorem pay_e : k0_pay9 a b d w (ix2 p q) = errOf a b d w p q := by
  pointwise [k0_pay9, k0_pay8, k0_pay6, k0_pay5, k0_pay4]
  rfl

theorem pay_x : k0_pay13 (k0_pay9 a b d w) (k0_pay11 (F := Ideal)) (k0_pay12 (F := Ideal)) (ix2 p q)
    = grad (errOf a b d w p) q := by
  pointwise [k0_pay13, k0_pay11, k0_pay12]
  simp only [pay_e]
  rfl

theorem pay_d : k0_pay15 b (k0_pay4 w) (k0_pay6 b) (k0_pay7 b) (k0_pay9 a b d w) (k0_pay11 (F := Ideal)) (k0_pay12 (F := Ideal)) (ix2 p q)
    = dx (row b p) (gradW (errOf a b d w p) (wt w)) q := by
  pointwise [k0_pay15, k0_pay13, k0_pay11, k0_pay12, k0_pay4, k0_pay6, k0_pay7, k0_pay5]
  simp only [pay_e]
  rfl

theorem pay_w (g : Vec Ideal S1x1x2048 .f32) :
    k0_pay16 (k0_pay8 b) (k0_pay9 a b d w) (k0_pay11 (F := Ideal)) (k0_pay12 (F := Ideal)) g (ix3 0 0 q)
      = g (ix3 0 0 q) + ∑ p, dw (row b p) (grad (errOf a b d w p)) q := by
  pointwise [k0_pay16, k0_pay13, k0_pay11, k0_pay12, k0_pay8, k0_pay6, k0_pay5]
  simp only [pay_e]
  rfl

theorem pay_l (l : Vec Ideal S1x1x128 .f32) (k : Fin 128) :
    k0_pay1 (k0_pay14 (k0_pay10 a b d w)) l (ix3 0 0 k) = l (ix3 0 0 k) + ∑ p, rowLoss (errOf a b d w p) := by
  pointwise [k0_pay1, k0_pay14, k0_pay10]
  simp only [pay_e]
  rfl

end entries

section cases

variable (c : Dev nD) (i : grid0.Coords) (a2 : Memref sig .tc .vmem S256x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S1x1x2048 .f32) (h5 : a5.IsWhole) (a6 : Memref sig .tc .vmem S256x2048 .f32) (h6 : a6.IsWhole)
  (a7 : Memref sig .tc .vmem S256x2048 .bf16) (h7 : a7.IsWhole) (a8 : Memref sig .tc .vmem S1x1x2048 .f32) (h8 : a8.IsWhole)
  (a9 : Memref sig .tc .vmem S1x1x128 .f32) (h9 : a9.IsWhole)
  (a b d : Vec Ideal S256x2048 .f32) (w g : Vec Ideal S1x1x2048 .f32) (l : Vec Ideal S1x1x128 .f32)

/-- What the first point leaves. -/
theorem first4 (hc : cond0_0 i) : out0_A_4 c i a2 h2 a3 h3 a4 h4 a5 h5 a6 h6 a7 h7 a8 h8 a9 h9 hc a b d w
    = k0_pay13 (k0_pay9 a b d w) (k0_pay11 (F := Ideal)) (k0_pay12 (F := Ideal)) := by
  unfold out0_A_4
  rw [View.read_writes_eq_canon _ _ _ (cover0_A_4 c i a2 h2 a3 h3 a4 h4 a5 h5 a6 h6 a7 h7 a8 h8 a9 h9 hc a b d w)]
  unfold kernelRun0_A
  dsimp only
  sl_unfold_words
  rw [View.canon_unit_zero hz2]
  simp only [View.readAt_eq_ld, h2.read_unread, h3.read_unread, h4.read_unread, h5.read_unread,
    View.ld_unit_zero (S := S256x2048) hz2, View.ld_unit_zero (S := S1x1x2048) hz3]

theorem first5 (hc : cond0_0 i) : out0_A_5 c i a2 h2 a3 h3 a4 h4 a5 h5 a6 h6 a7 h7 a8 h8 a9 h9 hc a b d w
    = k0_pay15 b (k0_pay4 w) (k0_pay6 b) (k0_pay7 b) (k0_pay9 a b d w) (k0_pay11 (F := Ideal)) (k0_pay12 (F := Ideal)) := by
  unfold out0_A_5
  rw [View.read_writes_eq_canon _ _ _ (cover0_A_5 c i a2 h2 a3 h3 a4 h4 a5 h5 a6 h6 a7 h7 a8 h8 a9 h9 hc a b d w)]
  unfold kernelRun0_A
  dsimp only
  sl_unfold_words
  rw [View.canon_unit_zero hz2]
  simp only [View.readAt_eq_ld, h2.read_unread, h3.read_unread, h4.read_unread, h5.read_unread,
    View.ld_unit_zero (S := S256x2048) hz2, View.ld_unit_zero (S := S1x1x2048) hz3]

theorem first6 (hc : cond0_0 i) : out0_A_6 c i a2 h2 a3 h3 a4 h4 a5 h5 a6 h6 a7 h7 a8 h8 a9 h9 hc a b d w
    = k0_pay16 (k0_pay8 b) (k0_pay9 a b d w) (k0_pay11 (F := Ideal)) (k0_pay12 (F := Ideal)) (k0_pay2 (F := Ideal)) := by
  unfold out0_A_6
  rw [View.read_writes_eq_canon _ _ _ (cover0_A_6 c i a2 h2 a3 h3 a4 h4 a5 h5 a6 h6 a7 h7 a8 h8 a9 h9 hc a b d w)]
  unfold kernelRun0_A
  dsimp only
  sl_unfold_words
  rw [View.canon_cons_unit_zero (S := S1x1x2048) hz3, View.readCov_unit_zero (S := S1x1x2048) _ hz3]
  simp only [View.readAt_eq_ld, h2.read_unread, h3.read_unread, h4.read_unread, h5.read_unread,
    View.ld_unit_zero (S := S256x2048) hz2, View.ld_unit_zero (S := S1x1x2048) hz3]

theorem first7 (hc : cond0_0 i) : out0_A_7 c i a2 h2 a3 h3 a4 h4 a5 h5 a6 h6 a7 h7 a8 h8 a9 h9 hc a b d w
    = k0_pay1 (k0_pay14 (k0_pay10 a b d w)) (k0_pay3 (F := Ideal)) := by
  unfold out0_A_7
  rw [View.read_writes_eq_canon _ _ _ (cover0_A_7 c i a2 h2 a3 h3 a4 h4 a5 h5 a6 h6 a7 h7 a8 h8 a9 h9 hc a b d w)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread,
    View.ld_unit_zero (S := S256x2048) hz2, View.ld_unit_zero (S := S1x1x2048) hz3]

/-- What a later point leaves. -/
theorem later4 (hc : ¬cond0_0 i) : out0_B_4 c i a2 h2 a3 h3 a4 h4 a5 h5 a6 h6 a7 h7 a8 h8 a9 h9 hc a b d w g l
    = k0_pay13 (k0_pay9 a b d w) (k0_pay11 (F := Ideal)) (k0_pay12 (F := Ideal)) := by
  unfold out0_B_4
  rw [View.read_writes_eq_canon _ _ _ (cover0_B_4 c i a2 h2 a3 h3 a4 h4 a5 h5 a6 h6 a7 h7 a8 h8 a9 h9 hc a b d w g l)]
  unfold kernelRun0_B
  dsimp only
  sl_unfold_words
  rw [View.canon_unit_zero hz2]
  simp only [View.readAt_eq_ld, h2.read_unread, h3.read_unread, h4.read_unread, h5.read_unread,
    View.ld_unit_zero (S := S256x2048) hz2, View.ld_unit_zero (S := S1x1x2048) hz3]

theorem later5 (hc : ¬cond0_0 i) : out0_B_5 c i a2 h2 a3 h3 a4 h4 a5 h5 a6 h6 a7 h7 a8 h8 a9 h9 hc a b d w g l
    = k0_pay15 b (k0_pay4 w) (k0_pay6 b) (k0_pay7 b) (k0_pay9 a b d w) (k0_pay11 (F := Ideal)) (k0_pay12 (F := Ideal)) := by
  unfold out0_B_5
  rw [View.read_writes_eq_canon _ _ _ (cover0_B_5 c i a2 h2 a3 h3 a4 h4 a5 h5 a6 h6 a7 h7 a8 h8 a9 h9 hc a b d w g l)]
  unfold kernelRun0_B
  dsimp only
  sl_unfold_words
  rw [View.canon_unit_zero hz2]
  simp only [View.readAt_eq_ld, h2.read_unread, h3.read_unread, h4.read_unread, h5.read_unread,
    View.ld_unit_zero (S := S256x2048) hz2, View.ld_unit_zero (S := S1x1x2048) hz3]

theorem later6 (hc : ¬cond0_0 i) : out0_B_6 c i a2 h2 a3 h3 a4 h4 a5 h5 a6 h6 a7 h7 a8 h8 a9 h9 hc a b d w g l
    = k0_pay16 (k0_pay8 b) (k0_pay9 a b d w) (k0_pay11 (F := Ideal)) (k0_pay12 (F := Ideal)) g := by
  unfold out0_B_6
  rw [View.read_writes_eq_canon _ _ _ (cover0_B_6 c i a2 h2 a3 h3 a4 h4 a5 h5 a6 h6 a7 h7 a8 h8 a9 h9 hc a b d w g l)]
  unfold kernelRun0_B
  dsimp only
  sl_unfold_words
  rw [View.canon_unit_zero hz3]
  simp only [View.readAt_eq_ld, h2.read_unread, h3.read_unread, h4.read_unread, h5.read_unread, h8.read_unread,
    View.ld_unit_zero (S := S256x2048) hz2, View.ld_unit_zero (S := S1x1x2048) hz3]

theorem later7 (hc : ¬cond0_0 i) : out0_B_7 c i a2 h2 a3 h3 a4 h4 a5 h5 a6 h6 a7 h7 a8 h8 a9 h9 hc a b d w g l
    = k0_pay1 (k0_pay14 (k0_pay10 a b d w)) l := by
  unfold out0_B_7
  rw [View.read_writes_eq_canon _ _ _ (cover0_B_7 c i a2 h2 a3 h3 a4 h4 a5 h5 a6 h6 a7 h7 a8 h8 a9 h9 hc a b d w g l)]
  unfold kernelRun0_B
  dsimp only
  sl_unfold_words
  rw [View.canon_unit_zero hz3]
  simp only [View.readAt_eq_ld, h2.read_unread, h3.read_unread, h4.read_unread, h5.read_unread, h9.read_unread,
    View.ld_unit_zero (S := S256x2048) hz2, View.ld_unit_zero (S := S1x1x2048) hz3, View.ld_unit_zero (S := S1x1x128) hz3]

end cases

variable (m : (ℓ : Loc nD τ sig) → Buf (Elt Ideal) ℓ) (c : Dev nD)

/-- The arguments. -/
abbrev arg0 : Mat 8192 2048 := m (c.tc.loc main_arg0)
abbrev arg1 : Mat 8192 2048 := m (c.tc.loc main_arg1)
abbrev arg2 : Mat 8192 2048 := m (c.tc.loc main_arg2)
abbrev arg3 : Mat 1 2048 := m (c.tc.loc main_arg3)

/-- The blocks of grid point `t`. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] ∧ win0_5.index t = ![t.val, 0] ∧ win0_6.index t = ![0, 0, 0]
    ∧ win0_7.index t = ![0, 0, 0] := by decide +kernel

/-- There are 32 grid points. -/
theorem lt_N (t : Fin cfg0.N) : t.val < 32 := t.isLt

/-- Row `p` of tile `t`. -/
abbrev at_ (t : Fin cfg0.N) (p : Fin 256) : Fin 8192 := ⟨256 * t.val + p.val, by have := lt_N t; omega⟩

/-- A row of a block is a row of the argument. -/
theorem row0 (t : Fin cfg0.N) (p : Fin 256) : row (n := 256) (k := 2048) (iblk m c 0 t) p = row (arg0 m c) (at_ t p) := by
  obtain ⟨h, -⟩ := idx t
  funext q
  have e : iblk m c 0 t (ix2 p q) = V m c main_arg0 (ix2 (at_ t p) q) := by blk_ext [iblk, h]
  exact e.trans (congrFun (V_main_arg0 m c) _)

theorem row1 (t : Fin cfg0.N) (p : Fin 256) : row (n := 256) (k := 2048) (iblk m c 1 t) p = row (arg1 m c) (at_ t p) := by
  obtain ⟨-, h, -⟩ := idx t
  funext q
  have e : iblk m c 1 t (ix2 p q) = V m c main_arg1 (ix2 (at_ t p) q) := by blk_ext [iblk, h]
  exact e.trans (congrFun (V_main_arg1 m c) _)

theorem row2 (t : Fin cfg0.N) (p : Fin 256) : row (n := 256) (k := 2048) (iblk m c 2 t) p = row (arg2 m c) (at_ t p) := by
  obtain ⟨-, -, h, -⟩ := idx t
  funext q
  have e : iblk m c 2 t (ix2 p q) = V m c main_arg2 (ix2 (at_ t p) q) := by blk_ext [iblk, h]
  exact e.trans (congrFun (V_main_arg2 m c) _)

theorem wt3 (t : Fin cfg0.N) : wt (iblk m c 3 t) = row (arg3 m c) 0 := by
  obtain ⟨-, -, -, h, -⟩ := idx t
  funext q
  have e : iblk m c 3 t (ix3 0 0 q) = V m c main_v0 (ix3 0 0 q) := by blk_ext [iblk, h]
  refine e.trans ?_
  entry_read
  pointwise
  rfl

/-- The errors of the rows. -/
def errs (p : Fin 8192) : Row := err (row (arg0 m c) p) (row (arg1 m c) p) (row (arg2 m c) p) (row (arg3 m c) 0)

theorem err_eq (t : Fin cfg0.N) (p : Fin 256) :
    errOf (iblk m c 0 t) (iblk m c 1 t) (iblk m c 2 t) (iblk m c 3 t) p = errs m c (at_ t p) := by
  show err (row (n := 256) (k := 2048) (iblk m c 0 t) p) (row (n := 256) (k := 2048) (iblk m c 1 t) p)
    (row (n := 256) (k := 2048) (iblk m c 2 t) p) (wt (iblk m c 3 t)) = _
  rw [row0, row1, row2, wt3]
  rfl

/-- A row's gradient of the norm's argument, its part of the gradient of the weight, and its loss. -/
def gd (p : Fin 8192) : Row := dx (row (arg1 m c) p) (gradW (errs m c p) (row (arg3 m c) 0))

def gw (q : Fin 2048) (p : Fin 8192) : EReal := dw (row (arg1 m c) p) (grad (errs m c p)) q

def loss (p : Fin 8192) : EReal := rowLoss (errs m c p)

theorem rows (t : Fin cfg0.N) (p : Fin 256) (q : Fin 2048) :
    dx (row (n := 256) (k := 2048) (iblk m c 1 t) p) (gradW (errOf (iblk m c 0 t) (iblk m c 1 t) (iblk m c 2 t) (iblk m c 3 t) p)
      (wt (iblk m c 3 t))) q = gd m c (at_ t p) q := by
  rw [err_eq, row1, wt3]
  rfl

/-- Point `t` leaves the gradients of its rows. -/
theorem point4 (t : Fin cfg0.N) (p : Fin 256) (q : Fin 2048) :
    (outsAt0 m c t.val t.isLt).1 (ix2 p q) = grad (errs m c (at_ t p)) q := by
  by_cases h : t.val % 32 = 0
  · refine (congrArg (fun z => z.1 (ix2 p q)) (outsAt0_A m c t h)).trans ?_
    dsimp only
    rw [first4, pay_x]
    exact congrArg (fun e : Row => grad e q) (err_eq m c t p)
  · refine (congrArg (fun z => z.1 (ix2 p q)) (outsAt0_B m c t h)).trans ?_
    dsimp only
    rw [later4, pay_x]
    exact congrArg (fun e : Row => grad e q) (err_eq m c t p)

theorem point5 (t : Fin cfg0.N) (p : Fin 256) (q : Fin 2048) :
    (outsAt0 m c t.val t.isLt).2.1 (ix2 p q) = gd m c (at_ t p) q := by
  by_cases h : t.val % 32 = 0
  · refine (congrArg (fun z => z.2.1 (ix2 p q)) (outsAt0_A m c t h)).trans ?_
    dsimp only
    rw [first5, pay_d]
    exact rows m c t p q
  · refine (congrArg (fun z => z.2.1 (ix2 p q)) (outsAt0_B m c t h)).trans ?_
    dsimp only
    rw [later5, pay_d]
    exact rows m c t p q

/-- A tile's part of the gradient of the weight. -/
theorem part (q : Fin 2048) (t : Fin cfg0.N) :
    ∑ p, dw (row (n := 256) (k := 2048) (iblk m c 1 t) p)
        (grad (errOf (iblk m c 0 t) (iblk m c 1 t) (iblk m c 2 t) (iblk m c 3 t) p)) q
      = ∑ r ∈ Finset.range 256, ext (gw m c q) (256 * t.val + r) :=
  sum_tile (gw m c q) t.val (by have := lt_N t; omega) _ fun p =>
    congrArg₂ (fun u e : Row => dw u (grad e) q) (row1 m c t p) (err_eq m c t p)

/-- A tile's loss. -/
theorem lossPart (t : Fin cfg0.N) :
    ∑ p, rowLoss (errOf (iblk m c 0 t) (iblk m c 1 t) (iblk m c 2 t) (iblk m c 3 t) p)
      = ∑ r ∈ Finset.range 256, ext (loss m c) (256 * t.val + r) :=
  sum_tile (loss m c) t.val (by have := lt_N t; omega) _ fun p => congrArg rowLoss (err_eq m c t p)

/-- Point `t` leaves the sums over the rows up to its last. -/
theorem point6 (q : Fin 2048) : ∀ (n : ℕ) (hn : n < cfg0.N),
    (outsAt0 m c n hn).2.2.1 (ix3 0 0 q) = ∑ r ∈ Finset.range (256 * (n + 1)), ext (gw m c q) r := by
  intro n
  induction n with
  | zero =>
    intro hn
    have e := congrArg (fun z => z.2.2.1 (ix3 0 0 q)) (outsAt0_A m c ⟨0, hn⟩ rfl)
    refine e.trans ?_
    dsimp only
    rw [first6, pay_w, part m c q ⟨0, hn⟩, sum_next, Nat.mul_zero, Finset.sum_range_zero]
    pointwise [k0_pay2]
  | succ n ih =>
    intro hn
    have hB : ¬ (n + 1) % 32 = 0 := by have := lt_N ⟨n + 1, hn⟩; dsimp only at this; omega
    have e := congrArg (fun z => z.2.2.1 (ix3 0 0 q)) (outsAt0_B m c ⟨n + 1, hn⟩ hB)
    refine e.trans ?_
    dsimp only
    rw [later6, pay_w, part m c q ⟨n + 1, hn⟩, sum_next]
    exact congrArg (· + _) (ih (Nat.lt_of_succ_lt hn))

theorem point7 (k : Fin 128) : ∀ (n : ℕ) (hn : n < cfg0.N),
    (outsAt0 m c n hn).2.2.2 (ix3 0 0 k) = ∑ r ∈ Finset.range (256 * (n + 1)), ext (loss m c) r := by
  intro n
  induction n with
  | zero =>
    intro hn
    have e := congrArg (fun z => z.2.2.2 (ix3 0 0 k)) (outsAt0_A m c ⟨0, hn⟩ rfl)
    refine e.trans ?_
    dsimp only
    rw [first7, pay_l, lossPart m c ⟨0, hn⟩, sum_next, Nat.mul_zero, Finset.sum_range_zero]
    pointwise [k0_pay3]
  | succ n ih =>
    intro hn
    have hB : ¬ (n + 1) % 32 = 0 := by have := lt_N ⟨n + 1, hn⟩; dsimp only at this; omega
    have e := congrArg (fun z => z.2.2.2 (ix3 0 0 k)) (outsAt0_B m c ⟨n + 1, hn⟩ hB)
    refine e.trans ?_
    dsimp only
    rw [later7, pay_l, lossPart m c ⟨n + 1, hn⟩, sum_next]
    exact congrArg (· + _) (ih (Nat.lt_of_succ_lt hn))

/-- The gradients of the residual and of the norm's argument, after the run. -/
theorem arr4 : (dats m 0 c).arrAt 4 cfg0.N = fun i => grad (errs m c (i 0)) (i 1) := by
  refine (dats m 0 c).arrAt_eq_of_covers 4 _ (by decide +kernel) fun t hf y => ?_
  obtain ⟨-, -, -, -, h, -⟩ := idx t
  obtain ⟨p, q, rfl⟩ := eq_ix2 (n := 256) (k := 2048) y
  have e : ((cfg0.win 4).blk t).view.emb (ix2 p q) = ix2 (at_ t p) q := by blk_ext [h]
  rw [e, after0_4]
  exact point4 m c t p q

theorem arr5 : (dats m 0 c).arrAt 5 cfg0.N = fun i => gd m c (i 0) (i 1) := by
  refine (dats m 0 c).arrAt_eq_of_covers 5 _ (by decide +kernel) fun t hf y => ?_
  obtain ⟨-, -, -, -, -, h, -⟩ := idx t
  obtain ⟨p, q, rfl⟩ := eq_ix2 (n := 256) (k := 2048) y
  have e : ((cfg0.win 5).blk t).view.emb (ix2 p q) = ix2 (at_ t p) q := by blk_ext [h]
  rw [e, after0_5]
  exact point5 m c t p q

/-- The gradient of the weight, after the run. -/
theorem arr6 : (dats m 0 c).arrAt 6 cfg0.N = fun i => ∑ p, gw m c (i 2) p := by
  refine (dats m 0 c).arrAt_eq_of_covers 6 _ (by decide +kernel) fun t hf y => ?_
  obtain ⟨-, -, -, -, -, -, h, -⟩ := idx t
  have ht := (flush0_6 t).1 hf
  obtain ⟨q, rfl⟩ : ∃ (q : Fin 2048), y = ix3 0 0 q :=
    ⟨y 2, by funext a; fin_cases a; exacts [Subsingleton.elim (α := Fin 1) _ _, Subsingleton.elim (α := Fin 1) _ _, rfl]⟩
  have e : ((cfg0.win 6).blk t).view.emb (ix3 0 0 q) = ix3 0 0 q := by blk_ext [h]
  rw [e, after0_6]
  refine (point6 m c q t.val t.isLt).trans ?_
  rw [show 256 * (t.val + 1) = 8192 by have := lt_N t; omega, sum_ext]
  rfl

/-- The loss, after the run, in each of the 128 places. -/
theorem arr7 : (dats m 0 c).arrAt 7 cfg0.N = fun _ => ∑ p, loss m c p := by
  refine (dats m 0 c).arrAt_eq_of_covers 7 _ (by decide +kernel) fun t hf y => ?_
  have ht := (flush0_7 t).1 hf
  obtain ⟨k, rfl⟩ : ∃ (k : Fin 128), y = ix3 0 0 k :=
    ⟨y 2, by funext a; fin_cases a; exacts [Subsingleton.elim (α := Fin 1) _ _, Subsingleton.elim (α := Fin 1) _ _, rfl]⟩
  rw [after0_7]
  refine (point7 m c k t.val t.isLt).trans ?_
  rw [show 256 * (t.val + 1) = 8192 by have := lt_N t; omega, sum_ext]

/-- The two end with the same loss and gradients. -/
theorem value : Cert.algebraic_Kernel18Ideal_Reference18Ideal := by
  intro m ρ m' ρ' _ hargs
  refine ⟨_, _, _, _, (θ_run _ _ _).mono (fun _ h c => ⟨(h c).1.trans (arr4 m c), (h c).2.1.trans (arr5 m c),
      (h c).2.2.1.trans (arr6 m c), (h c).2.2.2.1.trans (arr7 m c), (h c).2.2.2.2⟩) (Cert.Kernel18Ideal.Value.run_blocks m ρ),
    (θ_run _ _ _).mono (fun _ h c => ⟨(h c).1.trans ?_, (h c).2.1.trans ?_, (h c).2.2.1.trans ?_, (h c).2.2.2.1.trans ?_,
      (h c).2.2.2.2⟩) (Cert.Reference18Ideal.Value.run (F := Ideal) m' ρ')⟩
  · obtain ⟨e0, e1, e2, e3⟩ := hargs c
    rw [e0, e1, e2, e3]
    funext i
    obtain ⟨p, q, rfl⟩ := eq_ix2 (n := 8192) (k := 2048) i
    pointwise
    exact twice _
  · obtain ⟨e0, e1, e2, e3⟩ := hargs c
    funext i
    obtain ⟨p, q, rfl⟩ := eq_ix2 (n := 8192) (k := 2048) i
    pointwise [Reference18Ideal.Value.res_main_v50]
    simp only [e0, e1, e2, e3, twice]
    rfl
  · obtain ⟨e0, e1, e2, e3⟩ := hargs c
    rw [e0, e1, e2, e3]
    funext i
    pointwise
    simp only [twice]
    rfl
  · obtain ⟨e0, e1, e2, e3⟩ := hargs c
    rw [e0, e1, e2, e3]
    funext i
    pointwise
    exact half_sum _ _

/-- The reference ends, its arguments unchanged and its counters at zero. -/
theorem frame_ref : Cert.quiescent_Reference18Ideal := fun m ρ _ =>
  (θ_run _ _ _).mono (fun r h => ⟨fun c => (h c).2.2.2.2, sem_eq_zero_of_no_sems (by decide) r.2⟩) (Cert.Reference18Ideal.Value.run (F := Ideal) m ρ)

end Cert.Kernel18Ideal.Whole

end
-- ==== Proof.Adam.lean ====
module

public import proofs.«01_k».proof.Defs
public import proofs.«01_k».proof.Proof.Gen.Kernel19Ideal.Value
public import proofs.«01_k».proof.Proof.Gen.Kernel20Ideal.Value
public import proofs.«01_k».proof.Proof.Gen.Kernel21Ideal.Value
public import proofs.«01_k».proof.Proof.Gen.Kernel22Ideal.Value
public import proofs.«01_k».proof.Proof.Gen.Kernel23Ideal.Value
public import proofs.«01_k».proof.Proof.Gen.Kernel24Ideal.Value
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import Idealize.ShloMosaic.Lib.Claim
public import Idealize.ShloMosaic.Lib.Pointwise

/-! # The optimiser's step -/

@[expose] public section

set_option maxRecDepth 16384

noncomputable section

namespace Cert.Proof.Adam

open Idealize.ShloMosaic Idealize.SL.Sem

/-- Of two runs whose final states have equal results at equal arguments, the second ends with the first's results. -/
theorem meet {N S : Type} {wp : (S → Prop) → Prop} (hmono : ∀ (P Q : S → Prop), (∀ s, P s → Q s) → wp P → wp Q)
    {A B C : N → Type} {a : S → ∀ c, A c} {b : S → ∀ c, B c} {d : S → ∀ c, C c} {kept : S → N → Prop}
    {va va' : ∀ c, A c} {vb vb' : ∀ c, B c} {vd vd' : ∀ c, C c}
    (h : wp fun s => ∀ c, a s c = va' c ∧ b s c = vb' c ∧ d s c = vd' c ∧ kept s c)
    (ha : ∀ c, va' c = va c) (hb : ∀ c, vb' c = vb c) (hd : ∀ c, vd' c = vd c) :
    wp fun s => ∀ c, a s c = va c ∧ b s c = vb c ∧ d s c = vd c ∧ kept s c :=
  hmono _ _ (fun _ h c => ⟨(h c).1.trans (ha c), (h c).2.1.trans (hb c), (h c).2.2.1.trans (hd c), (h c).2.2.2⟩) h

/-- The step of the input projection. -/
theorem value19 : Cert.algebraic_Kernel19Ideal_Reference19Ideal := by
  intro m ρ m' ρ' _ hargs
  refine ⟨_, _, _, Cert.Kernel19Ideal.Value.run (F := Ideal) m ρ,
    meet (fun _ _ => (θ_run _ _ _).mono) (Cert.Reference19Ideal.Value.run (F := Ideal) m' ρ') ?_ ?_ ?_⟩ <;>
  · intro c; obtain ⟨e0, e1, e2, e3⟩ := hargs c; funext i; pointwise [Kernel19Ideal.Value.G4, Kernel19Ideal.Value.G5, Kernel19Ideal.Value.G6, e0, e1, e2, e3]

/-- The step of the feed-forward's first projection. -/
theorem value20 : Cert.algebraic_Kernel20Ideal_Reference20Ideal := by
  intro m ρ m' ρ' _ hargs
  refine ⟨_, _, _, Cert.Kernel20Ideal.Value.run (F := Ideal) m ρ,
    meet (fun _ _ => (θ_run _ _ _).mono) (Cert.Reference20Ideal.Value.run (F := Ideal) m' ρ') ?_ ?_ ?_⟩ <;>
  · intro c; obtain ⟨e0, e1, e2, e3⟩ := hargs c; funext i; pointwise [Kernel20Ideal.Value.G4, Kernel20Ideal.Value.G5, Kernel20Ideal.Value.G6, e0, e1, e2, e3]

/-- The step of the HGRN2 branch's projection and of the mixer's output projection. -/
theorem value21 : Cert.algebraic_Kernel21Ideal_Reference21Ideal := by
  intro m ρ m' ρ' _ hargs
  refine ⟨_, _, _, Cert.Kernel21Ideal.Value.run (F := Ideal) m ρ,
    meet (fun _ _ => (θ_run _ _ _).mono) (Cert.Reference21Ideal.Value.run (F := Ideal) m' ρ') ?_ ?_ ?_⟩ <;>
  · intro c; obtain ⟨e0, e1, e2, e3⟩ := hargs c; funext i; pointwise [Kernel21Ideal.Value.G4, Kernel21Ideal.Value.G5, Kernel21Ideal.Value.G6, e0, e1, e2, e3]

/-- The step of the state-space branch's projection. -/
theorem value22 : Cert.algebraic_Kernel22Ideal_Reference22Ideal := by
  intro m ρ m' ρ' _ hargs
  refine ⟨_, _, _, Cert.Kernel22Ideal.Value.run (F := Ideal) m ρ,
    meet (fun _ _ => (θ_run _ _ _).mono) (Cert.Reference22Ideal.Value.run (F := Ideal) m' ρ') ?_ ?_ ?_⟩ <;>
  · intro c; obtain ⟨e0, e1, e2, e3⟩ := hargs c; funext i; pointwise [Kernel22Ideal.Value.G4, Kernel22Ideal.Value.G5, Kernel22Ideal.Value.G6, e0, e1, e2, e3]

/-- The step of the feed-forward's second projection. -/
theorem value23 : Cert.algebraic_Kernel23Ideal_Reference23Ideal := by
  intro m ρ m' ρ' _ hargs
  refine ⟨_, _, _, Cert.Kernel23Ideal.Value.run (F := Ideal) m ρ,
    meet (fun _ _ => (θ_run _ _ _).mono) (Cert.Reference23Ideal.Value.run (F := Ideal) m' ρ') ?_ ?_ ?_⟩ <;>
  · intro c; obtain ⟨e0, e1, e2, e3⟩ := hargs c; funext i; pointwise [Kernel23Ideal.Value.G4, Kernel23Ideal.Value.G5, Kernel23Ideal.Value.G6, e0, e1, e2, e3]

/-- The step of the small weights, packed. -/
theorem value24 : Cert.algebraic_Kernel24Ideal_Reference24Ideal := by
  intro m ρ m' ρ' _ hargs
  refine ⟨_, _, _, Cert.Kernel24Ideal.Value.run (F := Ideal) m ρ,
    meet (fun _ _ => (θ_run _ _ _).mono) (Cert.Reference24Ideal.Value.run (F := Ideal) m' ρ') ?_ ?_ ?_⟩ <;>
  · intro c; obtain ⟨e0, e1, e2, e3⟩ := hargs c; funext i; pointwise [Kernel24Ideal.Value.G4, Kernel24Ideal.Value.G5, Kernel24Ideal.Value.G6, e0, e1, e2, e3]

/-- The references end, their arguments unchanged and their counters at zero. -/
theorem frame_ref19 : Cert.quiescent_Reference19Ideal := fun m ρ _ =>
  (θ_run _ _ _).mono (fun r h => ⟨fun c => (h c).2.2.2, sem_eq_zero_of_no_sems (by decide) r.2⟩) (Cert.Reference19Ideal.Value.run (F := Ideal) m ρ)

theorem frame_ref20 : Cert.quiescent_Reference20Ideal := fun m ρ _ =>
  (θ_run _ _ _).mono (fun r h => ⟨fun c => (h c).2.2.2, sem_eq_zero_of_no_sems (by decide) r.2⟩) (Cert.Reference20Ideal.Value.run (F := Ideal) m ρ)

theorem frame_ref21 : Cert.quiescent_Reference21Ideal := fun m ρ _ =>
  (θ_run _ _ _).mono (fun r h => ⟨fun c => (h c).2.2.2, sem_eq_zero_of_no_sems (by decide) r.2⟩) (Cert.Reference21Ideal.Value.run (F := Ideal) m ρ)

theorem frame_ref22 : Cert.quiescent_Reference22Ideal := fun m ρ _ =>
  (θ_run _ _ _).mono (fun r h => ⟨fun c => (h c).2.2.2, sem_eq_zero_of_no_sems (by decide) r.2⟩) (Cert.Reference22Ideal.Value.run (F := Ideal) m ρ)

theorem frame_ref23 : Cert.quiescent_Reference23Ideal := fun m ρ _ =>
  (θ_run _ _ _).mono (fun r h => ⟨fun c => (h c).2.2.2, sem_eq_zero_of_no_sems (by decide) r.2⟩) (Cert.Reference23Ideal.Value.run (F := Ideal) m ρ)

theorem frame_ref24 : Cert.quiescent_Reference24Ideal := fun m ρ _ =>
  (θ_run _ _ _).mono (fun r h => ⟨fun c => (h c).2.2.2, sem_eq_zero_of_no_sems (by decide) r.2⟩) (Cert.Reference24Ideal.Value.run (F := Ideal) m ρ)

end Cert.Proof.Adam

end
-- ==== Proof.Sums.lean ====
module

public import proofs.«01_k».proof.Proof.Prod

/-! # Sums of the blocks of the devices over the extended reals -/

@[expose] public section

noncomputable section

namespace Cert.Sums

open Idealize.ShloMosaic Cert.Prod

/-- A block of every device. -/
abbrev Stack (n r k : ℕ) : Type := (⟨3, ![n, r, k]⟩ : Shape).Idx → EReal

/-- The sum of the devices' blocks. -/
def total {n r k : ℕ} (a : Stack n r k) : Mat r k := fun i => ∑ d : Fin n, a (ix3 d (i 0) (i 1))

/-- An entry of the sum depends on that entry of each block only. -/
theorem total_tile {n r k R K : ℕ} {x : Stack n r k} {a : Stack n R K} {p : Fin r} {q : Fin k} {P : Fin R} {Q : Fin K}
    (h : ∀ d, x (ix3 d p q) = a (ix3 d P Q)) : total x (ix2 p q) = total a (ix2 P Q) :=
  Finset.sum_congr rfl fun d _ => h d

/-- Of two runs, the second ends with the first's result when the results are equal. -/
theorem meet {N S : Type} {wp : (S → Prop) → Prop} (hmono : ∀ P Q : S → Prop, (∀ s, P s → Q s) → wp P → wp Q)
    {A : N → Type} {a : S → ∀ c, A c} {kept : S → N → Prop} {va va' : ∀ c, A c}
    (h : wp fun s => ∀ c, a s c = va' c ∧ kept s c) (ha : ∀ c, va' c = va c) : wp fun s => ∀ c, a s c = va c ∧ kept s c :=
  hmono _ _ (fun _ h c => ⟨(h c).1.trans (ha c), (h c).2⟩) h

end Cert.Sums

end
-- ==== Proof.Sum25.lean ====
module

public import proofs.«01_k».proof.Defs
public import proofs.«01_k».proof.Proof.Sums
public import proofs.«01_k».proof.Proof.Gen.Kernel25Ideal.Frame
public import proofs.«01_k».proof.Proof.Gen.Reference25Ideal.Run
public import Idealize.ShloMosaic.Lib.Claim
public import Idealize.ShloMosaic.Lib.Pipeline.ValueKit.Point
public import Idealize.ShloMosaic.Lib.StableHlo.ReadAt

/-! # The sum of the devices' gradients of the input projection -/

@[expose] public section

set_option maxRecDepth 16384

noncomputable section

namespace Cert.Kernel25Ideal.Whole

open Cert.Kernel25Ideal Cert.Kernel25Ideal.Gen Idealize.ShloMosaic Idealize.SL.Sem Cert.Prod Cert.Sums

/-- The blocks of grid point `t`. -/
theorem idx : ∀ t : Fin cfg0.N, win0_0.index t = ![0, 0, t.val] ∧ win0_1.index t = ![0, t.val] ∧ t.val < 8 := by decide +kernel

/-- A point's result is the sum of its blocks. -/
theorem block (x : Vec Ideal S4x2824x256 .bf16) : out0_1 x = total x := by
  funext i
  unfold out0_1
  rw [View.canon_unit_zero (by decide)]
  obtain ⟨p, q, rfl⟩ := eq_ix2 (n := 2824) (k := 256) i
  pointwise [k0_pay1, total, View.ld, Fin.sum_univ_four]

/-- The array after the run is the sum of the argument's blocks. -/
theorem arr (m : (ℓ : Loc nD τ sig) → Buf (Elt Ideal) ℓ) (c : Dev nD) :
    (dats m 0 c).arrAt 1 cfg0.N = total (n := 4) (r := 2824) (k := 2048) (m (c.tc.loc main_arg0)) := by
  refine (dats m 0 c).arrAt_eq_of_covers 1 _ (by decide +kernel) fun t hf y => ?_
  obtain ⟨h0, h1, ht⟩ := idx t
  obtain ⟨r, q, rfl⟩ := eq_ix2 (n := 2824) (k := 256) y
  have e : ((cfg0.win 1).blk t).view.emb (ix2 r q) = ix2 r ⟨256 * t.val + q.val, by omega⟩ := by blk_ext [h1]
  have b (d : Fin 4) : iblk m c 0 t (ix3 d r q) = m (c.tc.loc main_arg0) (ix3 d r ⟨256 * t.val + q.val, by omega⟩) := by
    have e : iblk m c 0 t (ix3 d r q) = V m c main_v0 (ix3 d r ⟨256 * t.val + q.val, by omega⟩) := by blk_ext [iblk, h0]
    rw [e]
    show StableHlo.after [hostOps0].flatten (fun b => m (c, b)) (Proc.tc.devRef main_v0) _ = _
    simp only [List.flatten_cons, List.flatten_nil, List.append_nil]
    after_results_simp
    pointwise
  rw [e, after0_1, block]
  exact total_tile b

/-- The result is the sum transposed. -/
theorem tail (m : (ℓ : Loc nD τ sig) → Buf (Elt Ideal) ℓ) (c : Dev nD) :
    Pipeline.afterTail₀ cfgs (dats m) 0 (V0 m) [hostOps1] c main_v2
      = transpose S2048x2824 [1, 0] (total (n := 4) (r := 2824) (k := 2048) (m (c.tc.loc main_arg0))) transposes_S2824x2048_S2048x2824_1_0 := by
  have e := (Pipeline.withArrays_arr spec0 winFacts0.arr_inj c (V0 m c) (fun w => (dats m 0 c).arrAt w cfg0.N) 1).trans (arr m c)
  unfold Pipeline.afterTail₀
  after_results_simp
  exact congrArg (transpose S2048x2824 [1, 0] · transposes_S2824x2048_S2048x2824_1_0) e

/-- The two end with the same sum. -/
theorem value : Cert.algebraic_Kernel25Ideal_Reference25Ideal := by
  intro m ρ m' ρ' _ hargs
  refine ⟨_, (θ_run _ _ _).mono (fun r h c => ⟨((h.1 c).2 main_v2 (Pipeline.mem_restRefs_of main_v2 (by decide) (by decide))).trans (tail m c), h.2 c⟩)
      (θ_run_and (run_main m ρ) (unchanged m ρ)),
    meet (fun _ _ => (θ_run _ _ _).mono) (Cert.Reference25Ideal.Value.run (F := Ideal) m' ρ') fun c => ?_⟩
  rw [hargs c]
  funext i
  pointwise [total]

/-- The reference ends, its argument unchanged and its counters at zero. -/
theorem frame_ref : Cert.quiescent_Reference25Ideal := fun m ρ _ =>
  (θ_run _ _ _).mono (fun r h => ⟨fun c => (h c).2, sem_eq_zero_of_no_sems (by decide) r.2⟩) (Cert.Reference25Ideal.Value.run (F := Ideal) m ρ)

end Cert.Kernel25Ideal.Whole

end
-- ==== Proof.Sum26.lean ====
module

public import proofs.«01_k».proof.Defs
public import proofs.«01_k».proof.Proof.Sums
public import proofs.«01_k».proof.Proof.Gen.Kernel26Ideal.Frame
public import proofs.«01_k».proof.Proof.Gen.Reference26Ideal.Run
public import Idealize.ShloMosaic.Lib.Claim
public import Idealize.ShloMosaic.Lib.Pipeline.ValueKit.Point
public import Idealize.ShloMosaic.Lib.StableHlo.ReadAt

/-! # The sum of the devices' gradients of the feed-forward's first projection -/

@[expose] public section

set_option maxRecDepth 16384

noncomputable section

namespace Cert.Kernel26Ideal.Whole

open Cert.Kernel26Ideal Cert.Kernel26Ideal.Gen Idealize.ShloMosaic Idealize.SL.Sem Cert.Prod Cert.Sums

/-- The blocks of grid point `t`. -/
theorem idx : ∀ t : Fin cfg0.N, win0_0.index t = ![0, 0, t.val] ∧ win0_1.index t = ![0, t.val] ∧ t.val < 8 := by decide +kernel

/-- A point's result is the sum of its blocks. -/
theorem block (x : Vec Ideal S8x1408x256 .bf16) : out0_1 x = total x := by
  funext i
  unfold out0_1
  rw [View.canon_unit_zero (by decide)]
  obtain ⟨p, q, rfl⟩ := eq_ix2 (n := 1408) (k := 256) i
  pointwise [k0_pay1, total, View.ld, Fin.sum_univ_eight]

/-- The array after the run is the sum of the argument's blocks. -/
theorem arr (m : (ℓ : Loc nD τ sig) → Buf (Elt Ideal) ℓ) (c : Dev nD) :
    (dats m 0 c).arrAt 1 cfg0.N = total (n := 8) (r := 1408) (k := 2048) (m (c.tc.loc main_arg0)) := by
  refine (dats m 0 c).arrAt_eq_of_covers 1 _ (by decide +kernel) fun t hf y => ?_
  obtain ⟨h0, h1, ht⟩ := idx t
  obtain ⟨r, q, rfl⟩ := eq_ix2 (n := 1408) (k := 256) y
  have e : ((cfg0.win 1).blk t).view.emb (ix2 r q) = ix2 r ⟨256 * t.val + q.val, by omega⟩ := by blk_ext [h1]
  have b (d : Fin 8) : iblk m c 0 t (ix3 d r q) = m (c.tc.loc main_arg0) (ix3 d r ⟨256 * t.val + q.val, by omega⟩) := by
    have e : iblk m c 0 t (ix3 d r q) = V m c main_v0 (ix3 d r ⟨256 * t.val + q.val, by omega⟩) := by blk_ext [iblk, h0]
    rw [e]
    show StableHlo.after [hostOps0].flatten (fun b => m (c, b)) (Proc.tc.devRef main_v0) _ = _
    simp only [List.flatten_cons, List.flatten_nil, List.append_nil]
    after_results_simp
    pointwise
  rw [e, after0_1, block]
  exact total_tile b

/-- The result is the sum transposed. -/
theorem tail (m : (ℓ : Loc nD τ sig) → Buf (Elt Ideal) ℓ) (c : Dev nD) :
    Pipeline.afterTail₀ cfgs (dats m) 0 (V0 m) [hostOps1] c main_v2
      = transpose S2048x1408 [1, 0] (total (n := 8) (r := 1408) (k := 2048) (m (c.tc.loc main_arg0))) transposes_S1408x2048_S2048x1408_1_0 := by
  have e := (Pipeline.withArrays_arr spec0 winFacts0.arr_inj c (V0 m c) (fun w => (dats m 0 c).arrAt w cfg0.N) 1).trans (arr m c)
  unfold Pipeline.afterTail₀
  after_results_simp
  exact congrArg (transpose S2048x1408 [1, 0] · transposes_S1408x2048_S2048x1408_1_0) e

/-- The two end with the same sum. -/
theorem value : Cert.algebraic_Kernel26Ideal_Reference26Ideal := by
  intro m ρ m' ρ' _ hargs
  refine ⟨_, (θ_run _ _ _).mono (fun r h c => ⟨((h.1 c).2 main_v2 (Pipeline.mem_restRefs_of main_v2 (by decide) (by decide))).trans (tail m c), h.2 c⟩)
      (θ_run_and (run_main m ρ) (unchanged m ρ)),
    meet (fun _ _ => (θ_run _ _ _).mono) (Cert.Reference26Ideal.Value.run (F := Ideal) m' ρ') fun c => ?_⟩
  rw [hargs c]
  funext i
  pointwise [total]

/-- The reference ends, its argument unchanged and its counters at zero. -/
theorem frame_ref : Cert.quiescent_Reference26Ideal := fun m ρ _ =>
  (θ_run _ _ _).mono (fun r h => ⟨fun c => (h c).2, sem_eq_zero_of_no_sems (by decide) r.2⟩) (Cert.Reference26Ideal.Value.run (F := Ideal) m ρ)

end Cert.Kernel26Ideal.Whole

end
-- ==== Proof.Sum27.lean ====
module

public import proofs.«01_k».proof.Defs
public import proofs.«01_k».proof.Proof.Sums
public import proofs.«01_k».proof.Proof.Gen.Kernel27Ideal.Value
public import proofs.«01_k».proof.Proof.Gen.Reference27Ideal.Run
public import Idealize.ShloMosaic.Lib.Claim
public import Idealize.ShloMosaic.Lib.Pipeline.ValueKit.Point
public import Idealize.ShloMosaic.Lib.StableHlo.ReadAt

/-! # The sum of the devices' gradients of the HGRN2 branch's projection, and of the mixer's output projection -/

@[expose] public section

set_option maxRecDepth 16384

noncomputable section

namespace Cert.Kernel27Ideal.Whole

open Cert.Kernel27Ideal Cert.Kernel27Ideal.Gen Idealize.ShloMosaic Idealize.SL.Sem Cert.Prod Cert.Sums

/-- The blocks of grid point `t`. -/
theorem idx : ∀ t : Fin cfg0.N, win0_0.index t = ![0, 0, t.val] ∧ win0_1.index t = ![0, t.val] ∧ t.val < 8 := by decide +kernel

/-- A point's result is the sum of its blocks. -/
theorem block (x : Vec Ideal S8x256x256 .bf16) : out0_1 x = total x := by
  funext i
  unfold out0_1
  rw [View.canon_unit_zero (by decide)]
  obtain ⟨p, q, rfl⟩ := eq_ix2 (n := 256) (k := 256) i
  pointwise [k0_pay1, total, View.ld, Fin.sum_univ_eight]

/-- The array after the run is the sum of the argument's blocks. -/
theorem arr (m : (ℓ : Loc nD τ sig) → Buf (Elt Ideal) ℓ) (c : Dev nD) :
    (dats m 0 c).arrAt 1 cfg0.N = total (n := 8) (r := 256) (k := 2048) (m (c.tc.loc main_arg0)) := by
  refine (dats m 0 c).arrAt_eq_of_covers 1 _ (by decide +kernel) fun t hf y => ?_
  obtain ⟨h0, h1, ht⟩ := idx t
  obtain ⟨r, q, rfl⟩ := eq_ix2 (n := 256) (k := 256) y
  have e : ((cfg0.win 1).blk t).view.emb (ix2 r q) = ix2 r ⟨256 * t.val + q.val, by omega⟩ := by blk_ext [h1]
  have b (d : Fin 8) : iblk m c 0 t (ix3 d r q) = m (c.tc.loc main_arg0) (ix3 d r ⟨256 * t.val + q.val, by omega⟩) := by
    have e : iblk m c 0 t (ix3 d r q) = V m c main_v0 (ix3 d r ⟨256 * t.val + q.val, by omega⟩) := by blk_ext [iblk, h0]
    rw [e]
    entry_read
    pointwise
  rw [e, after0_1, block]
  exact total_tile b

/-- The two end with the same sum. -/
theorem value : Cert.algebraic_Kernel27Ideal_Reference27Ideal := by
  intro m ρ m' ρ' _ hargs
  refine ⟨_, meet (fun _ _ => (θ_run _ _ _).mono) (Value.run_blocks m ρ) (arr m),
    meet (fun _ _ => (θ_run _ _ _).mono) (Cert.Reference27Ideal.Value.run (F := Ideal) m' ρ') fun c => ?_⟩
  rw [hargs c]
  funext i
  pointwise [total]

/-- The reference ends, its argument unchanged and its counters at zero. -/
theorem frame_ref : Cert.quiescent_Reference27Ideal := fun m ρ _ =>
  (θ_run _ _ _).mono (fun r h => ⟨fun c => (h c).2, sem_eq_zero_of_no_sems (by decide) r.2⟩) (Cert.Reference27Ideal.Value.run (F := Ideal) m ρ)

end Cert.Kernel27Ideal.Whole

end
-- ==== Proof.Sum28.lean ====
module

public import proofs.«01_k».proof.Defs
public import proofs.«01_k».proof.Proof.Sums
public import proofs.«01_k».proof.Proof.Gen.Kernel28Ideal.Value
public import proofs.«01_k».proof.Proof.Gen.Reference28Ideal.Run
public import Idealize.ShloMosaic.Lib.Claim
public import Idealize.ShloMosaic.Lib.Pipeline.ValueKit.Point
public import Idealize.ShloMosaic.Lib.StableHlo.ReadAt

/-! # The sum of the devices' gradients of the state-space branch's projection -/

@[expose] public section

set_option maxRecDepth 16384

noncomputable section

namespace Cert.Kernel28Ideal.Whole

open Cert.Kernel28Ideal Cert.Kernel28Ideal.Gen Idealize.ShloMosaic Idealize.SL.Sem Cert.Prod Cert.Sums

/-- The blocks of grid point `t`. -/
theorem idx : ∀ t : Fin cfg0.N, win0_0.index t = ![0, 0, t.val] ∧ win0_1.index t = ![0, t.val] ∧ t.val < 8 := by decide +kernel

/-- A point's result is the sum of its blocks. -/
theorem block (x : Vec Ideal S8x512x256 .bf16) : out0_1 x = total x := by
  funext i
  unfold out0_1
  rw [View.canon_unit_zero (by decide)]
  obtain ⟨p, q, rfl⟩ := eq_ix2 (n := 512) (k := 256) i
  pointwise [k0_pay1, total, View.ld, Fin.sum_univ_eight]

/-- The array after the run is the sum of the argument's blocks. -/
theorem arr (m : (ℓ : Loc nD τ sig) → Buf (Elt Ideal) ℓ) (c : Dev nD) :
    (dats m 0 c).arrAt 1 cfg0.N = total (n := 8) (r := 512) (k := 2048) (m (c.tc.loc main_arg0)) := by
  refine (dats m 0 c).arrAt_eq_of_covers 1 _ (by decide +kernel) fun t hf y => ?_
  obtain ⟨h0, h1, ht⟩ := idx t
  obtain ⟨r, q, rfl⟩ := eq_ix2 (n := 512) (k := 256) y
  have e : ((cfg0.win 1).blk t).view.emb (ix2 r q) = ix2 r ⟨256 * t.val + q.val, by omega⟩ := by blk_ext [h1]
  have b (d : Fin 8) : iblk m c 0 t (ix3 d r q) = m (c.tc.loc main_arg0) (ix3 d r ⟨256 * t.val + q.val, by omega⟩) := by
    have e : iblk m c 0 t (ix3 d r q) = V m c main_v0 (ix3 d r ⟨256 * t.val + q.val, by omega⟩) := by blk_ext [iblk, h0]
    rw [e]
    entry_read
    pointwise
  rw [e, after0_1, block]
  exact total_tile b

/-- The two end with the same sum. -/
theorem value : Cert.algebraic_Kernel28Ideal_Reference28Ideal := by
  intro m ρ m' ρ' _ hargs
  refine ⟨_, meet (fun _ _ => (θ_run _ _ _).mono) (Value.run_blocks m ρ) (arr m),
    meet (fun _ _ => (θ_run _ _ _).mono) (Cert.Reference28Ideal.Value.run (F := Ideal) m' ρ') fun c => ?_⟩
  rw [hargs c]
  funext i
  pointwise [total]

/-- The reference ends, its argument unchanged and its counters at zero. -/
theorem frame_ref : Cert.quiescent_Reference28Ideal := fun m ρ _ =>
  (θ_run _ _ _).mono (fun r h => ⟨fun c => (h c).2, sem_eq_zero_of_no_sems (by decide) r.2⟩) (Cert.Reference28Ideal.Value.run (F := Ideal) m ρ)

end Cert.Kernel28Ideal.Whole

end
-- ==== Proof.Sum29.lean ====
module

public import proofs.«01_k».proof.Defs
public import proofs.«01_k».proof.Proof.Sums
public import proofs.«01_k».proof.Proof.Gen.Kernel29Ideal.Value
public import proofs.«01_k».proof.Proof.Gen.Reference29Ideal.Run
public import Idealize.ShloMosaic.Lib.Claim
public import Idealize.ShloMosaic.Lib.Pipeline.ValueKit.Point
public import Idealize.ShloMosaic.Lib.StableHlo.ReadAt

/-! # The sum of the devices' gradients of the feed-forward's second projection -/

@[expose] public section

set_option maxRecDepth 16384

noncomputable section

namespace Cert.Kernel29Ideal.Whole

open Cert.Kernel29Ideal Cert.Kernel29Ideal.Gen Idealize.ShloMosaic Idealize.SL.Sem Cert.Prod Cert.Sums

/-- The blocks of grid point `t`. -/
theorem idx : ∀ t : Fin cfg0.N, win0_0.index t = ![0, 0, t.val] ∧ win0_1.index t = ![0, t.val] ∧ t.val < 8 := by decide +kernel

/-- A point's result is the sum of its blocks. -/
theorem block (x : Vec Ideal S8x704x256 .bf16) : out0_1 x = total x := by
  funext i
  unfold out0_1
  rw [View.canon_unit_zero (by decide)]
  obtain ⟨p, q, rfl⟩ := eq_ix2 (n := 704) (k := 256) i
  pointwise [k0_pay1, total, View.ld, Fin.sum_univ_eight]

/-- The array after the run is the sum of the argument's blocks. -/
theorem arr (m : (ℓ : Loc nD τ sig) → Buf (Elt Ideal) ℓ) (c : Dev nD) :
    (dats m 0 c).arrAt 1 cfg0.N = total (n := 8) (r := 704) (k := 2048) (m (c.tc.loc main_arg0)) := by
  refine (dats m 0 c).arrAt_eq_of_covers 1 _ (by decide +kernel) fun t hf y => ?_
  obtain ⟨h0, h1, ht⟩ := idx t
  obtain ⟨r, q, rfl⟩ := eq_ix2 (n := 704) (k := 256) y
  have e : ((cfg0.win 1).blk t).view.emb (ix2 r q) = ix2 r ⟨256 * t.val + q.val, by omega⟩ := by blk_ext [h1]
  have b (d : Fin 8) : iblk m c 0 t (ix3 d r q) = m (c.tc.loc main_arg0) (ix3 d r ⟨256 * t.val + q.val, by omega⟩) := by
    have e : iblk m c 0 t (ix3 d r q) = V m c main_v0 (ix3 d r ⟨256 * t.val + q.val, by omega⟩) := by blk_ext [iblk, h0]
    rw [e]
    entry_read
    pointwise
  rw [e, after0_1, block]
  exact total_tile b

/-- The two end with the same sum. -/
theorem value : Cert.algebraic_Kernel29Ideal_Reference29Ideal := by
  intro m ρ m' ρ' _ hargs
  refine ⟨_, meet (fun _ _ => (θ_run _ _ _).mono) (Value.run_blocks m ρ) (arr m),
    meet (fun _ _ => (θ_run _ _ _).mono) (Cert.Reference29Ideal.Value.run (F := Ideal) m' ρ') fun c => ?_⟩
  rw [hargs c]
  funext i
  pointwise [total]

/-- The reference ends, its argument unchanged and its counters at zero. -/
theorem frame_ref : Cert.quiescent_Reference29Ideal := fun m ρ _ =>
  (θ_run _ _ _).mono (fun r h => ⟨fun c => (h c).2, sem_eq_zero_of_no_sems (by decide) r.2⟩) (Cert.Reference29Ideal.Value.run (F := Ideal) m ρ)

end Cert.Kernel29Ideal.Whole

end
-- ==== Proof.Sum30.lean ====
module

public import proofs.«01_k».proof.Defs
public import proofs.«01_k».proof.Proof.Sums
public import proofs.«01_k».proof.Proof.Gen.Kernel30Ideal.Frame
public import proofs.«01_k».proof.Proof.Gen.Reference30Ideal.Run
public import Idealize.ShloMosaic.Lib.Claim
public import Idealize.ShloMosaic.Lib.Pipeline.ValueKit.Point
public import Idealize.ShloMosaic.Lib.StableHlo.ReadAt

/-! # The sum of the devices' gradients of the small weights and of their losses, packed and unpacked -/

@[expose] public section

set_option maxRecDepth 16384

noncomputable section

namespace Cert.Kernel30Ideal.Whole

open Cert.Kernel30Ideal Cert.Kernel30Ideal.Gen Idealize.ShloMosaic Idealize.SL.Sem Cert.Prod Cert.Sums

/-- The blocks of the one grid point. -/
theorem idx : ∀ t : Fin cfg0.N, win0_0.index t = ![0, 0, 0] ∧ win0_1.index t = ![0, 0] := by decide +kernel

/-- The point's result is the sum of its blocks. -/
theorem block (x : Vec Ideal S8x552x128 .f32) : out0_1 x = total x := by
  funext i
  unfold out0_1
  rw [View.canon_unit_zero (by decide)]
  obtain ⟨p, q, rfl⟩ := eq_ix2 (n := 552) (k := 128) i
  pointwise [k0_pay1, total, View.ld, Fin.sum_univ_eight]

variable (m : (ℓ : Loc nD τ sig) → Buf (Elt Ideal) ℓ) (c : Dev nD)

/-- The array after the run is the sum of the argument's blocks. -/
theorem arr : (dats m 0 c).arrAt 1 cfg0.N = total (n := 8) (r := 552) (k := 128) (m (c.tc.loc main_arg0)) := by
  refine (dats m 0 c).arrAt_eq_of_covers 1 _ (by decide +kernel) fun t hf y => ?_
  obtain ⟨h0, h1⟩ := idx t
  obtain ⟨r, q, rfl⟩ := eq_ix2 (n := 552) (k := 128) y
  have e : ((cfg0.win 1).blk t).view.emb (ix2 r q) = ix2 r q := by blk_ext [h1]
  have b (d : Fin 8) : iblk m c 0 t (ix3 d r q) = m (c.tc.loc main_arg0) (ix3 d r q) := by
    have e : iblk m c 0 t (ix3 d r q) = V m c main_arg0 (ix3 d r q) := by blk_ext [iblk, h0]
    rw [e, V_main_arg0]
  rw [e, after0_1, block]
  exact total_tile b

/-- The operations after the call find the sum in its array. -/
theorem found : Pipeline.withArrays spec0 c (V0 m c) (fun w => (dats m 0 c).arrAt w cfg0.N) (Proc.tc.devRef main_v0)
    = total (n := 8) (r := 552) (k := 128) (m (c.tc.loc main_arg0)) :=
  (Pipeline.withArrays_arr spec0 winFacts0.arr_inj c (V0 m c) (fun w => (dats m 0 c).arrAt w cfg0.N) 1).trans (arr m c)

/-- A buffer that the operations after the call write ends at what they leave. -/
theorem tail (r : PUnit × MemSt nD τ sig (Elt Ideal)) (b : Ref sig .tc)
    (h : Pipeline.FramePost cfgs (dats m) 0 (Pipeline.afterTail₀ cfgs (dats m) 0 (V0 m) [hostOps1]) r) (hb : b ∈ Pipeline.restRefs sig spec0) :
    r.2.mem (c.tc.loc b) = Pipeline.afterTail₀ cfgs (dats m) 0 (V0 m) [hostOps1] c b := (h c).2 b hb

/-- The sum is the reference's. -/
theorem total_eq (a : FVec Ideal Cert.Reference30Ideal.S8x552x128 .f32) :
    Host.reduceAdd a (constant Cert.Reference30Ideal.S_ .f32 0x00000000#32) Cert.Reference30Ideal.Gen.reducesTo_S8x552x128_S552x128_d0 Cert.Reference30Ideal.Gen.h_S_
      = total (n := 8) (r := 552) (k := 128) a := by
  funext i
  pointwise [total]

/-- The two end with the same gradients and the same loss. -/
theorem value : Cert.algebraic_Kernel30Ideal_Reference30Ideal := by
  intro m ρ m' ρ' _ hargs
  let v (b : Ref sig .tc) (c : Dev nD) := Pipeline.afterTail₀ cfgs (dats m) 0 (V0 m) [hostOps1] c b
  refine ⟨v main_v3, v main_v5, v main_v7, v main_v9, v main_v11, v main_v13, v main_v15, v main_v17,
    v main_v19, v main_v21, v main_v23, v main_v25, v main_v27, v main_v29, v main_v31,
    (θ_run _ _ _).mono (fun r h c => ?_) (θ_run_and (run_main m ρ) (unchanged m ρ)),
    (θ_run _ _ _).mono (fun r h c => ?_) (Cert.Reference30Ideal.Value.run (F := Ideal) m' ρ')⟩
  · have t (b : Ref sig .tc) := tail m c r b h.1
    refine ⟨t _ ?_, t _ ?_, t _ ?_, t _ ?_, t _ ?_, t _ ?_, t _ ?_, t _ ?_, t _ ?_, t _ ?_, t _ ?_, t _ ?_, t _ ?_, t _ ?_, t _ ?_, h.2 c⟩ <;>
      exact Pipeline.mem_restRefs_of _ (by decide) (by decide)
  · obtain ⟨h0, h1, h2, h3, h4, h5, h6, h7, h8, h9, h10, h11, h12, h13, h14, hk⟩ := h c
    refine ⟨h0.trans ?_, h1.trans ?_, h2.trans ?_, h3.trans ?_, h4.trans ?_, h5.trans ?_, h6.trans ?_, h7.trans ?_, h8.trans ?_,
      h9.trans ?_, h10.trans ?_, h11.trans ?_, h12.trans ?_, h13.trans ?_, h14.trans ?_, hk⟩ <;>
    · rw [hargs c]
      dsimp only [v]; unfold Pipeline.afterTail₀
      simp only [List.flatten_cons, List.flatten_nil, List.append_nil]
      after_results_simp
      rw [found m c, total_eq]
      rfl

/-- The reference ends, its argument unchanged and its counters at zero. -/
theorem frame_ref : Cert.quiescent_Reference30Ideal := fun m ρ _ =>
  (θ_run _ _ _).mono (fun r h => ⟨fun c => (h c).2.2.2.2.2.2.2.2.2.2.2.2.2.2.2, sem_eq_zero_of_no_sems (by decide) r.2⟩) (Cert.Reference30Ideal.Value.run (F := Ideal) m ρ)

end Cert.Kernel30Ideal.Whole

end
-- ==== Proof.PreFwd.lean ====
module

public import proofs.«01_k».proof.Defs
public import proofs.«01_k».proof.Proof.Norm
public import proofs.«01_k».proof.Proof.Gen.Kernel31Ideal.Value
public import proofs.«01_k».proof.Proof.Gen.Reference31Ideal.Run
public import Idealize.ShloMosaic.Lib.Claim
public import Idealize.ShloMosaic.Lib.Pipeline.ValueKit.Point
public import Idealize.ShloMosaic.Lib.StableHlo.ReadAt

/-! # The mixers' first norm -/

@[expose] public section

set_option maxRecDepth 16384

noncomputable section

namespace Cert.Kernel31Ideal.Whole

open Cert.Kernel31Ideal Cert.Kernel31Ideal.Gen Idealize.ShloMosaic Idealize.SL.Sem Cert.Prod Cert.Norm

theorem hz2 : (![0, 0] : Fin 2 → ℕ) = fun _ => 0 := funext fun a => by fin_cases a <;> rfl

theorem hz3 : (![0, 0, 0] : Fin 3 → ℕ) = fun _ => 0 := funext fun a => by fin_cases a <;> rfl

/-- A block's norms, entry by entry. -/
theorem pay (x : Vec Ideal S512x2048 .f32) (w : Vec Ideal S1x1x2048 .f32) (p : Fin 512) (q : Fin 2048) :
    k0_pay1 x w (ix2 p q) = rms (row x p) (fun k => w (ix3 0 0 k)) q := by
  pointwise [k0_pay1]
  rfl

/-- What a point leaves. -/
theorem out2 (x : Vec Ideal S512x2048 .f32) (w : Vec Ideal S1x1x2048 .f32) : out0_2 x w = k0_pay1 x w := by
  unfold out0_2
  rw [View.canon_unit_zero hz2]
  simp only [View.ld_unit_zero (S := S512x2048) hz2, View.ld_unit_zero (S := S1x1x2048) hz3]

variable (m : (ℓ : Loc nD τ sig) → Buf (Elt Ideal) ℓ) (c : Dev nD)

/-- The arguments. -/
abbrev arg0 : Mat 8192 2048 := m (c.tc.loc main_arg0)
abbrev arg1 : Mat 1 2048 := m (c.tc.loc main_arg1)

/-- The blocks of grid point `t`. -/
theorem idx : ∀ t : Fin cfg0.N, win0_0.index t = ![t.val, 0] ∧ win0_1.index t = ![0, 0, 0] ∧ win0_2.index t = ![t.val, 0] := by
  decide +kernel

/-- There are 16 grid points. -/
theorem lt_N (t : Fin cfg0.N) : t.val < 16 := t.isLt

/-- Row `p` of tile `t`. -/
abbrev at_ (t : Fin cfg0.N) (p : Fin 512) : Fin 8192 := ⟨512 * t.val + p.val, by have := lt_N t; omega⟩

/-- A row of a block is a row of the argument. -/
theorem row0 (t : Fin cfg0.N) (p : Fin 512) : row (n := 512) (k := 2048) (iblk m c 0 t) p = row (arg0 m c) (at_ t p) := by
  obtain ⟨h, -⟩ := idx t
  funext q
  have e : iblk m c 0 t (ix2 p q) = V m c main_arg0 (ix2 (at_ t p) q) := by blk_ext [iblk, h]
  exact e.trans (congrFun (V_main_arg0 m c) _)

theorem wt1 (t : Fin cfg0.N) : (fun k : Fin 2048 => iblk m c 1 t (ix3 0 0 k)) = row (arg1 m c) 0 := by
  obtain ⟨-, h, -⟩ := idx t
  funext q
  have e : iblk m c 1 t (ix3 0 0 q) = V m c main_v0 (ix3 0 0 q) := by blk_ext [iblk, h]
  refine e.trans ?_
  entry_read
  pointwise
  rfl

/-- The norms, after the run. -/
theorem arr2 : (dats m 0 c).arrAt 2 cfg0.N = fun i => rms (row (arg0 m c) (i 0)) (row (arg1 m c) 0) (i 1) := by
  refine (dats m 0 c).arrAt_eq_of_covers 2 _ (by decide +kernel) fun t hf y => ?_
  obtain ⟨-, -, h⟩ := idx t
  obtain ⟨p, q, rfl⟩ := eq_ix2 (n := 512) (k := 2048) y
  have e : ((cfg0.win 2).blk t).view.emb (ix2 p q) = ix2 (at_ t p) q := by blk_ext [h]
  rw [e, after0_2, out2]
  exact (pay _ _ p q).trans (congrArg₂ (fun u v : Row => rms u v q) (row0 m c t p) (wt1 m c t))

/-- The two end with the same norms. -/
theorem value : Cert.algebraic_Kernel31Ideal_Reference31Ideal := by
  intro m ρ m' ρ' _ hargs
  refine ⟨_, (θ_run _ _ _).mono (fun _ h c => ⟨(h c).1.trans (arr2 m c), (h c).2⟩) (Cert.Kernel31Ideal.Value.run_blocks m ρ),
    (θ_run _ _ _).mono (fun _ h c => ⟨(h c).1.trans ?_, (h c).2⟩) (Cert.Reference31Ideal.Value.run (F := Ideal) m' ρ')⟩
  obtain ⟨e0, e1⟩ := hargs c
  rw [e0, e1]
  funext i
  obtain ⟨p, q, rfl⟩ := eq_ix2 (n := 8192) (k := 2048) i
  pointwise
  rfl

/-- The reference ends, its arguments unchanged and its counters at zero. -/
theorem frame_ref : Cert.quiescent_Reference31Ideal := fun m ρ _ =>
  (θ_run _ _ _).mono (fun r h => ⟨fun c => (h c).2, sem_eq_zero_of_no_sems (by decide) r.2⟩) (Cert.Reference31Ideal.Value.run (F := Ideal) m ρ)

end Cert.Kernel31Ideal.Whole

end
-- ==== Proof.MixFwd.lean ====
module

public import proofs.«01_k».proof.Defs
public import proofs.«01_k».proof.Proof.Norm
public import proofs.«01_k».proof.Proof.Gen.Kernel32Ideal.Value
public import proofs.«01_k».proof.Proof.Gen.Reference32Ideal.Run
public import Idealize.ShloMosaic.Lib.Claim
public import Idealize.ShloMosaic.Lib.Pipeline.ValueKit.Point
public import Idealize.ShloMosaic.Lib.StableHlo.ReadAt

/-! # The gates that merge the two branches -/

@[expose] public section

set_option maxRecDepth 16384

noncomputable section

namespace Cert.Kernel32Ideal.Whole

open Cert.Kernel32Ideal Cert.Kernel32Ideal.Gen Idealize.ShloMosaic Idealize.SL.Sem Cert.Prod Cert.Norm

theorem hz2 : (![0, 0] : Fin 2 → ℕ) = fun _ => 0 := funext fun a => by fin_cases a <;> rfl

/-- A row of gates. -/
abbrev Gates : Type := Fin 4096 → EReal

/-- A row of the merged branches. -/
def merged (g : Gates) (a b : Row) : Row := fun q =>
  Ideal.logistic (g ⟨q.val, by omega⟩) * a q + Ideal.logistic (g ⟨2048 + q.val, by omega⟩) * b q

/-- A block's entries. -/
theorem pay (x : Vec Ideal S256x4096 .f32) (a b : Vec Ideal S256x2048 .f32) (p : Fin 256) (q : Fin 2048) :
    k0_pay1 x a b (ix2 p q) = merged (row x p) (row a p) (row b p) q := by
  pointwise [k0_pay1]
  rfl

/-- What a point leaves. -/
theorem out3 (x : Vec Ideal S256x4096 .f32) (a b : Vec Ideal S256x2048 .f32) : out0_3 x a b = k0_pay1 x a b := by
  unfold out0_3
  rw [View.canon_unit_zero hz2]
  simp only [View.ld_unit_zero (S := S256x4096) hz2, View.ld_unit_zero (S := S256x2048) hz2]

variable (m : (ℓ : Loc nD τ sig) → Buf (Elt Ideal) ℓ) (c : Dev nD)

/-- The arguments. -/
abbrev arg0 : Mat 8192 4096 := m (c.tc.loc main_arg0)
abbrev arg1 : Mat 8192 2048 := m (c.tc.loc main_arg1)
abbrev arg2 : Mat 8192 2048 := m (c.tc.loc main_arg2)

/-- The blocks of grid point `t`. -/
theorem idx : ∀ t : Fin cfg0.N, win0_0.index t = ![t.val, 0] ∧ win0_1.index t = ![t.val, 0] ∧ win0_2.index t = ![t.val, 0]
    ∧ win0_3.index t = ![t.val, 0] := by decide +kernel

/-- There are 32 grid points. -/
theorem lt_N (t : Fin cfg0.N) : t.val < 32 := t.isLt

/-- Row `p` of tile `t`. -/
abbrev at_ (t : Fin cfg0.N) (p : Fin 256) : Fin 8192 := ⟨256 * t.val + p.val, by have := lt_N t; omega⟩

/-- A row of a block is a row of the argument. -/
theorem row0 (t : Fin cfg0.N) (p : Fin 256) : row (n := 256) (k := 4096) (iblk m c 0 t) p = row (arg0 m c) (at_ t p) := by
  obtain ⟨h, -⟩ := idx t
  funext q
  have e : iblk m c 0 t (ix2 p q) = V m c main_arg0 (ix2 (at_ t p) q) := by blk_ext [iblk, h]
  exact e.trans (congrFun (V_main_arg0 m c) _)

theorem row1 (t : Fin cfg0.N) (p : Fin 256) : row (n := 256) (k := 2048) (iblk m c 1 t) p = row (arg1 m c) (at_ t p) := by
  obtain ⟨-, h, -⟩ := idx t
  funext q
  have e : iblk m c 1 t (ix2 p q) = V m c main_arg1 (ix2 (at_ t p) q) := by blk_ext [iblk, h]
  exact e.trans (congrFun (V_main_arg1 m c) _)

theorem row2 (t : Fin cfg0.N) (p : Fin 256) : row (n := 256) (k := 2048) (iblk m c 2 t) p = row (arg2 m c) (at_ t p) := by
  obtain ⟨-, -, h, -⟩ := idx t
  funext q
  have e : iblk m c 2 t (ix2 p q) = V m c main_arg2 (ix2 (at_ t p) q) := by blk_ext [iblk, h]
  exact e.trans (congrFun (V_main_arg2 m c) _)

/-- The merged branches, after the run. -/
theorem arr3 : (dats m 0 c).arrAt 3 cfg0.N
    = fun i => merged (row (arg0 m c) (i 0)) (row (arg1 m c) (i 0)) (row (arg2 m c) (i 0)) (i 1) := by
  refine (dats m 0 c).arrAt_eq_of_covers 3 _ (by decide +kernel) fun t hf y => ?_
  obtain ⟨-, -, -, h⟩ := idx t
  obtain ⟨p, q, rfl⟩ := eq_ix2 (n := 256) (k := 2048) y
  have e : ((cfg0.win 3).blk t).view.emb (ix2 p q) = ix2 (at_ t p) q := by blk_ext [h]
  rw [e, after0_3, out3]
  refine (pay _ _ _ p q).trans ?_
  rw [row0, row1, row2]
  rfl

/-- The two end with the same merged branches. -/
theorem value : Cert.algebraic_Kernel32Ideal_Reference32Ideal := by
  intro m ρ m' ρ' _ hargs
  refine ⟨_, (θ_run _ _ _).mono (fun _ h c => ⟨(h c).1.trans (arr3 m c), (h c).2⟩) (Cert.Kernel32Ideal.Value.run_blocks m ρ),
    (θ_run _ _ _).mono (fun _ h c => ⟨(h c).1.trans ?_, (h c).2⟩) (Cert.Reference32Ideal.Value.run (F := Ideal) m' ρ')⟩
  obtain ⟨e0, e1, e2⟩ := hargs c
  rw [e0, e1, e2]
  funext i
  obtain ⟨p, q, rfl⟩ := eq_ix2 (n := 8192) (k := 2048) i
  pointwise
  rfl

/-- The reference ends, its arguments unchanged and its counters at zero. -/
theorem frame_ref : Cert.quiescent_Reference32Ideal := fun m ρ _ =>
  (θ_run _ _ _).mono (fun r h => ⟨fun c => (h c).2, sem_eq_zero_of_no_sems (by decide) r.2⟩) (Cert.Reference32Ideal.Value.run (F := Ideal) m ρ)

end Cert.Kernel32Ideal.Whole

end
-- ==== Proof.PostFwd.lean ====
module

public import proofs.«01_k».proof.Defs
public import proofs.«01_k».proof.Proof.Norm
public import proofs.«01_k».proof.Proof.Gen.Kernel33Ideal.Value
public import proofs.«01_k».proof.Proof.Gen.Reference33Ideal.Run
public import Idealize.ShloMosaic.Lib.Claim
public import Idealize.ShloMosaic.Lib.Pipeline.ValueKit.Point
public import Idealize.ShloMosaic.Lib.StableHlo.ReadAt

/-! # The mixers' second norm, the residual and ConvFFN's first norm -/

@[expose] public section

set_option maxRecDepth 16384

noncomputable section

namespace Cert.Kernel33Ideal.Whole

open Cert.Kernel33Ideal Cert.Kernel33Ideal.Gen Idealize.ShloMosaic Idealize.SL.Sem Cert.Prod Cert.Norm

theorem hz2 : (![0, 0] : Fin 2 → ℕ) = fun _ => 0 := funext fun a => by fin_cases a <;> rfl

theorem hz3 : (![0, 0, 0] : Fin 3 → ℕ) = fun _ => 0 := funext fun a => by fin_cases a <;> rfl

/-- A row after the residual. -/
def onto (x v w : Row) : Row := fun q => x q + rms v w q

/-- A block's two results, entry by entry. -/
theorem pay_y (x v : Vec Ideal S256x2048 .f32) (w : Vec Ideal S1x1x2048 .f32) (p : Fin 256) (q : Fin 2048) :
    k0_pay1 x v w (ix2 p q) = onto (row x p) (row v p) (fun k => w (ix3 0 0 k)) q := by
  pointwise [k0_pay1]
  rfl

theorem pay_h (x v : Vec Ideal S256x2048 .f32) (w u : Vec Ideal S1x1x2048 .f32) (p : Fin 256) (q : Fin 2048) :
    k0_pay2 x v w u (ix2 p q) = rms (onto (row x p) (row v p) fun k => w (ix3 0 0 k)) (fun k => u (ix3 0 0 k)) q := by
  pointwise [k0_pay2]
  simp only [pay_y]
  rfl

/-- What a point leaves. -/
theorem out4 (x v : Vec Ideal S256x2048 .f32) (w u : Vec Ideal S1x1x2048 .f32) : out0_4 x v w u = k0_pay1 x v w := by
  unfold out0_4
  rw [View.canon_unit_zero hz2]
  simp only [View.ld_unit_zero (S := S256x2048) hz2, View.ld_unit_zero (S := S1x1x2048) hz3]

theorem out5 (x v : Vec Ideal S256x2048 .f32) (w u : Vec Ideal S1x1x2048 .f32) : out0_5 x v w u = k0_pay2 x v w u := by
  unfold out0_5
  rw [View.canon_unit_zero hz2]
  simp only [View.ld_unit_zero (S := S256x2048) hz2, View.ld_unit_zero (S := S1x1x2048) hz3]

variable (m : (ℓ : Loc nD τ sig) → Buf (Elt Ideal) ℓ) (c : Dev nD)

/-- The arguments. -/
abbrev arg0 : Mat 8192 2048 := m (c.tc.loc main_arg0)
abbrev arg1 : Mat 8192 2048 := m (c.tc.loc main_arg1)
abbrev arg2 : Mat 1 2048 := m (c.tc.loc main_arg2)
abbrev arg3 : Mat 1 2048 := m (c.tc.loc main_arg3)

/-- The blocks of grid point `t`. -/
theorem idx : ∀ t : Fin cfg0.N, win0_0.index t = ![t.val, 0] ∧ win0_1.index t = ![t.val, 0] ∧ win0_2.index t = ![0, 0, 0]
    ∧ win0_3.index t = ![0, 0, 0] ∧ win0_4.index t = ![t.val, 0] ∧ win0_5.index t = ![t.val, 0] := by decide +kernel

/-- There are 32 grid points. -/
theorem lt_N (t : Fin cfg0.N) : t.val < 32 := t.isLt

/-- Row `p` of tile `t`. -/
abbrev at_ (t : Fin cfg0.N) (p : Fin 256) : Fin 8192 := ⟨256 * t.val + p.val, by have := lt_N t; omega⟩

/-- A row of a block is a row of the argument. -/
theorem row0 (t : Fin cfg0.N) (p : Fin 256) : row (n := 256) (k := 2048) (iblk m c 0 t) p = row (arg0 m c) (at_ t p) := by
  obtain ⟨h, -⟩ := idx t
  funext q
  have e : iblk m c 0 t (ix2 p q) = V m c main_arg0 (ix2 (at_ t p) q) := by blk_ext [iblk, h]
  exact e.trans (congrFun (V_main_arg0 m c) _)

theorem row1 (t : Fin cfg0.N) (p : Fin 256) : row (n := 256) (k := 2048) (iblk m c 1 t) p = row (arg1 m c) (at_ t p) := by
  obtain ⟨-, h, -⟩ := idx t
  funext q
  have e : iblk m c 1 t (ix2 p q) = V m c main_arg1 (ix2 (at_ t p) q) := by blk_ext [iblk, h]
  exact e.trans (congrFun (V_main_arg1 m c) _)

theorem wt2 (t : Fin cfg0.N) : (fun k : Fin 2048 => iblk m c 2 t (ix3 0 0 k)) = row (arg2 m c) 0 := by
  obtain ⟨-, -, h, -⟩ := idx t
  funext q
  have e : iblk m c 2 t (ix3 0 0 q) = V m c main_v0 (ix3 0 0 q) := by blk_ext [iblk, h]
  refine e.trans ?_
  entry_read
  pointwise
  rfl

theorem wt3 (t : Fin cfg0.N) : (fun k : Fin 2048 => iblk m c 3 t (ix3 0 0 k)) = row (arg3 m c) 0 := by
  obtain ⟨-, -, -, h, -⟩ := idx t
  funext q
  have e : iblk m c 3 t (ix3 0 0 q) = V m c main_v1 (ix3 0 0 q) := by blk_ext [iblk, h]
  refine e.trans ?_
  entry_read
  pointwise
  rfl

/-- A row after the residual. -/
def mid (p : Fin 8192) : Row := onto (row (arg0 m c) p) (row (arg1 m c) p) (row (arg2 m c) 0)

theorem onto_eq (t : Fin cfg0.N) (p : Fin 256) : onto (row (n := 256) (k := 2048) (iblk m c 0 t) p)
    (row (n := 256) (k := 2048) (iblk m c 1 t) p) (fun k => iblk m c 2 t (ix3 0 0 k)) = mid m c (at_ t p) := by
  rw [row0, row1, wt2]
  rfl

/-- The two results, after the run. -/
theorem arr4 : (dats m 0 c).arrAt 4 cfg0.N = fun i => mid m c (i 0) (i 1) := by
  refine (dats m 0 c).arrAt_eq_of_covers 4 _ (by decide +kernel) fun t hf y => ?_
  obtain ⟨-, -, -, -, h, -⟩ := idx t
  obtain ⟨p, q, rfl⟩ := eq_ix2 (n := 256) (k := 2048) y
  have e : ((cfg0.win 4).blk t).view.emb (ix2 p q) = ix2 (at_ t p) q := by blk_ext [h]
  rw [e, after0_4, out4]
  exact (pay_y _ _ _ p q).trans (congrFun (onto_eq m c t p) q)

theorem arr5 : (dats m 0 c).arrAt 5 cfg0.N = fun i => rms (mid m c (i 0)) (row (arg3 m c) 0) (i 1) := by
  refine (dats m 0 c).arrAt_eq_of_covers 5 _ (by decide +kernel) fun t hf y => ?_
  obtain ⟨-, -, -, -, -, h⟩ := idx t
  obtain ⟨p, q, rfl⟩ := eq_ix2 (n := 256) (k := 2048) y
  have e : ((cfg0.win 5).blk t).view.emb (ix2 p q) = ix2 (at_ t p) q := by blk_ext [h]
  rw [e, after0_5, out5]
  exact (pay_h _ _ _ _ p q).trans (congrArg₂ (fun u v : Row => rms u v q) (onto_eq m c t p) (wt3 m c t))

/-- The two end with the same results. -/
theorem value : Cert.algebraic_Kernel33Ideal_Reference33Ideal := by
  intro m ρ m' ρ' _ hargs
  refine ⟨_, _, (θ_run _ _ _).mono (fun _ h c => ⟨(h c).1.trans (arr4 m c), (h c).2.1.trans (arr5 m c), (h c).2.2⟩)
      (Cert.Kernel33Ideal.Value.run_blocks m ρ),
    (θ_run _ _ _).mono (fun _ h c => ⟨(h c).1.trans ?_, (h c).2.1.trans ?_, (h c).2.2⟩)
      (Cert.Reference33Ideal.Value.run (F := Ideal) m' ρ')⟩
  · obtain ⟨e0, e1, e2, e3⟩ := hargs c
    rw [e0, e1, e2]
    funext i
    obtain ⟨p, q, rfl⟩ := eq_ix2 (n := 8192) (k := 2048) i
    pointwise
    rfl
  · obtain ⟨e0, e1, e2, e3⟩ := hargs c
    rw [e0, e1, e2, e3]
    funext i
    obtain ⟨p, q, rfl⟩ := eq_ix2 (n := 8192) (k := 2048) i
    pointwise
    rfl

/-- The reference ends, its arguments unchanged and its counters at zero. -/
theorem frame_ref : Cert.quiescent_Reference33Ideal := fun m ρ _ =>
  (θ_run _ _ _).mono (fun r h => ⟨fun c => (h c).2.2, sem_eq_zero_of_no_sems (by decide) r.2⟩) (Cert.Reference33Ideal.Value.run (F := Ideal) m ρ)

end Cert.Kernel33Ideal.Whole

end
-- ==== Proof.FwdBody.lean ====
module

public import proofs.«01_k».proof.Proof.Gen.Kernel34Ideal.Frame.Runs
public import Idealize.ShloMosaic.Lib.VecWindow
public import Idealize.ShloMosaic.Lib.WholeRead

/-! # The forward body at a grid point, by values

The body of `cc0_ffn_fwd` sets the carried rows to zero at the first row block of a group, then takes the two chunks of
256 rows of its block, the earlier one first. This module names what a trip leaves in the output block, in the block of
saved rows and in the carried rows, and proves that the body leaves just that. -/

@[expose] public section

set_option maxRecDepth 16384

noncomputable section

namespace Cert.Kernel34Ideal.Whole

open Cert.Kernel34Ideal Cert.Kernel34Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a chunk writes of the output, from its rows, the rows before it, the weights and the bias. -/
def act (gu : Vec F S256x1024 .f32) (a : Vec F S1x8x512 .f32) (w : Vec F S1x3x512 .f32) (b : Vec F S1x1x512 .f32) :
    Vec F S256x512 .bf16 :=
  k0_pay3 (k0_pay8 gu) (k0_pay9 a gu w b) (k0_pay10 a gu w b) (Scalar.ofBits .f32 0x3F000000#32)

/-- The rows a trip works on. -/
abbrev rowsOf (x0 : Vec F S512x1024 .f32) (k : Fin k0_t1_loop.trips) : Vec F S256x1024 .f32 :=
  VecWindow.window x0 (k0_off1 k) S256x1024.size (k0_off1_inb k)

/-- What a trip finds and leaves: the output block, the saved rows, the carried rows. -/
abbrev St (F : FTy → Type) [FloatOps F] : Type := Vec F S512x512 .bf16 × Vec F S1x2x8x512 .f32 × Vec F S1x8x512 .f32

/-- One trip. -/
def stepAt (x0 : Vec F S512x1024 .f32) (x1 : Vec F S1x3x512 .f32) (x2 : Vec F S1x1x512 .f32) (k : Fin k0_t1_loop.trips) (s : St F) : St F :=
  (VecWindow.put s.1 (k0_off2 k) S256x512.size (act (rowsOf x0 k) s.2.2 x1 x2),
    VecWindow.put s.2.1 (k0_off3 k) S1x1x8x512.size (k0_pay4 (k0_pay5 s.2.2)), k0_pay2 (k0_pay7 (rowsOf x0 k)))

/-- The trips before `n`. -/
def steps (x0 : Vec F S512x1024 .f32) (x1 : Vec F S1x3x512 .f32) (x2 : Vec F S1x1x512 .f32) (s : St F) : ℕ → St F
  | 0 => s
  | n + 1 => if h : n < k0_t1_loop.trips then stepAt x0 x1 x2 ⟨n, h⟩ (steps x0 x1 x2 s n) else steps x0 x1 x2 s n

/-- The recursion at a trip of the loop. -/
theorem steps_succ (x0 : Vec F S512x1024 .f32) (x1 : Vec F S1x3x512 .f32) (x2 : Vec F S1x1x512 .f32) (s : St F) (k : Fin k0_t1_loop.trips) :
    steps x0 x1 x2 s (k.val + 1) = stepAt x0 x1 x2 k (steps x0 x1 x2 s k.val) := by
  rw [steps, dif_pos k.isLt]

/-- What a grid point leaves, from the carried rows it starts with. -/
def pointSt (x0 : Vec F S512x1024 .f32) (x1 : Vec F S1x3x512 .f32) (x2 : Vec F S1x1x512 .f32) (a : Vec F S1x8x512 .f32) : St F :=
  steps x0 x1 x2 (fun _ => Scalar.ofBits .bf16 0x0000#16, fun _ => Scalar.ofBits .f32 0x00000000#32, a) 2

/-- The loop has two trips. -/
theorem trips_eq : k0_t1_loop.trips = 2 := by decide +kernel

/-- The two trips one after the other. -/
theorem steps_two (x0 : Vec F S512x1024 .f32) (x1 : Vec F S1x3x512 .f32) (x2 : Vec F S1x1x512 .f32) (s : St F) :
    steps x0 x1 x2 s 2 = stepAt x0 x1 x2 ⟨1, by rw [trips_eq]; omega⟩ (stepAt x0 x1 x2 ⟨0, by rw [trips_eq]; omega⟩ s) := by
  rw [steps, dif_pos (by rw [trips_eq]; omega), steps, dif_pos (by rw [trips_eq]; omega), steps]

/-- Where two windows cover everything, what was there before does not matter. -/
theorem put_put {s : Shape} {e : EltTy} (y y' : Vec F s e) (o o' size : Fin s.rank → ℕ)
    (w w' : ((a : Fin s.rank) → Fin (size a)) → Elt F e)
    (h : ∀ j : s.Idx, (∀ a, o' a ≤ (j a).val ∧ (j a).val < o' a + size a) ∨ ∀ a, o a ≤ (j a).val ∧ (j a).val < o a + size a) :
    VecWindow.put (VecWindow.put y o size w) o' size w' = VecWindow.put (VecWindow.put y' o size w) o' size w' := by
  funext j
  unfold VecWindow.put
  by_cases h' : ∀ a, o' a ≤ (j a).val ∧ (j a).val < o' a + size a
  · rw [dif_pos h', dif_pos h']
  · have h0 := (h j).resolve_left h'
    rw [dif_neg h', dif_neg h', dif_pos h0, dif_pos h0]

/-- The two trips write the whole output block. -/
theorem cover_out (h0 : 0 < k0_t1_loop.trips) (h1 : 1 < k0_t1_loop.trips) (j : S512x512.Idx) :
    (∀ a, k0_off2 ⟨1, h1⟩ a ≤ (j a).val ∧ (j a).val < k0_off2 ⟨1, h1⟩ a + S256x512.size a)
      ∨ ∀ a, k0_off2 ⟨0, h0⟩ a ≤ (j a).val ∧ (j a).val < k0_off2 ⟨0, h0⟩ a + S256x512.size a := by
  rw [k0_off2_eq, k0_off2_eq]
  have e0 : (j 0).val < 512 := (j 0).isLt
  have e1 : (j 1).val < 512 := (j 1).isLt
  by_cases hj : (j 0).val < 256
  · refine Or.inr (Fin.forall_fin_two.2 ⟨⟨?_, ?_⟩, ?_, ?_⟩)
    · exact Nat.zero_le _
    · show (j 0).val < 256 * 0 + 256
      omega
    · exact Nat.zero_le _
    · show (j 1).val < 0 + 512
      omega
  · refine Or.inl (Fin.forall_fin_two.2 ⟨⟨?_, ?_⟩, ?_, ?_⟩)
    · show 256 * 1 ≤ (j 0).val
      omega
    · show (j 0).val < 256 * 1 + 256
      omega
    · exact Nat.zero_le _
    · show (j 1).val < 0 + 512
      omega

/-- They write all the saved rows. -/
theorem cover_saved (h0 : 0 < k0_t1_loop.trips) (h1 : 1 < k0_t1_loop.trips) (j : S1x2x8x512.Idx) :
    (∀ a, k0_off3 ⟨1, h1⟩ a ≤ (j a).val ∧ (j a).val < k0_off3 ⟨1, h1⟩ a + S1x1x8x512.size a)
      ∨ ∀ a, k0_off3 ⟨0, h0⟩ a ≤ (j a).val ∧ (j a).val < k0_off3 ⟨0, h0⟩ a + S1x1x8x512.size a := by
  rw [k0_off3_eq, k0_off3_eq]
  have e0 : (j 0).val < 1 := (j 0).isLt
  have e1 : (j 1).val < 2 := (j 1).isLt
  have e2 : (j 2).val < 8 := (j 2).isLt
  have e3 : (j 3).val < 512 := (j 3).isLt
  by_cases hj : (j 1).val < 1
  · refine Or.inr (Fin.forall_fin_succ.2 ⟨⟨Nat.zero_le _, ?_⟩, Fin.forall_fin_succ.2 ⟨⟨Nat.zero_le _, ?_⟩,
      Fin.forall_fin_succ.2 ⟨⟨Nat.zero_le _, ?_⟩, Fin.forall_fin_succ.2 ⟨⟨Nat.zero_le _, ?_⟩, fun a => a.elim0⟩⟩⟩⟩)
    · show (j 0).val < 0 + 1
      omega
    · show (j 1).val < 0 + 1
      omega
    · show (j 2).val < 0 + 8
      omega
    · show (j 3).val < 0 + 512
      omega
  · refine Or.inl (Fin.forall_fin_succ.2 ⟨⟨Nat.zero_le _, ?_⟩, Fin.forall_fin_succ.2 ⟨⟨?_, ?_⟩,
      Fin.forall_fin_succ.2 ⟨⟨Nat.zero_le _, ?_⟩, Fin.forall_fin_succ.2 ⟨⟨Nat.zero_le _, ?_⟩, fun a => a.elim0⟩⟩⟩⟩)
    · show (j 0).val < 0 + 1
      omega
    · show 1 ≤ (j 1).val
      omega
    · show (j 1).val < 1 + 1
      omega
    · show (j 2).val < 0 + 8
      omega
    · show (j 3).val < 0 + 512
      omega

/-- What the two blocks held does not matter to what a grid point leaves. -/
theorem steps_irrel (x0 : Vec F S512x1024 .f32) (x1 : Vec F S1x3x512 .f32) (x2 : Vec F S1x1x512 .f32) (y : Vec F S512x512 .bf16)
    (z : Vec F S1x2x8x512 .f32) (a : Vec F S1x8x512 .f32) : steps x0 x1 x2 (y, z, a) 2 = pointSt x0 x1 x2 a := by
  unfold pointSt
  rw [steps_two, steps_two]
  exact Prod.ext (put_put _ _ _ _ _ _ _ (cover_out _ _)) (Prod.ext (put_put _ _ _ _ _ _ _ (cover_saved _ _)) rfl)

section Body

variable (c : Dev nD) (i : grid0.Coords) (arg2 : Memref sig .tc .vmem S512x1024 .f32) (harg2 : arg2.IsWhole)
  (arg3 : Memref sig .tc .vmem S1x3x512 .f32) (harg3 : arg3.IsWhole) (arg4 : Memref sig .tc .vmem S1x1x512 .f32)
  (harg4 : arg4.IsWhole) (arg5 : Memref sig .tc .vmem S512x512 .bf16) (harg5 : arg5.IsWhole)
  (arg6 : Memref sig .tc .vmem S1x2x8x512 .f32) (harg6 : arg6.IsWhole) (arg7 : Memref sig .tc .vmem S1x8x512 .f32)
  (harg7 : arg7.IsWhole)

/-- Core `c` holds the six memrefs of the body, the inputs at `x0`, `x1`, `x2`, what the body writes at `s`. -/
abbrev Held (x0 : Vec F S512x1024 .f32) (x1 : Vec F S1x3x512 .f32) (x2 : Vec F S1x1x512 .f32) (s : St F) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare s.1
    ∗ owns (c : Thread nD τ) arg6 fullShare s.2.1 ∗ owns (c : Thread nD τ) arg7 fullShare s.2.2)

/-- A load of a window of a whole memref that reads `x` is that window of `x`. -/
theorem readAt_window {s : Shape} {e : EltTy} {m : Memref sig .tc .vmem s e} (h : m.IsWhole) (x : s.Idx → Elt F e)
    (off size : Fin s.rank → ℕ) (inb : ∀ a, off a + size a ≤ s.size a) :
    View.readAt (Elt F) m.view (Rect.unit off size inb).toLoadRect (h.unread x) = VecWindow.window x off size inb :=
  funext fun y => h.readAt_unread x _ y

/-- A load of all of a whole memref that reads `x` is `x`. -/
theorem readAt_all {s : Shape} {e : EltTy} {m : Memref sig .tc .vmem s e} (h : m.IsWhole) (x : s.Idx → Elt F e)
    {off : Fin s.rank → ℕ} (inb : ∀ a, off a + s.size a ≤ s.size a) :
    View.readAt (Elt F) m.view (Rect.unit off s.size inb).toLoadRect (h.unread x) = x :=
  (View.readAt_full m.view _ inb).trans (h.read_unread x)

set_option maxHeartbeats 1000000 in
/-- The pieces a trip writes. -/
theorem trip_pieces (x0 : Vec F S512x1024 .f32) (x1 : Vec F S1x3x512 .f32) (x2 : Vec F S1x1x512 .f32) (s : St F) (k : Fin k0_t1_loop.trips) :
    tripL_k0_t1 (F := F) Variants.none c none i arg2 harg2 arg3 harg3 arg4 harg4 arg5 harg5 arg6 harg6 arg7 harg7
        (harg2.unread x0) (harg3.unread x1) (harg4.unread x2) k (harg5.unread s.1) (harg6.unread s.2.1) (harg7.unread s.2.2)
      = ([⟨Rect.unit (k0_off2 k) S256x512.size (k0_off2_inb k), act (rowsOf x0 k) s.2.2 x1 x2⟩],
        [⟨Rect.unit (k0_off3 k) S1x1x8x512.size (k0_off3_inb k), k0_pay4 (k0_pay5 s.2.2)⟩],
        [⟨Rect.unit ![0, 0, 0] S1x8x512.size inb_S1x8x512_S1x8x512_0_0_0, k0_pay2 (k0_pay7 (rowsOf x0 k))⟩]) := by
  have e0 := readAt_window harg2 x0 (k0_off1 k) S256x1024.size (k0_off1_inb k)
  have e1 := readAt_all harg3 x1 inb_S1x3x512_S1x3x512_0_0_0
  have e2 := readAt_all harg4 x2 inb_S1x1x512_S1x1x512_0_0_0
  have e7 := readAt_all harg7 s.2.2 inb_S1x8x512_S1x8x512_0_0_0
  unfold tripL_k0_t1 trip_k0_t1 act rowsOf
  dsimp only
  dsimp only [trip_k0_t1.sl.r, trip_k0_t1.sl.r_1, trip_k0_t1.sl.r_2, trip_k0_t1.sl.r_3, trip_k0_t1.sl.r_4, trip_k0_t1.sl.cst_16]
  simp only [e0, e1, e2, e7]

set_option maxHeartbeats 2000000 in
/-- ONE TRIP: from the memrefs at `s` to the memrefs at the step of `s`. -/
theorem trip_step (x0 : Vec F S512x1024 .f32) (x1 : Vec F S1x3x512 .f32) (x2 : Vec F S1x1x512 .f32) (s : St F) (k : Fin k0_t1_loop.trips) (E : Set ℕ) :
    Held c arg2 arg3 arg4 arg5 arg6 arg7 x0 x1 x2 s
      ⊢ wp frame (wpE (defs₀ (F := F)) Variants.none (c : Thread nD τ) none) E
          (k0_t1_body (F := F) i arg2 harg2 arg3 harg3 arg4 harg4 arg5 harg5 arg6 harg6 arg7 harg7 k PUnit.unit)
          (fun _ => Held c arg2 arg3 arg4 arg5 arg6 arg7 x0 x1 x2 (stepAt x0 x1 x2 k s)) := by
  have hp := trip_pieces c i arg2 harg2 arg3 harg3 arg4 harg4 arg5 harg5 arg6 harg6 arg7 harg7 x0 x1 x2 s k
  have ht := (trip_k0_t1 (F := F) Variants.none c none i arg2 harg2 arg3 harg3 arg4 harg4 arg5 harg5 arg6 harg6 arg7 harg7
    (harg2.unread x0) (harg3.unread x1) (harg4.unread x2) k).2.2.2 E (harg5.unread s.1) (harg6.unread s.2.1) (harg7.unread s.2.2)
  unfold tripL_k0_t1 at hp
  rw [Prod.mk.injEq, Prod.mk.injEq] at hp
  obtain ⟨h5, h6, h7⟩ := hp
  rw [h5, h6, h7] at ht
  refine BIBase.Entails.trans ?_ (ht.trans (wp_mono _ _ _ fun _ => ?_))
  · unfold Held Trip_k0_t1 owns
    iintro ⟨⟨%f0, %hf0, H0⟩, ⟨%f1, %hf1, H1⟩, ⟨%f2, %hf2, H2⟩, ⟨%f3, %hf3, H3⟩, ⟨%f4, %hf4, H4⟩, ⟨%f5, %hf5, H5⟩⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    isplitl [H0]; · iexact H0
    isplitl [H1]; · iexact H1
    isplitl [H2]; · iexact H2
    isplitl [H3]; · iexact H3
    isplitl [H4]; · iexact H4
    iexact H5
  · unfold Held Trip_k0_t1 owns
    iintro ⟨H0, H1, H2, H3, H4, H5⟩
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]
    · iexists _; isplitr
      swap; · iexact H3
      ipureintro
      refine (View.read_writes_cons_put arg5.view _ _ _ [] rfl).trans ?_
      rw [View.writes_nil, harg5.read_unread]; rfl
    isplitl [H4]
    · iexists _; isplitr
      swap; · iexact H4
      ipureintro
      refine (View.read_writes_cons_put arg6.view _ _ _ [] rfl).trans ?_
      rw [View.writes_nil, harg6.read_unread]; rfl
    iexists _; isplitr
    swap; · iexact H5
    ipureintro; exact View.read_writes_full arg7.view _ inb_S1x8x512_S1x8x512_0_0_0 _ []

/-- The store at a group's start. -/
def resets : Prog (TpuEff nD τ sig (Elt F) Λ₀ .tc) PUnit := do
  let _ : Vec F S1x8x512 .f32 ← Prog.lift (.load arg7 (Rect.unit (s := S1x8x512) ![0, 0, 0] S1x8x512.size inb_S1x8x512_S1x8x512_0_0_0).toLoadRect (View.loadsAt_vmem h_S1x8x512))
  Prog.lift (.store arg7 (Rect.unit (s := S1x8x512) ![0, 0, 0] S1x8x512.size inb_S1x8x512_S1x8x512_0_0_0) (k0_pay1 (F := F)) Finset.univ (View.stores_vmem_bits_univ h_S1x8x512 rfl) (.inl rfl))
  pure ⟨⟩

/-- The two trips. -/
def trips : Prog (TpuEff nD τ sig (Elt F) Λ₀ .tc) PUnit := do
  Scf.Loop.for k0_t1_loop k0_t1_ok ⟨⟩ (k0_t1_body i arg2 harg2 arg3 harg3 arg4 harg4 arg5 harg5 arg6 harg6 arg7 harg7)
  pure ⟨⟩

/-- The body at a group's start. -/
theorem body_eq_A (hc : cond0_0 i) :
    cc0_ffn_fwd (F := F) i arg2 harg2 arg3 harg3 arg4 harg4 arg5 harg5 arg6 harg6 arg7 harg7
      = (resets arg7 >>= fun _ => trips i arg2 harg2 arg3 harg3 arg4 harg4 arg5 harg5 arg6 harg6 arg7 harg7) := by
  rw [cc0_ffn_fwd_eq_skeleton]
  unfold cc0_ffn_fwd_skel
  exact (dif_pos hc).trans rfl

/-- The body elsewhere. -/
theorem body_eq_B (hc : ¬ cond0_0 i) :
    cc0_ffn_fwd (F := F) i arg2 harg2 arg3 harg3 arg4 harg4 arg5 harg5 arg6 harg6 arg7 harg7
      = trips i arg2 harg2 arg3 harg3 arg4 harg4 arg5 harg5 arg6 harg6 arg7 harg7 := by
  rw [cc0_ffn_fwd_eq_skeleton]
  unfold cc0_ffn_fwd_skel
  exact (dif_neg hc).trans rfl

/-- The store leaves zeros. -/
theorem resets_wp (E : Set ℕ) :
    (iprop(∃ d, owns (c : Thread nD τ) arg7 fullShare d) : sProp 𝕄)
      ⊢ wp frame (wpE (defs₀ (F := F)) Variants.none (c : Thread nD τ) none) E (resets (F := F) arg7)
          (fun _ => owns (c : Thread nD τ) arg7 fullShare (k0_pay1 (F := F))) := by
  unfold owns resets
  iintro ⟨%d, %f, -, H⟩
  sl_exec
  sl_step
  iexists _; isplitr
  swap; · iexact H
  ipureintro; exact View.read_writes_full arg7.view _ inb_S1x8x512_S1x8x512_0_0_0 _ []

/-- The two trips, from the two blocks at anything. -/
theorem trips_wp (x0 : Vec F S512x1024 .f32) (x1 : Vec F S1x3x512 .f32) (x2 : Vec F S1x1x512 .f32)
    (y : Vec F S512x512 .bf16) (z : Vec F S1x2x8x512 .f32) (a : Vec F S1x8x512 .f32) (E : Set ℕ) :
    Held c arg2 arg3 arg4 arg5 arg6 arg7 x0 x1 x2 (y, z, a)
      ⊢ wp frame (wpE (defs₀ (F := F)) Variants.none (c : Thread nD τ) none) E
          (trips (F := F) i arg2 harg2 arg3 harg3 arg4 harg4 arg5 harg5 arg6 harg6 arg7 harg7)
          (fun _ => Held c arg2 arg3 arg4 arg5 arg6 arg7 x0 x1 x2 (pointSt x0 x1 x2 a)) := by
  unfold trips
  rw [← steps_irrel x0 x1 x2 y z a]
  have h := Scf.wp_for_bind (M := 𝕄) frame (wpE (defs₀ (F := F)) Variants.none (c : Thread nD τ) none) E k0_t1_loop.lb k0_t1_loop.ub
    k0_t1_loop.st k0_t1_ok () (k0_t1_body (F := F) i arg2 harg2 arg3 harg3 arg4 harg4 arg5 harg5 arg6 harg6 arg7 harg7)
    (fun k _ => Held c arg2 arg3 arg4 arg5 arg6 arg7 x0 x1 x2 (steps x0 x1 x2 (y, z, a) k))
    (fun k _ => by
      rw [steps_succ x0 x1 x2 (y, z, a) k]
      exact trip_step c i arg2 harg2 arg3 harg3 arg4 harg4 arg5 harg5 arg6 harg6 arg7 harg7 x0 x1 x2 _ k E)
    (kk := fun _ => pure PUnit.unit) (Q := fun _ => Held c arg2 arg3 arg4 arg5 arg6 arg7 x0 x1 x2 (steps x0 x1 x2 (y, z, a) 2))
  iintro H
  iapply h $$ [H]
  · iexact H
  iintro %_ H
  sl_step
  rw [show Scf.trips k0_t1_loop.lb k0_t1_loop.ub k0_t1_loop.st = 2 from trips_eq]
  iexact H

/-- The body at a group's start: whatever the carried rows were, they start at zero. -/
theorem body_A (hc : cond0_0 i) (x0 : Vec F S512x1024 .f32) (x1 : Vec F S1x3x512 .f32) (x2 : Vec F S1x1x512 .f32) (E : Set ℕ) :
    (iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)) : sProp 𝕄)
      ⊢ wp frame (wpE (defs₀ (F := F)) Variants.none (c : Thread nD τ) none) E
          (cc0_ffn_fwd (F := F) i arg2 harg2 arg3 harg3 arg4 harg4 arg5 harg5 arg6 harg6 arg7 harg7)
          (fun _ => Held c arg2 arg3 arg4 arg5 arg6 arg7 x0 x1 x2 (pointSt x0 x1 x2 k0_pay1)) := by
  rw [body_eq_A i arg2 harg2 arg3 harg3 arg4 harg4 arg5 harg5 arg6 harg6 arg7 harg7 hc, wp_bind]
  iintro ⟨H0, H1, H2, ⟨%y, H3⟩, ⟨%z, H4⟩, H5⟩
  iapply (wp_wand_r _ _ _)
  isplitl [H5]
  · iapply (resets_wp c arg7 E)
    iexact H5
  iintro %_ H5
  iapply (trips_wp c i arg2 harg2 arg3 harg3 arg4 harg4 arg5 harg5 arg6 harg6 arg7 harg7 x0 x1 x2 y z k0_pay1 E)
  isplitl [H0]; · iexact H0
  isplitl [H1]; · iexact H1
  isplitl [H2]; · iexact H2
  isplitl [H3]; · iexact H3
  isplitl [H4]; · iexact H4
  iexact H5

/-- The body elsewhere, from the carried rows at `a`. -/
theorem body_B (hc : ¬ cond0_0 i) (x0 : Vec F S512x1024 .f32) (x1 : Vec F S1x3x512 .f32) (x2 : Vec F S1x1x512 .f32)
    (a : Vec F S1x8x512 .f32) (E : Set ℕ) :
    (iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ owns (c : Thread nD τ) arg7 fullShare a) : sProp 𝕄)
      ⊢ wp frame (wpE (defs₀ (F := F)) Variants.none (c : Thread nD τ) none) E
          (cc0_ffn_fwd (F := F) i arg2 harg2 arg3 harg3 arg4 harg4 arg5 harg5 arg6 harg6 arg7 harg7)
          (fun _ => Held c arg2 arg3 arg4 arg5 arg6 arg7 x0 x1 x2 (pointSt x0 x1 x2 a)) := by
  rw [body_eq_B i arg2 harg2 arg3 harg3 arg4 harg4 arg5 harg5 arg6 harg6 arg7 harg7 hc]
  iintro ⟨H0, H1, H2, ⟨%y, H3⟩, ⟨%z, H4⟩, H5⟩
  iapply (trips_wp c i arg2 harg2 arg3 harg3 arg4 harg4 arg5 harg5 arg6 harg6 arg7 harg7 x0 x1 x2 y z a E)
  isplitl [H0]; · iexact H0
  isplitl [H1]; · iexact H1
  isplitl [H2]; · iexact H2
  isplitl [H3]; · iexact H3
  isplitl [H4]; · iexact H4
  iexact H5

end Body

end Cert.Kernel34Ideal.Whole

end
-- ==== Proof.FwdRun.lean ====
module

public import proofs.«01_k».proof.Proof.FwdBody
public import Idealize.ShloMosaic.Lib.Claim
public import Idealize.ShloMosaic.Lib.Pipeline.Value

/-! # The run of the forward kernel

The body's triple at every grid point, the data of the pipeline built from it, and the run of the whole program. -/

@[expose] public section

set_option maxRecDepth 16384

noncomputable section

namespace Cert.Kernel34Ideal.Whole

open Cert.Kernel34Ideal Cert.Kernel34Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- What the body leaves after grid point `n`. -/
def stAt (c : Dev nD) : (n : ℕ) → n < cfg0.N → St F
  | 0, hn => pointSt (iblk m c 0 ⟨0, hn⟩) (iblk m c 1 ⟨0, hn⟩) (iblk m c 2 ⟨0, hn⟩) k0_pay1
  | n + 1, hn => pointSt (iblk m c 0 ⟨n + 1, hn⟩) (iblk m c 1 ⟨n + 1, hn⟩) (iblk m c 2 ⟨n + 1, hn⟩)
      (if (n + 1) % 16 = 0 then k0_pay1 else (stAt c n (Nat.lt_of_succ_lt hn)).2.2)

/-- At a group's start the carried rows start at zero. -/
theorem stAt_A (c : Dev nD) (t : Fin cfg0.N) (h0 : t.val % 16 = 0) :
    stAt m c t.val t.isLt = pointSt (iblk m c 0 t) (iblk m c 1 t) (iblk m c 2 t) k0_pay1 := by
  obtain ⟨n, hn⟩ := t
  cases n with
  | zero => rfl
  | succ n => rw [stAt, if_pos h0]

/-- Elsewhere they start at what the point before left. -/
theorem stAt_B (c : Dev nD) (t : Fin cfg0.N) (h0 : ¬ t.val % 16 = 0) :
    stAt m c t.val t.isLt = pointSt (iblk m c 0 t) (iblk m c 1 t) (iblk m c 2 t)
      (stAt m c (t.val - 1) (Nat.lt_of_le_of_lt (Nat.sub_le _ _) t.isLt)).2.2 := by
  obtain ⟨n, hn⟩ := t
  cases n with
  | zero => exact absurd (Nat.zero_mod _) h0
  | succ n => rw [stAt, if_neg h0]; rfl

/-- The invariant before position `n`: at first the scratch at anything, later the carried rows at what the point before
left. -/
def phi (c : Dev nD) : (n : ℕ) → n ≤ cfg0.N → sProp 𝕄
  | 0, _ => Pipeline.ΦA spec0 c
  | n + 1, hn => iprop(owns (c : Thread nD τ) scM0_0 fullShare (stAt m c n hn).2.2 ∗ (∃ r, prngReg c r))

/-- Before a point that is not the first. -/
theorem phi_pos (c : Dev nD) (n : ℕ) (h : n ≤ cfg0.N) (hz : n ≠ 0) :
    phi m c n h = iprop(owns (c : Thread nD τ) scM0_0 fullShare (stAt m c (n - 1) (by omega)).2.2 ∗ (∃ r, prngReg c r)) := by
  cases n with
  | zero => exact absurd rfl hz
  | succ n => rfl

/-- The invariant always gives the scratch at anything. -/
theorem phi_out (c : Dev nD) (n : ℕ) (h : n ≤ cfg0.N) : phi m c n h ⊢ Pipeline.ΦA spec0 c := by
  cases n with
  | zero => exact Idealize.SL.BI.Entails.refl _
  | succ n =>
    rw [phi, PhiA0_eq]
    iintro ⟨H, Hg⟩
    isplitl [H]
    · iexists _; iexact H
    iexact Hg

/-- The pipeline's data on core `c`. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stAt m c t.val t.isLt).1
    | ⟨4, _⟩ => (stAt m c t.val t.isLt).2.1
  Φ t := phi m c t.val (Nat.le_of_lt_succ t.isLt)
  q _ := fullShare
  owed _ := 0

/-- Its arrays are the contents the region finds. -/
theorem dat_A (c : Dev nD) (w : Fin cfg0.W) : (dat m 0 c).A w = V m c (Pipeline.arrRef spec0 w) := by dsimp only [dat]

/-- What the body leaves of window 0. -/
theorem after0 (c : Dev nD) (t : Fin cfg0.N) : (dat m 0 c).after 0 t = iblk m c 0 t := by dsimp only [dat]
/-- What the body leaves of window 1. -/
theorem after1 (c : Dev nD) (t : Fin cfg0.N) : (dat m 0 c).after 1 t = iblk m c 1 t := by dsimp only [dat]
/-- What the body leaves of window 2. -/
theorem after2 (c : Dev nD) (t : Fin cfg0.N) : (dat m 0 c).after 2 t = iblk m c 2 t := by dsimp only [dat]
/-- What the body leaves of the output block. -/
theorem after3 (c : Dev nD) (t : Fin cfg0.N) : (dat m 0 c).after 3 t = (stAt m c t.val t.isLt).1 := by dsimp only [dat]
/-- What the body leaves of the saved rows. -/
theorem after4 (c : Dev nD) (t : Fin cfg0.N) : (dat m 0 c).after 4 t = (stAt m c t.val t.isLt).2.1 := by dsimp only [dat]

/-- What the body is called with at point `t`. -/
def pointPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d)))

/-- What it returns. -/
def pointPost (c : Dev nD) (t : Fin cfg0.N) : sProp 𝕄 :=
  iprop((dat m 0 c).Φ t.succ ∗ (dat m 0 c).owesAt () t.succ
    ∗ owns (c : Thread nD τ) (ms0_0 t) fullShare ((dat m 0 c).after 0 t)
    ∗ owns (c : Thread nD τ) (ms0_1 t) fullShare ((dat m 0 c).after 1 t)
    ∗ owns (c : Thread nD τ) (ms0_2 t) fullShare ((dat m 0 c).after 2 t)
    ∗ owns (c : Thread nD τ) (ms0_3 t) fullShare ((dat m 0 c).after 3 t)
    ∗ owns (c : Thread nD τ) (ms0_4 t) fullShare ((dat m 0 c).after 4 t))

/-- From the body's memrefs to what a point returns, the invariant's register and the empty debt beside them. -/
theorem held_post (c : Dev nD) (t : Fin cfg0.N) (x) (hx : x = (stAt m c t.val t.isLt)) :
    (iprop(((∃ r, prngReg c r) ∗ (dat m 0 c).owesAt () t.castSucc)
        ∗ Held c (ms0_0 t) (ms0_1 t) (ms0_2 t) (ms0_3 t) (ms0_4 t) scM0_0 (iblk m c 0 t) (iblk m c 1 t) (iblk m c 2 t) x) : sProp 𝕄)
      ⊢ pointPost m c t := by
  subst hx
  unfold pointPost Held
  rw [show (dat m 0 c).owesAt () t.succ = (dat m 0 c).owesAt () t.castSucc from rfl, after0, after1, after2, after3, after4,
    show (dat m 0 c).Φ t.succ = phi m c (t.val + 1) t.isLt from rfl, phi]
  iintro ⟨⟨Hg, Ho⟩, H0, H1, H2, H3, H4, H5⟩
  isplitl [H5 Hg]
  · isplitl [H5]; · iexact H5
    iexact Hg
  isplitl [Ho]; · iexact Ho
  isplitl [H0]; · iexact H0
  isplitl [H1]; · iexact H1
  isplitl [H2]; · iexact H2
  isplitl [H3]; · iexact H3
  iexact H4

set_option maxHeartbeats 1600000 in
/-- The body at any point. -/
theorem point_wp (c : Dev nD) (t : Fin cfg0.N) :
    pointPre m c t ⊢ wp frame (wpE (defs₀ (F := F)) Variants.none c none) Set.univ (bodyAt0 t) (fun _ => pointPost m c t) := by
  unfold pointPre bodyAt0
  simp only [before0_0_of m (dat m 0 c) (dat_A m c 0) (after0 m c) t, before0_1_of m (dat m 0 c) (dat_A m c 1) (after1 m c) t,
    before0_2_of m (dat m 0 c) (dat_A m c 2) (after2 m c) t]
  rw [show (dat m 0 c).Φ t.castSucc = phi m c t.val (Nat.le_of_lt t.isLt) from rfl]
  by_cases h0 : t.val % 16 = 0
  · refine BIBase.Entails.trans (sep_mono (phi_out m c _ _) .rfl) ?_
    rw [PhiA0_eq]
    iintro ⟨⟨HS, Hg⟩, Ho, ⟨%d0, H0⟩, ⟨%d1, H1⟩, ⟨%d2, H2⟩, ⟨%d3, H3⟩, ⟨%d4, H4⟩⟩
    iapply (wp_mono _ _ _ fun _ => held_post m c t _ (stAt_A m c t h0).symm)
    iapply (wp_frame_l _ _ _)
    isplitl [Hg Ho]
    · isplitl [Hg]; · iexact Hg
      iexact Ho
    iapply (body_A c (grid0.coords t) _ _ _ _ _ _ _ _ _ _ _ _ ((hcond0_0 t).mpr h0))
    isplitl [H0]; · iexact H0
    isplitl [H1]; · iexact H1
    isplitl [H2]; · iexact H2
    isplitl [H3]; · iexists _; iexact H3
    isplitl [H4]; · iexists _; iexact H4
    iexact HS
  · rw [phi_pos m c _ _ (fun h => h0 (by rw [h]))]
    iintro ⟨⟨HS, Hg⟩, Ho, ⟨%d0, H0⟩, ⟨%d1, H1⟩, ⟨%d2, H2⟩, ⟨%d3, H3⟩, ⟨%d4, H4⟩⟩
    iapply (wp_mono _ _ _ fun _ => held_post m c t _ (stAt_B m c t h0).symm)
    iapply (wp_frame_l _ _ _)
    isplitl [Hg Ho]
    · isplitl [Hg]; · iexact Hg
      iexact Ho
    iapply (body_B c (grid0.coords t) _ _ _ _ _ _ _ _ _ _ _ _ (fun h => h0 ((hcond0_0 t).mp h)))
    isplitl [H0]; · iexact H0
    isplitl [H1]; · iexact H1
    isplitl [H2]; · iexact H2
    isplitl [H3]; · iexists _; iexact H3
    isplitl [H4]; · iexists _; iexact H4
    iexact HS

/-- The body table's row at point `t`'s slots is the body there. -/
theorem row_eq (t : Fin cfg0.N) : defs₀ (F := F) .tc cfg0.body (cfg0.bodyArgs t (cfg0.slots t)) = bodyAt0 t := by
  unfold defs₀; rw [Defs.onTc_tc]

/-- The body's obligation at every point. -/
theorem obligation (c : Dev nD) : BodyObligation (dat (F := F) m 0 c) (defs₀ (F := F)) Variants.none () Set.univ := fun t => by
  rw [bigSep_W0, bigSep_W0, row_eq]
  exact triple_restated (point_wp m c t) rfl .rfl fun _ => .rfl

-- the library rule's implicit arguments are found by unifying its conclusion with this one
set_option backward.isDefEq.respectTransparency.types false in
/-- The run, and every counter at zero at its end. -/
theorem run_quiet : θ_run defs (onTc (τ := τ) (main (F := F))) (s₀ m ρ)
    (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (obligation m c).loose) (hshare := fun c => (dat m 0 c).share_full fun _ => rfl)
    (howed := fun _ _ => rfl) (V := V m) (hmain := hmain m Variants.none) (hA := dat_A m)
    (hin := fun c => phi_out m c 0 (Nat.zero_le _)) (hout := fun c => phi_out m c cfg0.N le_rfl)

/-- The run. -/
theorem run_main : θ_run defs (onTc (τ := τ) (main (F := F))) (s₀ m ρ) (Pipeline.FramePost cfgs (dat m) 0 (V m)) :=
  (θ_run defs _ _).mono (fun _ h => h.1) (run_quiet m ρ)

/-- THE FRAME at any values: the program terminates, its arguments end unchanged and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dat m) (dat_A m) (run_main m ρ)) ((θ_run defs _ _).mono (fun _ h => h.2) (run_quiet m ρ))

/-- The run, its result named by the pipeline's array and its arguments unchanged. -/
theorem run_arrays : θ_run defs (onTc (τ := τ) (main (F := F))) ⟨m, fun _ => 0, ρ⟩ (fun r => ∀ c : Dev nD,
      r.2.mem ((c.tc : Thread nD τ).loc main_v7_0) = (dat m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 3, h.2.1 c⟩) (θ_run_and (run_main m ρ) (frame_any m ρ))

end Cert.Kernel34Ideal.Whole

end
-- ==== Proof.FwdValue.lean ====
module

public import proofs.«01_k».proof.Defs
public import proofs.«01_k».proof.Proof.FwdRun
public import proofs.«01_k».proof.Proof.FfnSpec
public import Idealize.ShloMosaic.Lib.Pipeline.ValueKit.Point
public import Idealize.ShloMosaic.Lib.StableHlo.ReadAt

/-! # What the forward kernel computes, column by column -/

@[expose] public section

set_option maxRecDepth 16384

noncomputable section

namespace Cert.Kernel34Ideal.Whole

open Cert.Kernel34Ideal Cert.Kernel34Ideal.Gen Cert.FfnSpec
open Idealize.ShloMosaic

/-- A chunk and the rows before it are, in lane `l`, the rows of column `K` from `T` on. -/
structure Fits (gu : Vec Ideal S256x1024 .f32) (w : Vec Ideal S1x3x512 .f32) (b : Vec Ideal S1x1x512 .f32) (l : Fin 512) (K : Col) (T : ℕ) : Prop where
  /-- the gate -/
  x : ∀ r : Fin 256, gu (ix2 r ⟨l.val, by omega⟩) = K.x (T + r.val + 2)
  /-- the other factor -/
  y : ∀ r : Fin 256, gu (ix2 r ⟨512 + l.val, by omega⟩) = K.y (T + r.val)
  /-- the weights -/
  w : ∀ k : Fin 3, w (ix3 0 k l) = K.w k
  /-- the bias -/
  b : b (ix3 0 0 l) = K.b

/-- The last two carried rows are the two rows of the column before row `T`. -/
def Car (a : Vec Ideal S1x8x512 .f32) (l : Fin 512) (K : Col) (T : ℕ) : Prop :=
  a (ix3 0 6 l) = K.x T ∧ a (ix3 0 7 l) = K.x (T + 1)

variable {gu : Vec Ideal S256x1024 .f32} {w : Vec Ideal S1x3x512 .f32} {b : Vec Ideal S1x1x512 .f32} {l : Fin 512} {K : Col} {T : ℕ}
  {a : Vec Ideal S1x8x512 .f32}

/-- The chunk's rows under the 8 carried ones: from the sixth on they are the column's. -/
theorem rows (h : Fits gu w b l K T) (ha : Car a l K T) (i : ℕ) (hi : 6 ≤ i) (h264 : i < 264) :
    (if h : i < 8 then a (ix3 0 ⟨i, h⟩ l) else gu (ix2 ⟨i - 8, by omega⟩ ⟨l.val, by omega⟩)) = K.x (T + i - 6) := by
  split
  · obtain rfl | rfl : i = 6 ∨ i = 7 := by omega
    · exact ha.1
    · exact ha.2
  · rw [h.x]
    exact congrArg K.x (by dsimp only; omega)

/-- The first of four summands may be the last. -/
theorem last_first (b x y z : EReal) : ((b + x) + y) + z = ((x + y) + z) + b := by
  rw [add_assoc b x y, add_assoc b, add_comm]

/-- The convolution's value. -/
theorem z_eq (h : Fits gu w b l K T) (ha : Car a l K T) (r : Fin 256) : k0_pay9 a gu w b (ix2 r l) = K.z (T + r.val) := by
  have e0 := rows h ha ((8 + r.val + 264 - 2) % 264) (by omega) (by omega)
  have e1 := rows h ha ((8 + r.val + 264 - 1) % 264) (by omega) (by omega)
  rw [show T + (8 + r.val + 264 - 2) % 264 - 6 = T + r.val by omega] at e0
  rw [show T + (8 + r.val + 264 - 1) % 264 - 6 = T + r.val + 1 by omega] at e1
  pointwise [k0_pay9, k0_pay5, k0_pay7, k0_pay6]
  rw [e0, e1, h.x, h.w, h.w, h.w, h.b]
  unfold Col.z
  exact last_first _ _ _ _

/-- The rows a chunk leaves for the next. -/
theorem car_next (h : Fits gu w b l K T) : Car (k0_pay2 (k0_pay7 gu)) l K (T + 256) := by
  refine ⟨?_, ?_⟩
  · pointwise [k0_pay2, k0_pay7, k0_pay6]
    exact (h.x 254).trans (congrArg K.x (show T + 254 + 2 = T + 256 by omega))
  · pointwise [k0_pay2, k0_pay7, k0_pay6]
    exact (h.x 255).trans (congrArg K.x (show T + 255 + 2 = T + 256 + 1 by omega))

/-- What a chunk writes. -/
theorem act_eq (h : Fits gu w b l K T) (ha : Car a l K T) (r : Fin 256) : act gu a w b (ix2 r l) = K.p (T + r.val) := by
  have hz := z_eq h ha r
  unfold act
  pointwise [k0_pay3, k0_pay10, k0_pay8, k0_pay6]
  rw [hz, h.y]
  rfl

/-- Where the blocks of grid point `t` lie. -/
theorem idx : ∀ t : Fin cfg0.N, win0_0.index t = ![t.val % 16, t.val / 16] ∧ win0_1.index t = ![t.val / 16, 0, 0]
    ∧ win0_2.index t = ![t.val / 16, 0, 0] ∧ win0_3.index t = ![t.val % 16, t.val / 16] := by decide +kernel

/-- There are 176 grid points. -/
theorem lt_N (t : Fin cfg0.N) : t.val < 176 := lt_of_lt_of_eq t.isLt N_0

variable (m : (ℓ : Loc nD τ sig) → Buf (Elt Ideal) ℓ) (c : Dev nD)

/-- Core `c`'s argument 0: the gate. -/
abbrev arg0 : Mat 8192 5632 := m (c.tc.loc main_arg0)

/-- Core `c`'s argument 1: the other factor. -/
abbrev arg1 : Mat 8192 5632 := m (c.tc.loc main_arg1)

/-- Core `c`'s argument 2: the weights. -/
abbrev arg2 : Mat 3 5632 := m (c.tc.loc main_arg2)

/-- Core `c`'s argument 3: the bias. -/
abbrev arg3 : Mat 1 5632 := m (c.tc.loc main_arg3)

/-- The gate's lane of a group. -/
theorem host_gate (t : Fin 8192) (g : Fin 11) (l : Fin 512) :
    V m c main_v3 (ix2 t ⟨1024 * g.val + l.val, by omega⟩) = arg0 m c (ix2 t ⟨g.val * 512 + l.val, by omega⟩) := by
  entry_read
  pointwise
  rw [dif_pos (by omega)]

/-- The other factor's lane of a group. -/
theorem host_up (t : Fin 8192) (g : Fin 11) (l : Fin 512) :
    V m c main_v3 (ix2 t ⟨1024 * g.val + 512 + l.val, by omega⟩) = arg1 m c (ix2 t ⟨g.val * 512 + l.val, by omega⟩) := by
  entry_read
  pointwise
  rw [dif_neg (by omega)]

/-- The weights of a group. -/
theorem host_w (g : Fin 11) (k : Fin 3) (l : Fin 512) :
    V m c main_v5 (ix3 g k l) = arg2 m c (ix2 k ⟨g.val * 512 + l.val, by omega⟩) := by
  entry_read
  pointwise

/-- The bias of a group. -/
theorem host_b (g : Fin 11) (l : Fin 512) :
    V m c main_v6 (ix3 g 0 l) = arg3 m c (ix2 0 ⟨g.val * 512 + l.val, by omega⟩) := by
  entry_read
  pointwise

/-- The first window's block. -/
theorem blk0 (t : Fin cfg0.N) (r : Fin 512) (q : Fin 1024) :
    iblk m c 0 t (ix2 r q) = V m c main_v3 (ix2 ⟨512 * (t.val % 16) + r.val, by omega⟩
      ⟨1024 * (t.val / 16) + q.val, by have := lt_N t; omega⟩) := by
  obtain ⟨h, -⟩ := idx t
  blk_ext [iblk, h]

/-- The second window's block. -/
theorem blk1 (t : Fin cfg0.N) (k : Fin 3) (l : Fin 512) :
    iblk m c 1 t (ix3 0 k l) = V m c main_v5 (ix3 ⟨t.val / 16, by have := lt_N t; omega⟩ k l) := by
  obtain ⟨-, h, -⟩ := idx t
  blk_ext [iblk, h]

/-- The third window's block. -/
theorem blk2 (t : Fin cfg0.N) (l : Fin 512) :
    iblk m c 2 t (ix3 0 0 l) = V m c main_v6 (ix3 ⟨t.val / 16, by have := lt_N t; omega⟩ 0 l) := by
  obtain ⟨-, -, h, -⟩ := idx t
  blk_ext [iblk, h]

/-- A window's block of 256 rows of a block of 512 rows. -/
theorem rows_of (x : Vec Ideal S512x1024 .f32) (k : Fin k0_t1_loop.trips) (r : Fin 256) (q : Fin 1024) :
    rowsOf x k (ix2 r q) = x (ix2 ⟨256 * k.val + r.val, by have := lt_of_lt_of_eq k.isLt trips_eq; omega⟩ q) := by
  refine congrArg x (funext fun a => Fin.ext ?_)
  have h := k0_off1_eq k
  fin_cases a
  · show k0_off1 k 0 + 1 * r.val = _
    rw [h]; simp
  · show k0_off1 k 1 + 1 * q.val = _
    rw [h]; simp

/-- The columns of grid point `t`. -/
def colAt (t : Fin cfg0.N) (l : Fin 512) : Col :=
  colOf (arg0 m c) (arg1 m c) (arg2 m c) (arg3 m c) (arg1 m c) ⟨t.val / 16 * 512 + l.val, by have := lt_N t; omega⟩

/-- A trip works on the rows it should. -/
theorem fits (t : Fin cfg0.N) (k : Fin k0_t1_loop.trips) (l : Fin 512) :
    Fits (rowsOf (iblk m c 0 t) k) (iblk m c 1 t) (iblk m c 2 t) l (colAt m c t l) (512 * (t.val % 16) + 256 * k.val) where
  x r := by
    have ht := lt_N t
    have hk : k.val < 2 := lt_of_lt_of_eq k.isLt trips_eq
    refine (rows_of (iblk m c 0 t) k r _).trans ((blk0 m c t _ _).trans ((host_gate m c _ ⟨t.val / 16, by omega⟩ l).trans ?_))
    exact entry_pad (arg0 m c) _ _ (512 * (t.val % 16) + 256 * k.val + r.val + 2) (by dsimp only; omega)
  y r := by
    have ht := lt_N t
    have hk : k.val < 2 := lt_of_lt_of_eq k.isLt trips_eq
    refine (rows_of (iblk m c 0 t) k r _).trans ((blk0 m c t _ _).trans ?_)
    have e : (⟨1024 * (t.val / 16) + (512 + l.val), by omega⟩ : Fin 11264) = ⟨1024 * (t.val / 16) + 512 + l.val, by omega⟩ :=
      Fin.ext (Nat.add_assoc _ _ _).symm
    refine (congrArg (fun z : Fin 11264 => V m c main_v3 (ix2 _ z)) e).trans ((host_up m c _ ⟨t.val / 16, by omega⟩ l).trans ?_)
    exact entry_at (arg1 m c) _ _ (512 * (t.val % 16) + 256 * k.val + r.val) (by dsimp only; omega)
  w k := (blk1 m c t k l).trans (host_w m c _ k l)
  b := (blk2 m c t l).trans (host_b m c _ l)

/-- A row of the part just written. -/
theorem put_in (x : Vec Ideal S512x512 .bf16) (k : Fin k0_t1_loop.trips) (w : Vec Ideal S256x512 .bf16) (r : Fin 256) (q : Fin 512)
    (R : Fin 512) (hR : R.val = 256 * k.val + r.val) :
    VecWindow.put x (k0_off2 k) S256x512.size w (ix2 R q) = w (ix2 r q) := by
  have e := k0_off2_eq k
  have h : ∀ a, k0_off2 k a ≤ ((ix2 R q : S512x512.Idx) a).val ∧ ((ix2 R q : S512x512.Idx) a).val < k0_off2 k a + S256x512.size a := by
    rw [e]
    refine Fin.forall_fin_two.2 ⟨?_, ?_⟩
    · show 256 * k.val ≤ R.val ∧ R.val < 256 * k.val + 256
      omega
    · show 0 ≤ q.val ∧ q.val < 0 + 512
      omega
  unfold VecWindow.put
  refine (dif_pos h).trans (congrArg w (funext fun a => Fin.ext ?_))
  revert a
  refine Fin.forall_fin_two.2 ⟨?_, ?_⟩
  · show R.val - k0_off2 k 0 = r.val
    rw [e]
    show R.val - 256 * k.val = r.val
    omega
  · show q.val - k0_off2 k 1 = q.val
    rw [e]
    show q.val - 0 = q.val
    omega

/-- A row of the rest. -/
theorem put_out (x : Vec Ideal S512x512 .bf16) (k : Fin k0_t1_loop.trips) (w : Vec Ideal S256x512 .bf16) (q : Fin 512)
    (R : Fin 512) (hR : R.val < 256 * k.val) : VecWindow.put x (k0_off2 k) S256x512.size w (ix2 R q) = x (ix2 R q) := by
  have e := k0_off2_eq k
  unfold VecWindow.put
  refine dif_neg fun h => ?_
  have h0 := h 0
  rw [e] at h0
  have h0' : 256 * k.val ≤ R.val ∧ R.val < 256 * k.val + 256 := h0
  omega

/-- What a trip leaves in the carried rows. -/
theorem car_step (t : Fin cfg0.N) (k : Fin k0_t1_loop.trips) (s : St Ideal) (l : Fin 512) :
    Car (stepAt (iblk m c 0 t) (iblk m c 1 t) (iblk m c 2 t) k s).2.2 l (colAt m c t l) (512 * (t.val % 16) + 256 * k.val + 256) :=
  car_next (fits m c t k l)

/-- What it writes. -/
theorem out_step (t : Fin cfg0.N) (k : Fin k0_t1_loop.trips) (s : St Ideal) (l : Fin 512)
    (h : Car s.2.2 l (colAt m c t l) (512 * (t.val % 16) + 256 * k.val)) (r : Fin 256) (R : Fin 512) (hR : R.val = 256 * k.val + r.val) :
    (stepAt (iblk m c 0 t) (iblk m c 1 t) (iblk m c 2 t) k s).1 (ix2 R l) = (colAt m c t l).p (512 * (t.val % 16) + 256 * k.val + r.val) :=
  (put_in s.1 k _ r l R hR).trans (act_eq (fits m c t k l) h r)

/-- What it leaves as it was. -/
theorem out_keep (t : Fin cfg0.N) (k : Fin k0_t1_loop.trips) (s : St Ideal) (l : Fin 512) (R : Fin 512) (hR : R.val < 256 * k.val) :
    (stepAt (iblk m c 0 t) (iblk m c 1 t) (iblk m c 2 t) k s).1 (ix2 R l) = s.1 (ix2 R l) := put_out s.1 k _ l R hR

/-- One grid point. -/
theorem point_inv (t : Fin cfg0.N) (a) (h : ∀ l, Car a l (colAt m c t l) (512 * (t.val % 16))) :
    (∀ l, Car (pointSt (iblk m c 0 t) (iblk m c 1 t) (iblk m c 2 t) a).2.2 l (colAt m c t l) (512 * (t.val % 16) + 512))
    ∧ ∀ R l : Fin 512, (pointSt (iblk m c 0 t) (iblk m c 1 t) (iblk m c 2 t) a).1 (ix2 R l) = (colAt m c t l).p (512 * (t.val % 16) + R.val) := by
  unfold pointSt
  rw [steps_two]
  generalize hs : ((fun _ => Scalar.ofBits (F := Ideal) .bf16 0x0000#16, fun _ => Scalar.ofBits (F := Ideal) .f32 0x00000000#32, a) : St Ideal) = s
  have hc : s.2.2 = a := by rw [← hs]
  refine ⟨fun l => car_step m c t ⟨1, by rw [trips_eq]; omega⟩ _ l, fun R l => ?_⟩
  have h0 : Car s.2.2 l (colAt m c t l) (512 * (t.val % 16) + 256 * 0) := by rw [hc]; exact h l
  by_cases hR : R.val < 256
  · refine (out_keep m c t ⟨1, by rw [trips_eq]; omega⟩ _ l R (by dsimp only; omega)).trans ?_
    refine (out_step m c t ⟨0, by rw [trips_eq]; omega⟩ s l h0 ⟨R.val, hR⟩ R (by dsimp only; omega)).trans ?_
    exact congrArg (colAt m c t l).p (by dsimp only; omega)
  · refine (out_step m c t ⟨1, by rw [trips_eq]; omega⟩ _ l (car_step m c t ⟨0, by rw [trips_eq]; omega⟩ s l)
      ⟨R.val - 256, by omega⟩ R (by dsimp only; omega)).trans ?_
    exact congrArg (colAt m c t l).p (by dsimp only; omega)

/-- Two points of one group have the same columns. -/
theorem colAt_pred (t u : Fin cfg0.N) (h : u.val / 16 = t.val / 16) : colAt m c u = colAt m c t := by
  funext l
  unfold colAt
  exact congrArg (colOf _ _ _ _ _) (Fin.ext (by dsimp only; rw [h]))

/-- At a group's start the carried rows are the two rows of zeros. -/
theorem car_zero (t : Fin cfg0.N) (l : Fin 512) : Car (k0_pay1 (F := Ideal)) l (colAt m c t l) 0 := by
  have e0 : (colAt m c t l).x 0 = 0 := by
    unfold colAt colOf
    rfl
  have e1 : (colAt m c t l).x (0 + 1) = 0 := by
    unfold colAt colOf
    rfl
  refine ⟨Eq.trans ?_ e0.symm, Eq.trans ?_ e1.symm⟩
  · pointwise [k0_pay1]
  · pointwise [k0_pay1]

/-- Every grid point. -/
theorem all_points (n : ℕ) (hn : n < cfg0.N) :
    (∀ l, Car (stAt m c n hn).2.2 l (colAt m c ⟨n, hn⟩ l) (512 * (n % 16) + 512))
    ∧ ∀ R l : Fin 512, (stAt m c n hn).1 (ix2 R l) = (colAt m c ⟨n, hn⟩ l).p (512 * (n % 16) + R.val) := by
  induction n using Nat.strong_induction_on with
  | _ n ih =>
    by_cases h0 : n % 16 = 0
    · rw [stAt_A m c ⟨n, hn⟩ h0]
      refine point_inv m c ⟨n, hn⟩ (k0_pay1 (F := Ideal)) fun l => ?_
      have e : 512 * ((⟨n, hn⟩ : Fin cfg0.N).val % 16) = 0 := by dsimp only; omega
      rw [e]
      exact car_zero m c _ l
    · rw [stAt_B m c ⟨n, hn⟩ h0]
      refine point_inv m c ⟨n, hn⟩ _ fun l => ?_
      have h := (ih (n - 1) (by omega) (by omega)).1 l
      rw [colAt_pred m c ⟨n, hn⟩ ⟨n - 1, by omega⟩ (by dsimp only; omega)] at h
      rw [show 512 * ((⟨n, hn⟩ : Fin cfg0.N).val % 16) = 512 * ((n - 1) % 16) + 512 by dsimp only; omega]
      exact h

/-- The result, after the run. -/
theorem arr3 : (dat m 0 c).arrAt 3 cfg0.N
    = fun i => (colOf (arg0 m c) (arg1 m c) (arg2 m c) (arg3 m c) (arg1 m c) (i 1)).p (i 0).val := by
  refine (dat m 0 c).arrAt_eq_of_covers 3 _ (by decide +kernel) fun t hf y => ?_
  have ht := lt_N t
  obtain ⟨-, -, -, h3⟩ := idx t
  rw [after3]
  obtain ⟨R, Q, rfl⟩ : ∃ (R : Fin 512) (Q : Fin 512), y = ix2 R Q := ⟨y 0, y 1, by funext a; fin_cases a <;> rfl⟩
  have e : ((cfg0.win 3).blk t).view.emb (ix2 R Q) = ix2 ⟨512 * (t.val % 16) + R.val, by omega⟩ ⟨t.val / 16 * 512 + Q.val, by omega⟩ := by
    blk_ext [h3]
  rw [e]
  exact (all_points m c t.val t.isLt).2 R Q

end Cert.Kernel34Ideal.Whole

end
-- ==== Proof.FwdClaim.lean ====
module

public import proofs.«01_k».proof.Defs
public import proofs.«01_k».proof.Proof.Gen.Kernel34
public import proofs.«01_k».proof.Proof.Gen.Reference34Ideal.Read
public import proofs.«01_k».proof.Proof.FwdValue

/-! # The claims about the convolution and its unit, forward -/

@[expose] public section

set_option maxRecDepth 16384

noncomputable section

namespace Cert.Kernel34Ideal.Whole

open Idealize.ShloMosaic Idealize.SL.Sem Cert.FfnSpec Cert.Reference34Ideal.Read

section Reference

open Cert.Reference34Ideal

variable (x0 x1 : Mat 8192 5632) (x2 : Mat 3 5632) (x3 : Mat 1 5632)

/-- The gate under two rows of zeros. -/
theorem ref_x (t : Fin 8194) (q : Fin 5632) : val_main_v1 (F := Ideal) x0 (ix2 t q) = (colOf x0 x1 x2 x3 x1 q).x t.val := by
  unfold val_main_v1 colOf at'
  pointwise [val_main_v0, val_main_cst]
  by_cases h : t.val < 2
  · rw [dif_pos h, if_pos h]
  · rw [dif_neg h, if_neg h, dif_pos (by omega)]

/-- The convolution's value. -/
theorem ref_z (t : Fin 8192) (q : Fin 5632) : val_main_v17 (F := Ideal) x0 x2 x3 (ix2 t q) = (colOf x0 x1 x2 x3 x1 q).z t.val := by
  unfold Col.z
  rw [Nat.add_comm t.val 1, Nat.add_comm t.val 2, ← ref_x x0 x1 x2 x3 ⟨t.val, by omega⟩ q, ← ref_x x0 x1 x2 x3 ⟨1 + t.val, by omega⟩ q,
    ← ref_x x0 x1 x2 x3 ⟨2 + t.val, by omega⟩ q]
  unfold colOf
  pointwise [val_main_v2, val_main_v3, val_main_v4, val_main_v5, val_main_v6, val_main_v7, val_main_v8, val_main_v9, val_main_v10, val_main_v11,
    val_main_v12, val_main_v13, val_main_v14, val_main_v15, val_main_v16, val_main_v17]

/-- The result. -/
theorem ref_act : val_main_v32 (F := Ideal) x0 x1 x2 x3 = fun i => (colOf x0 x1 x2 x3 x1 (i 1)).p (i 0).val := by
  funext i
  obtain ⟨t, q, rfl⟩ : ∃ (t : Fin 8192) (q : Fin 5632), i = ix2 t q := ⟨i 0, i 1, by funext a; fin_cases a <;> rfl⟩
  show _ = (colOf x0 x1 x2 x3 x1 q).p t.val
  unfold Col.p
  rw [← ref_z x0 x1 x2 x3 t q]
  unfold half th colOf
  dsimp only
  rw [← entry_at x1 q t t.val rfl]
  pointwise [val_main_v18, val_main_v19, val_main_v20, val_main_v21, val_main_v22, val_main_v23, val_main_v24, val_main_v25, val_main_v26,
    val_main_v27, val_main_v28, val_main_v29, val_main_v30, val_main_v31, val_main_v32, val_main_cst_0, val_main_cst_1, val_main_cst_2,
    val_main_cst_3]
  simp only [mul_comm, mul_left_comm]

/-- The reference ends, its arguments unchanged and its counters at zero. -/
theorem frame_ref : Cert.quiescent_Reference34Ideal := fun m ρ _ =>
  (θ_run _ _ _).mono (fun r h => ⟨fun c => (h c).2, sem_eq_zero_of_no_sems (by decide) r.2⟩) (Cert.Reference34Ideal.Value.run (F := Ideal) m ρ)

end Reference

/-- The idealized kernel ends, its arguments unchanged and its counters at zero. -/
theorem frame_ideal : Cert.quiescent_Kernel34Ideal := fun m ρ _ => frame_any (F := Ideal) m ρ

/-- The two kernels' body tables are the same. -/
theorem bodies_eq : @Cert.Kernel34.defs₀ Bits _ Cert.Kernel34.Gen.facts = @Cert.Kernel34Ideal.defs₀ Bits _ Cert.Kernel34Ideal.Gen.facts := by
  unfold Cert.Kernel34.defs₀ Cert.Kernel34Ideal.defs₀
  refine congrArg Defs.onTc (funext fun l => funext fun a => ?_)
  obtain ⟨l, hl⟩ := l
  rcases l with _ | l
  · obtain ⟨t, s⟩ := a
    rfl
  · exact absurd hl (Nat.not_lt.2 (Nat.le_add_left _ _))

/-- So are the tables with the pipeline's own bodies added. -/
theorem defs_eq : @Cert.Kernel34.defs Bits _ Cert.Kernel34.Gen.facts = @Cert.Kernel34Ideal.defs Bits _ Cert.Kernel34Ideal.Gen.facts :=
  congrArg (Pipeline.defs (Cert.Kernel34.pcfgs (F := Bits))) bodies_eq

/-- So does the kernel: the two programs have the same text. -/
theorem frame_bits : Cert.quiescent_Kernel34 := by
  intro m ρ _
  rw [defs_eq]
  exact frame_any (F := Bits) m ρ

/-- The two end with the same result. -/
theorem value : Cert.algebraic_Kernel34Ideal_Reference34Ideal := by
  intro m ρ m' ρ' _ hargs
  refine ⟨_, (θ_run _ _ _).mono (fun _ h c => ⟨(h c).1.trans (arr3 m c), (h c).2⟩) (run_arrays (F := Ideal) m ρ),
    (θ_run _ _ _).mono (fun _ h c => ⟨(h c).1.trans ?_, (h c).2⟩) (Cert.Reference34Ideal.Value.run (F := Ideal) m' ρ')⟩
  obtain ⟨e0, e1, e2, e3⟩ := hargs c
  refine (val_main_v32_eq m' c).trans ((ref_act _ _ _ _).trans ?_)
  rw [e0, e1, e2, e3]
  rfl

end Cert.Kernel34Ideal.Whole

end
-- ==== Proof.lean ====
/- The claims, put together. -/
module

public import proofs.«01_k».proof.Defs
public import proofs.«01_k».proof.Proof.FfnClaim
public import proofs.«01_k».proof.Proof.Gen.Kernel2.Frame
public import proofs.«01_k».proof.Proof.Prod2
public import proofs.«01_k».proof.Proof.Gen.Kernel3.Frame
public import proofs.«01_k».proof.Proof.Prod3
public import proofs.«01_k».proof.Proof.Gen.Kernel4.Frame
public import proofs.«01_k».proof.Proof.Prod4
public import proofs.«01_k».proof.Proof.Gen.Kernel5.Frame
public import proofs.«01_k».proof.Proof.Prod5
public import proofs.«01_k».proof.Proof.Gen.Kernel6.Frame
public import proofs.«01_k».proof.Proof.Prod6
public import proofs.«01_k».proof.Proof.Gen.Kernel7.Frame
public import proofs.«01_k».proof.Proof.Prod7
public import proofs.«01_k».proof.Proof.Gen.Kernel8.Frame
public import proofs.«01_k».proof.Proof.Prod8
public import proofs.«01_k».proof.Proof.Gen.Kernel9.Frame
public import proofs.«01_k».proof.Proof.Prod9
public import proofs.«01_k».proof.Proof.Gen.Kernel10.Frame
public import proofs.«01_k».proof.Proof.Prod10
public import proofs.«01_k».proof.Proof.Gen.Kernel11.Frame
public import proofs.«01_k».proof.Proof.Prod11
public import proofs.«01_k».proof.Proof.Gen.Kernel12.Frame
public import proofs.«01_k».proof.Proof.Prod12
public import proofs.«01_k».proof.Proof.Gen.Kernel13.Frame
public import proofs.«01_k».proof.Proof.Prod13
public import proofs.«01_k».proof.Proof.Gen.Kernel14.Frame
public import proofs.«01_k».proof.Proof.Prod14
public import proofs.«01_k».proof.Proof.Gen.Kernel15.Frame
public import proofs.«01_k».proof.Proof.MixBwd
public import proofs.«01_k».proof.Proof.Gen.Kernel16.Frame
public import proofs.«01_k».proof.Proof.PreBwd
public import proofs.«01_k».proof.Proof.Gen.Kernel17.Frame
public import proofs.«01_k».proof.Proof.PostBwd
public import proofs.«01_k».proof.Proof.Gen.Kernel18.Frame
public import proofs.«01_k».proof.Proof.LossHead
public import proofs.«01_k».proof.Proof.Gen.Kernel19.Frame
public import proofs.«01_k».proof.Proof.Adam
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Sum25
public import proofs.«01_k».proof.Proof.Gen.Kernel26.Frame
public import proofs.«01_k».proof.Proof.Sum26
public import proofs.«01_k».proof.Proof.Gen.Kernel27.Frame
public import proofs.«01_k».proof.Proof.Sum27
public import proofs.«01_k».proof.Proof.Gen.Kernel28.Frame
public import proofs.«01_k».proof.Proof.Sum28
public import proofs.«01_k».proof.Proof.Gen.Kernel29.Frame
public import proofs.«01_k».proof.Proof.Sum29
public import proofs.«01_k».proof.Proof.Gen.Kernel30.Frame
public import proofs.«01_k».proof.Proof.Sum30
public import proofs.«01_k».proof.Proof.Gen.Kernel31.Frame
public import proofs.«01_k».proof.Proof.PreFwd
public import proofs.«01_k».proof.Proof.Gen.Kernel32.Frame
public import proofs.«01_k».proof.Proof.MixFwd
public import proofs.«01_k».proof.Proof.Gen.Kernel33.Frame
public import proofs.«01_k».proof.Proof.PostFwd
public import proofs.«01_k».proof.Proof.FwdClaim

@[expose] public section

noncomputable section

namespace Cert.Proof

open Idealize.ShloMosaic Idealize.SL.Sem

/-- All the claims. -/
theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts, Cert.Kernel11.Gen.facts,
  Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts,
  Cert.Kernel14.Gen.facts, Cert.Kernel14Ideal.Gen.facts, Cert.Reference14Ideal.Gen.facts, Cert.Kernel15.Gen.facts,
  Cert.Kernel15Ideal.Gen.facts, Cert.Reference15Ideal.Gen.facts, Cert.Kernel16.Gen.facts, Cert.Kernel16Ideal.Gen.facts,
  Cert.Reference16Ideal.Gen.facts, Cert.Kernel17.Gen.facts, Cert.Kernel17Ideal.Gen.facts, Cert.Reference17Ideal.Gen.facts,
  Cert.Kernel18.Gen.facts, Cert.Kernel18Ideal.Gen.facts, Cert.Reference18Ideal.Gen.facts, Cert.Kernel19.Gen.facts,
  Cert.Kernel19Ideal.Gen.facts, Cert.Reference19Ideal.Gen.facts, Cert.Kernel20.Gen.facts, Cert.Kernel20Ideal.Gen.facts,
  Cert.Reference20Ideal.Gen.facts, Cert.Kernel21.Gen.facts, Cert.Kernel21Ideal.Gen.facts, Cert.Reference21Ideal.Gen.facts,
  Cert.Kernel22.Gen.facts, Cert.Kernel22Ideal.Gen.facts, Cert.Reference22Ideal.Gen.facts, Cert.Kernel23.Gen.facts,
  Cert.Kernel23Ideal.Gen.facts, Cert.Reference23Ideal.Gen.facts, Cert.Kernel24.Gen.facts, Cert.Kernel24Ideal.Gen.facts,
  Cert.Reference24Ideal.Gen.facts, Cert.Kernel25.Gen.facts, Cert.Kernel25Ideal.Gen.facts, Cert.Reference25Ideal.Gen.facts,
  Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts,
  Cert.Kernel30.Gen.facts, Cert.Kernel30Ideal.Gen.facts, Cert.Reference30Ideal.Gen.facts, Cert.Kernel31.Gen.facts,
  Cert.Kernel31Ideal.Gen.facts, Cert.Reference31Ideal.Gen.facts, Cert.Kernel32.Gen.facts, Cert.Kernel32Ideal.Gen.facts,
  Cert.Reference32Ideal.Gen.facts, Cert.Kernel33.Gen.facts, Cert.Kernel33Ideal.Gen.facts, Cert.Reference33Ideal.Gen.facts,
  Cert.Kernel34.Gen.facts, Cert.Kernel34Ideal.Gen.facts, Cert.Reference34Ideal.Gen.facts,
  Ffn.frame_bits, Ffn.frame_ideal, Ffn.frame_ref,
  Prod2.frame_bits, Prod2.frame_ideal, Prod2.frame_ref,
  Prod3.frame_bits, Prod3.frame_ideal, Prod3.frame_ref,
  Prod4.frame_bits, Prod4.frame_ideal, Prod4.frame_ref,
  Prod5.frame_bits, Prod5.frame_ideal, Prod5.frame_ref,
  Prod6.frame_bits, Prod6.frame_ideal, Prod6.frame_ref,
  Prod7.frame_bits, Prod7.frame_ideal, Prod7.frame_ref,
  Prod8.frame_bits, Prod8.frame_ideal, Prod8.frame_ref,
  Prod9.frame_bits, Prod9.frame_ideal, Prod9.frame_ref,
  Prod10.frame_bits, Prod10.frame_ideal, Prod10.frame_ref,
  Prod11.frame_bits, Prod11.frame_ideal, Prod11.frame_ref,
  Prod12.frame_bits, Prod12.frame_ideal, Prod12.frame_ref,
  Prod13.frame_bits, Prod13.frame_ideal, Prod13.frame_ref,
  Prod14.frame_bits, Prod14.frame_ideal, Prod14.frame_ref,
  fun m ρ _ => Cert.Kernel15.Gen.frame m ρ, fun m ρ _ => Cert.Kernel15Ideal.Gen.frame m ρ, Cert.Kernel15Ideal.Whole.frame_ref,
  fun m ρ _ => Cert.Kernel16.Gen.frame m ρ, fun m ρ _ => Cert.Kernel16Ideal.Gen.frame m ρ, Cert.Kernel16Ideal.Whole.frame_ref,
  fun m ρ _ => Cert.Kernel17.Gen.frame m ρ, fun m ρ _ => Cert.Kernel17Ideal.Gen.frame m ρ, Cert.Kernel17Ideal.Whole.frame_ref,
  fun m ρ _ => Cert.Kernel18.Gen.frame m ρ, fun m ρ _ => Cert.Kernel18Ideal.Gen.frame m ρ, Cert.Kernel18Ideal.Whole.frame_ref,
  fun m ρ _ => Cert.Kernel19.Gen.frame m ρ, fun m ρ _ => Cert.Kernel19Ideal.Gen.frame m ρ, Adam.frame_ref19,
  fun m ρ _ => Cert.Kernel20.Gen.frame m ρ, fun m ρ _ => Cert.Kernel20Ideal.Gen.frame m ρ, Adam.frame_ref20,
  fun m ρ _ => Cert.Kernel21.Gen.frame m ρ, fun m ρ _ => Cert.Kernel21Ideal.Gen.frame m ρ, Adam.frame_ref21,
  fun m ρ _ => Cert.Kernel22.Gen.frame m ρ, fun m ρ _ => Cert.Kernel22Ideal.Gen.frame m ρ, Adam.frame_ref22,
  fun m ρ _ => Cert.Kernel23.Gen.frame m ρ, fun m ρ _ => Cert.Kernel23Ideal.Gen.frame m ρ, Adam.frame_ref23,
  fun m ρ _ => Cert.Kernel24.Gen.frame m ρ, fun m ρ _ => Cert.Kernel24Ideal.Gen.frame m ρ, Adam.frame_ref24,
  fun m ρ _ => Cert.Kernel25.Gen.frame m ρ, fun m ρ _ => Cert.Kernel25Ideal.Gen.frame m ρ, Cert.Kernel25Ideal.Whole.frame_ref,
  fun m ρ _ => Cert.Kernel26.Gen.frame m ρ, fun m ρ _ => Cert.Kernel26Ideal.Gen.frame m ρ, Cert.Kernel26Ideal.Whole.frame_ref,
  fun m ρ _ => Cert.Kernel27.Gen.frame m ρ, fun m ρ _ => Cert.Kernel27Ideal.Gen.frame m ρ, Cert.Kernel27Ideal.Whole.frame_ref,
  fun m ρ _ => Cert.Kernel28.Gen.frame m ρ, fun m ρ _ => Cert.Kernel28Ideal.Gen.frame m ρ, Cert.Kernel28Ideal.Whole.frame_ref,
  fun m ρ _ => Cert.Kernel29.Gen.frame m ρ, fun m ρ _ => Cert.Kernel29Ideal.Gen.frame m ρ, Cert.Kernel29Ideal.Whole.frame_ref,
  fun m ρ _ => Cert.Kernel30.Gen.frame m ρ, fun m ρ _ => Cert.Kernel30Ideal.Gen.frame m ρ, Cert.Kernel30Ideal.Whole.frame_ref,
  fun m ρ _ => Cert.Kernel31.Gen.frame m ρ, fun m ρ _ => Cert.Kernel31Ideal.Gen.frame m ρ, Cert.Kernel31Ideal.Whole.frame_ref,
  fun m ρ _ => Cert.Kernel32.Gen.frame m ρ, fun m ρ _ => Cert.Kernel32Ideal.Gen.frame m ρ, Cert.Kernel32Ideal.Whole.frame_ref,
  fun m ρ _ => Cert.Kernel33.Gen.frame m ρ, fun m ρ _ => Cert.Kernel33Ideal.Gen.frame m ρ, Cert.Kernel33Ideal.Whole.frame_ref,
  Cert.Kernel34Ideal.Whole.frame_bits, Cert.Kernel34Ideal.Whole.frame_ideal, Cert.Kernel34Ideal.Whole.frame_ref,
  trivial, Ffn.value,
  trivial, Prod2.value,
  trivial, Prod3.value,
  trivial, Prod4.value,
  trivial, Prod5.value,
  trivial, Prod6.value,
  trivial, Prod7.value,
  trivial, Prod8.value,
  trivial, Prod9.value,
  trivial, Prod10.value,
  trivial, Prod11.value,
  trivial, Prod12.value,
  trivial, Prod13.value,
  trivial, Prod14.value,
  trivial, Cert.Kernel15Ideal.Whole.value,
  trivial, Cert.Kernel16Ideal.Whole.value,
  trivial, Cert.Kernel17Ideal.Whole.value,
  trivial, Cert.Kernel18Ideal.Whole.value,
  trivial, Adam.value19,
  trivial, Adam.value20,
  trivial, Adam.value21,
  trivial, Adam.value22,
  trivial, Adam.value23,
  trivial, Adam.value24,
  trivial, Cert.Kernel25Ideal.Whole.value,
  trivial, Cert.Kernel26Ideal.Whole.value,
  trivial, Cert.Kernel27Ideal.Whole.value,
  trivial, Cert.Kernel28Ideal.Whole.value,
  trivial, Cert.Kernel29Ideal.Whole.value,
  trivial, Cert.Kernel30Ideal.Whole.value,
  trivial, Cert.Kernel31Ideal.Whole.value,
  trivial, Cert.Kernel32Ideal.Whole.value,
  trivial, Cert.Kernel33Ideal.Whole.value,
  trivial, Cert.Kernel34Ideal.Whole.value⟩

end Cert.Proof

end
